-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128x4096 : Shape := ⟨3, ![128, 128, 4096]⟩
abbrev S128 : Shape := ⟨1, ![128]⟩
abbrev S128x10 : Shape := ⟨2, ![128, 10]⟩
abbrev S128x2 : Shape := ⟨2, ![128, 2]⟩
abbrev S_ : Shape := ⟨0, ![]⟩
abbrev S128x1 : Shape := ⟨2, ![128, 1]⟩
abbrev S4x128x4096 : Shape := ⟨3, ![4, 128, 4096]⟩
abbrev S2x4x128x4096 : Shape := ⟨4, ![2, 4, 128, 4096]⟩
abbrev S2x4x16 : Shape := ⟨3, ![2, 4, 16]⟩
abbrev S1x1 : Shape := ⟨2, ![1, 1]⟩
abbrev S1x1x1 : Shape := ⟨3, ![1, 1, 1]⟩
abbrev S1x1x8x4096 : Shape := ⟨4, ![1, 1, 8, 4096]⟩
abbrev S8x4096 : Shape := ⟨2, ![8, 4096]⟩
abbrev S1x8x4096 : Shape := ⟨3, ![1, 8, 4096]⟩
abbrev S1x128x1 : Shape := ⟨3, ![1, 128, 1]⟩
abbrev S1x1x4096 : Shape := ⟨3, ![1, 1, 4096]⟩
abbrev S4x128x1 : Shape := ⟨3, ![4, 128, 1]⟩
abbrev S1 : Shape := ⟨1, ![1]⟩
abbrev S4 : Shape := ⟨1, ![4]⟩
abbrev S4x1x1 : Shape := ⟨3, ![4, 1, 1]⟩
abbrev S4x1x4096 : Shape := ⟨3, ![4, 1, 4096]⟩
abbrev S1x4x128x4096 : Shape := ⟨4, ![1, 4, 128, 4096]⟩

abbrev nBuf : Space → Nat
  | .hbm => 263
  | .vmem => 3
  | .smem => 4
  | _ => 0

abbrev hbmTy0_0 (i : Nat) : BufTy := match i % 128 with
  | 0 => ⟨S128x128x4096, .f32⟩
  | 1 => ⟨S128, .i32⟩
  | 2 => ⟨S128x10, .i32⟩
  | 3 => ⟨S128x10, .i32⟩
  | 4 => ⟨S128x10, .i32⟩
  | 5 => ⟨S128x10, .i32⟩
  | 6 => ⟨S128, .f32⟩
  | 7 => ⟨S_, .f32⟩
  | 8 => ⟨S128, .f32⟩
  | 9 => ⟨S128, .f32⟩
  | 10 => ⟨S128, .i32⟩
  | 11 => ⟨S_, .i32⟩
  | 12 => ⟨S128, .i32⟩
  | 13 => ⟨S128, .i32⟩
  | 14 => ⟨S128, .i32⟩
  | 15 => ⟨S_, .i32⟩
  | 16 => ⟨S128, .i32⟩
  | 17 => ⟨S128, .i32⟩
  | 18 => ⟨S_, .i32⟩
  | 19 => ⟨S128, .i32⟩
  | 20 => ⟨S128, .i32⟩
  | 21 => ⟨S128x1, .i32⟩
  | 22 => ⟨S128x1, .i32⟩
  | 23 => ⟨S_, .i32⟩
  | 24 => ⟨S_, .i32⟩
  | 25 => ⟨S128x1, .i32⟩
  | 26 => ⟨S128x1, .i1⟩
  | 27 => ⟨S_, .i32⟩
  | 28 => ⟨S128x1, .i32⟩
  | 29 => ⟨S128x1, .i32⟩
  | 30 => ⟨S128x1, .i32⟩
  | 31 => ⟨S128x1, .i32⟩
  | 32 => ⟨S_, .i32⟩
  | 33 => ⟨S128x1, .i32⟩
  | 34 => ⟨S128x1, .i1⟩
  | 35 => ⟨S_, .i32⟩
  | 36 => ⟨S128x1, .i32⟩
  | 37 => ⟨S128x1, .i1⟩
  | 38 => ⟨S_, .i32⟩
  | 39 => ⟨S128x1, .i32⟩
  | 40 => ⟨S128x1, .i1⟩
  | 41 => ⟨S128x1, .i1⟩
  | 42 => ⟨S128x1, .i1⟩
  | 43 => ⟨S128x1, .i32⟩
  | 44 => ⟨S128x1, .i32⟩
  | 45 => ⟨S128x1, .i32⟩
  | 46 => ⟨S_, .i32⟩
  | 47 => ⟨S128x1, .i32⟩
  | 48 => ⟨S128x1, .i1⟩
  | 49 => ⟨S_, .i32⟩
  | 50 => ⟨S128x1, .i32⟩
  | 51 => ⟨S128x1, .i32⟩
  | 52 => ⟨S128x1, .i32⟩
  | 53 => ⟨S_, .i32⟩
  | 54 => ⟨S128x1, .i32⟩
  | 55 => ⟨S128x1, .i1⟩
  | 56 => ⟨S_, .i32⟩
  | 57 => ⟨S128x1, .i32⟩
  | 58 => ⟨S128x1, .i1⟩
  | 59 => ⟨S_, .i32⟩
  | 60 => ⟨S128x1, .i32⟩
  | 61 => ⟨S128x1, .i1⟩
  | 62 => ⟨S128x1, .i1⟩
  | 63 => ⟨S128x1, .i1⟩
  | 64 => ⟨S128x1, .i32⟩
  | 65 => ⟨S128x1, .i32⟩
  | 66 => ⟨S_, .i32⟩
  | 67 => ⟨S128x1, .i32⟩
  | 68 => ⟨S128x1, .i1⟩
  | 69 => ⟨S_, .i32⟩
  | 70 => ⟨S128x1, .i32⟩
  | 71 => ⟨S128x1, .i32⟩
  | 72 => ⟨S128x10, .i32⟩
  | 73 => ⟨S128x10, .i32⟩
  | 74 => ⟨S_, .i32⟩
  | 75 => ⟨S128x10, .i32⟩
  | 76 => ⟨S128x10, .i1⟩
  | 77 => ⟨S_, .i32⟩
  | 78 => ⟨S128x10, .i32⟩
  | 79 => ⟨S128x10, .i1⟩
  | 80 => ⟨S_, .i32⟩
  | 81 => ⟨S128x1, .i32⟩
  | 82 => ⟨S128x1, .i1⟩
  | 83 => ⟨S128x10, .i1⟩
  | 84 => ⟨S128x10, .i1⟩
  | 85 => ⟨S128x10, .i1⟩
  | 86 => ⟨S128x10, .i32⟩
  | 87 => ⟨S128x10, .i32⟩
  | 88 => ⟨S128x10, .i32⟩
  | 89 => ⟨S128x10, .i32⟩
  | 90 => ⟨S128x10, .i32⟩
  | 91 => ⟨S_, .i32⟩
  | 92 => ⟨S128x1, .i32⟩
  | 93 => ⟨S128x1, .i1⟩
  | 94 => ⟨S_, .i32⟩
  | 95 => ⟨S128x1, .i32⟩
  | 96 => ⟨S128x1, .i32⟩
  | 97 => ⟨S128x10, .i32⟩
  | 98 => ⟨S128x10, .i32⟩
  | 99 => ⟨S_, .i32⟩
  | 100 => ⟨S128x10, .i32⟩
  | 101 => ⟨S128x10, .i1⟩
  | 102 => ⟨S_, .i32⟩
  | 103 => ⟨S128x10, .i32⟩
  | 104 => ⟨S128x10, .i1⟩
  | 105 => ⟨S_, .i32⟩
  | 106 => ⟨S128x1, .i32⟩
  | 107 => ⟨S128x1, .i1⟩
  | 108 => ⟨S128x10, .i1⟩
  | 109 => ⟨S128x10, .i1⟩
  | 110 => ⟨S128x10, .i1⟩
  | 111 => ⟨S128x10, .i32⟩
  | 112 => ⟨S128x10, .i32⟩
  | 113 => ⟨S128x10, .i32⟩
  | 114 => ⟨S128x10, .i32⟩
  | 115 => ⟨S_, .i32⟩
  | 116 => ⟨S128x1, .i32⟩
  | 117 => ⟨S128x1, .i1⟩
  | 118 => ⟨S_, .i32⟩
  | 119 => ⟨S128x1, .i32⟩
  | 120 => ⟨S128x1, .i32⟩
  | 121 => ⟨S128x10, .i32⟩
  | 122 => ⟨S128x10, .i32⟩
  | 123 => ⟨S_, .i32⟩
  | 124 => ⟨S128x10, .i32⟩
  | 125 => ⟨S128x10, .i1⟩
  | 126 => ⟨S_, .i32⟩
  | 127 => ⟨S128x10, .i32⟩
  | _ => ⟨S128x128x4096, .f32⟩

abbrev hbmTy0_1 (i : Nat) : BufTy := match i % 128 with
  | 0 => ⟨S128x10, .i1⟩
  | 1 => ⟨S_, .i32⟩
  | 2 => ⟨S128x1, .i32⟩
  | 3 => ⟨S128x1, .i1⟩
  | 4 => ⟨S128x10, .i1⟩
  | 5 => ⟨S128x10, .i1⟩
  | 6 => ⟨S128x10, .i1⟩
  | 7 => ⟨S128x10, .i32⟩
  | 8 => ⟨S128x10, .i32⟩
  | 9 => ⟨S128x10, .i32⟩
  | 10 => ⟨S128x10, .i32⟩
  | 11 => ⟨S_, .i32⟩
  | 12 => ⟨S128x10, .i32⟩
  | 13 => ⟨S128x1, .i32⟩
  | 14 => ⟨S128x1, .i32⟩
  | 15 => ⟨S_, .i32⟩
  | 16 => ⟨S_, .i32⟩
  | 17 => ⟨S128x1, .i32⟩
  | 18 => ⟨S128x1, .i1⟩
  | 19 => ⟨S_, .i32⟩
  | 20 => ⟨S128x1, .i32⟩
  | 21 => ⟨S128x1, .i32⟩
  | 22 => ⟨S128x1, .i32⟩
  | 23 => ⟨S128x1, .i32⟩
  | 24 => ⟨S_, .i32⟩
  | 25 => ⟨S128x1, .i32⟩
  | 26 => ⟨S128x1, .i1⟩
  | 27 => ⟨S_, .i32⟩
  | 28 => ⟨S128x1, .i32⟩
  | 29 => ⟨S128x1, .i1⟩
  | 30 => ⟨S_, .i32⟩
  | 31 => ⟨S128x1, .i32⟩
  | 32 => ⟨S128x1, .i1⟩
  | 33 => ⟨S128x1, .i1⟩
  | 34 => ⟨S128x1, .i1⟩
  | 35 => ⟨S128x1, .i32⟩
  | 36 => ⟨S128x1, .i32⟩
  | 37 => ⟨S128x1, .i32⟩
  | 38 => ⟨S_, .i32⟩
  | 39 => ⟨S128x1, .i32⟩
  | 40 => ⟨S128x1, .i1⟩
  | 41 => ⟨S_, .i32⟩
  | 42 => ⟨S128x1, .i32⟩
  | 43 => ⟨S128x1, .i32⟩
  | 44 => ⟨S128x1, .i32⟩
  | 45 => ⟨S_, .i32⟩
  | 46 => ⟨S128x1, .i32⟩
  | 47 => ⟨S128x1, .i1⟩
  | 48 => ⟨S_, .i32⟩
  | 49 => ⟨S128x1, .i32⟩
  | 50 => ⟨S128x1, .i1⟩
  | 51 => ⟨S_, .i32⟩
  | 52 => ⟨S128x1, .i32⟩
  | 53 => ⟨S128x1, .i1⟩
  | 54 => ⟨S128x1, .i1⟩
  | 55 => ⟨S128x1, .i1⟩
  | 56 => ⟨S128x1, .i32⟩
  | 57 => ⟨S128x1, .i32⟩
  | 58 => ⟨S_, .i32⟩
  | 59 => ⟨S128x1, .i32⟩
  | 60 => ⟨S128x1, .i1⟩
  | 61 => ⟨S_, .i32⟩
  | 62 => ⟨S128x1, .i32⟩
  | 63 => ⟨S128x1, .i32⟩
  | 64 => ⟨S128x10, .i32⟩
  | 65 => ⟨S128x10, .i32⟩
  | 66 => ⟨S_, .i32⟩
  | 67 => ⟨S128x10, .i32⟩
  | 68 => ⟨S128x10, .i1⟩
  | 69 => ⟨S_, .i32⟩
  | 70 => ⟨S128x10, .i32⟩
  | 71 => ⟨S128x10, .i1⟩
  | 72 => ⟨S_, .i32⟩
  | 73 => ⟨S128x1, .i32⟩
  | 74 => ⟨S128x1, .i1⟩
  | 75 => ⟨S128x10, .i1⟩
  | 76 => ⟨S128x10, .i1⟩
  | 77 => ⟨S128x10, .i1⟩
  | 78 => ⟨S128x10, .i32⟩
  | 79 => ⟨S128x10, .i32⟩
  | 80 => ⟨S128x10, .i32⟩
  | 81 => ⟨S128x10, .i32⟩
  | 82 => ⟨S128x10, .i32⟩
  | 83 => ⟨S_, .i32⟩
  | 84 => ⟨S128x1, .i32⟩
  | 85 => ⟨S128x1, .i1⟩
  | 86 => ⟨S_, .i32⟩
  | 87 => ⟨S128x1, .i32⟩
  | 88 => ⟨S128x1, .i32⟩
  | 89 => ⟨S128x10, .i32⟩
  | 90 => ⟨S128x10, .i32⟩
  | 91 => ⟨S_, .i32⟩
  | 92 => ⟨S128x10, .i32⟩
  | 93 => ⟨S128x10, .i1⟩
  | 94 => ⟨S_, .i32⟩
  | 95 => ⟨S128x10, .i32⟩
  | 96 => ⟨S128x10, .i1⟩
  | 97 => ⟨S_, .i32⟩
  | 98 => ⟨S128x1, .i32⟩
  | 99 => ⟨S128x1, .i1⟩
  | 100 => ⟨S128x10, .i1⟩
  | 101 => ⟨S128x10, .i1⟩
  | 102 => ⟨S128x10, .i1⟩
  | 103 => ⟨S128x10, .i32⟩
  | 104 => ⟨S128x10, .i32⟩
  | 105 => ⟨S128x10, .i32⟩
  | 106 => ⟨S128x10, .i32⟩
  | 107 => ⟨S_, .i32⟩
  | 108 => ⟨S128x1, .i32⟩
  | 109 => ⟨S128x1, .i1⟩
  | 110 => ⟨S_, .i32⟩
  | 111 => ⟨S128x1, .i32⟩
  | 112 => ⟨S128x1, .i32⟩
  | 113 => ⟨S128x10, .i32⟩
  | 114 => ⟨S128x10, .i32⟩
  | 115 => ⟨S_, .i32⟩
  | 116 => ⟨S128x10, .i32⟩
  | 117 => ⟨S128x10, .i1⟩
  | 118 => ⟨S_, .i32⟩
  | 119 => ⟨S128x10, .i32⟩
  | 120 => ⟨S128x10, .i1⟩
  | 121 => ⟨S_, .i32⟩
  | 122 => ⟨S128x1, .i32⟩
  | 123 => ⟨S128x1, .i1⟩
  | 124 => ⟨S128x10, .i1⟩
  | 125 => ⟨S128x10, .i1⟩
  | 126 => ⟨S128x10, .i1⟩
  | 127 => ⟨S128x10, .i32⟩
  | _ => ⟨S128x128x4096, .f32⟩

abbrev hbmTy0_2 (i : Nat) : BufTy := match i % 128 with
  | 0 => ⟨S128x10, .i32⟩
  | 1 => ⟨S128x10, .i32⟩
  | 2 => ⟨S128x10, .i32⟩
  | 3 => ⟨S_, .i32⟩
  | 4 => ⟨S128x10, .i32⟩
  | 5 => ⟨S128x10, .i32⟩
  | 6 => ⟨S128x128x4096, .f32⟩
  | _ => ⟨S128x128x4096, .f32⟩

abbrev hbmTy (i : Nat) : BufTy := match i / 128 with
  | 0 => hbmTy0_0 i
  | 1 => hbmTy0_1 i
  | 2 => hbmTy0_2 i
  | _ => ⟨S128x128x4096, .f32⟩

abbrev bufTy : (tb : Table) → Fin (tcTables nBuf tb) → BufTy
  | .hbm, ⟨i, _⟩ => hbmTy i
  | .local _ .vmem, ⟨0, _⟩ => ⟨S4x128x4096, .f32⟩
  | .local _ .vmem, ⟨1, _⟩ => ⟨S4x128x4096, .f32⟩
  | .local _ .vmem, ⟨2, _⟩ => ⟨S2x4x128x4096, .f32⟩
  | .local _ .smem, ⟨0, _⟩ => ⟨S128x2, .i32⟩
  | .local _ .smem, ⟨1, _⟩ => ⟨S128x2, .i32⟩
  | .local _ .smem, ⟨2, _⟩ => ⟨S128x10, .i32⟩
  | .local _ .smem, ⟨3, _⟩ => ⟨S128x10, .i32⟩
  | _, _ => ⟨S128x128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 130 → Bool
  | ⟨i, _⟩ => dmaSemScopedAt i

abbrev sig : RefSig :=
  ofTc nBuf bufTy 0 130 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_5 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_6 : Ref sig .tc := ⟨.hbm, 15, rfl⟩
abbrev main_v7 : Ref sig .tc := ⟨.hbm, 16, rfl⟩
abbrev main_v8 : Ref sig .tc := ⟨.hbm, 17, rfl⟩
abbrev main_c_7 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_8 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_v6 : Ref sig .tc := ⟨.hbm, 33, rfl⟩
abbrev main_call0_v7 : Ref sig .tc := ⟨.hbm, 34, rfl⟩
abbrev main_call0_c_2 : Ref sig .tc := ⟨.hbm, 35, rfl⟩
abbrev main_call0_v8 : Ref sig .tc := ⟨.hbm, 36, rfl⟩
abbrev main_call0_v9 : Ref sig .tc := ⟨.hbm, 37, rfl⟩
abbrev main_call0_c_3 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v13 : Ref sig .tc := ⟨.hbm, 44, rfl⟩
abbrev main_v14 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_v15 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_v6 : Ref sig .tc := ⟨.hbm, 75, rfl⟩
abbrev main_call2_v7 : Ref sig .tc := ⟨.hbm, 76, rfl⟩
abbrev main_call2_c_2 : Ref sig .tc := ⟨.hbm, 77, rfl⟩
abbrev main_call2_v8 : Ref sig .tc := ⟨.hbm, 78, rfl⟩
abbrev main_call2_v9 : Ref sig .tc := ⟨.hbm, 79, rfl⟩
abbrev main_call2_c_3 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_v15 : Ref sig .tc := ⟨.hbm, 86, rfl⟩
abbrev main_call2_v16 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_v6 : Ref sig .tc := ⟨.hbm, 100, rfl⟩
abbrev main_call3_v7 : Ref sig .tc := ⟨.hbm, 101, rfl⟩
abbrev main_call3_c_2 : Ref sig .tc := ⟨.hbm, 102, rfl⟩
abbrev main_call3_v8 : Ref sig .tc := ⟨.hbm, 103, rfl⟩
abbrev main_call3_v9 : Ref sig .tc := ⟨.hbm, 104, rfl⟩
abbrev main_call3_c_3 : Ref sig .tc := ⟨.hbm, 105, rfl⟩
abbrev main_call3_v10 : Ref sig .tc := ⟨.hbm, 106, rfl⟩
abbrev main_call3_v11 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_v15 : Ref sig .tc := ⟨.hbm, 111, rfl⟩
abbrev main_call3_v16 : Ref sig .tc := ⟨.hbm, 112, rfl⟩
abbrev main_v19 : Ref sig .tc := ⟨.hbm, 113, rfl⟩
abbrev main_v20 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_v6 : Ref sig .tc := ⟨.hbm, 124, rfl⟩
abbrev main_call4_v7 : Ref sig .tc := ⟨.hbm, 125, rfl⟩
abbrev main_call4_c_2 : Ref sig .tc := ⟨.hbm, 126, rfl⟩
abbrev main_call4_v8 : Ref sig .tc := ⟨.hbm, 127, rfl⟩
abbrev main_call4_v9 : Ref sig .tc := ⟨.hbm, 128, rfl⟩
abbrev main_call4_c_3 : Ref sig .tc := ⟨.hbm, 129, rfl⟩
abbrev main_call4_v10 : Ref sig .tc := ⟨.hbm, 130, rfl⟩
abbrev main_call4_v11 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_v15 : Ref sig .tc := ⟨.hbm, 135, rfl⟩
abbrev main_call4_v16 : Ref sig .tc := ⟨.hbm, 136, rfl⟩
abbrev main_v21 : Ref sig .tc := ⟨.hbm, 137, rfl⟩
abbrev main_v22 : Ref sig .tc := ⟨.hbm, 138, rfl⟩
abbrev main_c_9 : Ref sig .tc := ⟨.hbm, 139, rfl⟩
abbrev main_v23 : Ref sig .tc := ⟨.hbm, 140, rfl⟩
abbrev main_v25 : Ref sig .tc := ⟨.hbm, 141, rfl⟩
abbrev main_v26 : Ref sig .tc := ⟨.hbm, 142, rfl⟩
abbrev main_c_10 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_v6 : Ref sig .tc := ⟨.hbm, 153, rfl⟩
abbrev main_call5_v7 : Ref sig .tc := ⟨.hbm, 154, rfl⟩
abbrev main_call5_c_2 : Ref sig .tc := ⟨.hbm, 155, rfl⟩
abbrev main_call5_v8 : Ref sig .tc := ⟨.hbm, 156, rfl⟩
abbrev main_call5_v9 : Ref sig .tc := ⟨.hbm, 157, rfl⟩
abbrev main_call5_c_3 : Ref sig .tc := ⟨.hbm, 158, rfl⟩
abbrev main_call5_v10 : Ref sig .tc := ⟨.hbm, 159, rfl⟩
abbrev main_call5_v11 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_v27 : Ref sig .tc := ⟨.hbm, 164, rfl⟩
abbrev main_v28 : Ref sig .tc := ⟨.hbm, 165, rfl⟩
abbrev main_call6_c : Ref sig .tc := ⟨.hbm, 166, rfl⟩
abbrev main_call6_v0 : Ref sig .tc := ⟨.hbm, 167, rfl⟩
abbrev main_call6_v1 : Ref sig .tc := ⟨.hbm, 168, rfl⟩
abbrev main_call6_c_0 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_c_1 : Ref sig .tc := ⟨.hbm, 173, rfl⟩
abbrev main_call6_v5 : Ref sig .tc := ⟨.hbm, 174, rfl⟩
abbrev main_call6_v6 : Ref sig .tc := ⟨.hbm, 175, rfl⟩
abbrev main_call6_c_2 : Ref sig .tc := ⟨.hbm, 176, rfl⟩
abbrev main_call6_v7 : Ref sig .tc := ⟨.hbm, 177, rfl⟩
abbrev main_call6_v8 : Ref sig .tc := ⟨.hbm, 178, rfl⟩
abbrev main_call6_c_3 : Ref sig .tc := ⟨.hbm, 179, rfl⟩
abbrev main_call6_v9 : Ref sig .tc := ⟨.hbm, 180, rfl⟩
abbrev main_call6_v10 : Ref sig .tc := ⟨.hbm, 181, rfl⟩
abbrev main_call6_v11 : Ref sig .tc := ⟨.hbm, 182, rfl⟩
abbrev main_call6_v12 : Ref sig .tc := ⟨.hbm, 183, rfl⟩
abbrev main_call6_v13 : Ref sig .tc := ⟨.hbm, 184, rfl⟩
abbrev main_v29 : Ref sig .tc := ⟨.hbm, 185, rfl⟩
abbrev main_call7_c : Ref sig .tc := ⟨.hbm, 186, rfl⟩
abbrev main_call7_v0 : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_v5 : Ref sig .tc := ⟨.hbm, 193, rfl⟩
abbrev main_call7_c_1 : Ref sig .tc := ⟨.hbm, 194, rfl⟩
abbrev main_call7_v6 : Ref sig .tc := ⟨.hbm, 195, rfl⟩
abbrev main_call7_v7 : Ref sig .tc := ⟨.hbm, 196, rfl⟩
abbrev main_call7_c_2 : Ref sig .tc := ⟨.hbm, 197, rfl⟩
abbrev main_call7_v8 : Ref sig .tc := ⟨.hbm, 198, rfl⟩
abbrev main_call7_v9 : Ref sig .tc := ⟨.hbm, 199, rfl⟩
abbrev main_call7_c_3 : Ref sig .tc := ⟨.hbm, 200, rfl⟩
abbrev main_call7_v10 : Ref sig .tc := ⟨.hbm, 201, rfl⟩
abbrev main_call7_v11 : Ref sig .tc := ⟨.hbm, 202, rfl⟩
abbrev main_call7_v12 : Ref sig .tc := ⟨.hbm, 203, rfl⟩
abbrev main_call7_v13 : Ref sig .tc := ⟨.hbm, 204, rfl⟩
abbrev main_call7_v14 : Ref sig .tc := ⟨.hbm, 205, rfl⟩
abbrev main_call7_v15 : Ref sig .tc := ⟨.hbm, 206, rfl⟩
abbrev main_call7_v16 : Ref sig .tc := ⟨.hbm, 207, rfl⟩
abbrev main_v30 : Ref sig .tc := ⟨.hbm, 208, rfl⟩
abbrev main_v31 : Ref sig .tc := ⟨.hbm, 209, rfl⟩
abbrev main_v32 : Ref sig .tc := ⟨.hbm, 210, rfl⟩
abbrev main_call8_c : Ref sig .tc := ⟨.hbm, 211, rfl⟩
abbrev main_call8_v0 : Ref sig .tc := ⟨.hbm, 212, rfl⟩
abbrev main_call8_v1 : Ref sig .tc := ⟨.hbm, 213, rfl⟩
abbrev main_call8_c_0 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_call8_v5 : Ref sig .tc := ⟨.hbm, 218, rfl⟩
abbrev main_call8_c_1 : Ref sig .tc := ⟨.hbm, 219, rfl⟩
abbrev main_call8_v6 : Ref sig .tc := ⟨.hbm, 220, rfl⟩
abbrev main_call8_v7 : Ref sig .tc := ⟨.hbm, 221, rfl⟩
abbrev main_call8_c_2 : Ref sig .tc := ⟨.hbm, 222, rfl⟩
abbrev main_call8_v8 : Ref sig .tc := ⟨.hbm, 223, rfl⟩
abbrev main_call8_v9 : Ref sig .tc := ⟨.hbm, 224, rfl⟩
abbrev main_call8_c_3 : Ref sig .tc := ⟨.hbm, 225, rfl⟩
abbrev main_call8_v10 : Ref sig .tc := ⟨.hbm, 226, rfl⟩
abbrev main_call8_v11 : Ref sig .tc := ⟨.hbm, 227, rfl⟩
abbrev main_call8_v12 : Ref sig .tc := ⟨.hbm, 228, rfl⟩
abbrev main_call8_v13 : Ref sig .tc := ⟨.hbm, 229, rfl⟩
abbrev main_call8_v14 : Ref sig .tc := ⟨.hbm, 230, rfl⟩
abbrev main_call8_v15 : Ref sig .tc := ⟨.hbm, 231, rfl⟩
abbrev main_call8_v16 : Ref sig .tc := ⟨.hbm, 232, rfl⟩
abbrev main_v33 : Ref sig .tc := ⟨.hbm, 233, rfl⟩
abbrev main_v34 : Ref sig .tc := ⟨.hbm, 234, rfl⟩
abbrev main_call9_c : Ref sig .tc := ⟨.hbm, 235, rfl⟩
abbrev main_call9_v0 : Ref sig .tc := ⟨.hbm, 236, rfl⟩
abbrev main_call9_v1 : Ref sig .tc := ⟨.hbm, 237, rfl⟩
abbrev main_call9_c_0 : Ref sig .tc := ⟨.hbm, 238, rfl⟩
abbrev main_call9_v2 : Ref sig .tc := ⟨.hbm, 239, rfl⟩
abbrev main_call9_v3 : Ref sig .tc := ⟨.hbm, 240, rfl⟩
abbrev main_call9_v4 : Ref sig .tc := ⟨.hbm, 241, rfl⟩
abbrev main_call9_v5 : Ref sig .tc := ⟨.hbm, 242, rfl⟩
abbrev main_call9_c_1 : Ref sig .tc := ⟨.hbm, 243, rfl⟩
abbrev main_call9_v6 : Ref sig .tc := ⟨.hbm, 244, rfl⟩
abbrev main_call9_v7 : Ref sig .tc := ⟨.hbm, 245, rfl⟩
abbrev main_call9_c_2 : Ref sig .tc := ⟨.hbm, 246, rfl⟩
abbrev main_call9_v8 : Ref sig .tc := ⟨.hbm, 247, rfl⟩
abbrev main_call9_v9 : Ref sig .tc := ⟨.hbm, 248, rfl⟩
abbrev main_call9_c_3 : Ref sig .tc := ⟨.hbm, 249, rfl⟩
abbrev main_call9_v10 : Ref sig .tc := ⟨.hbm, 250, rfl⟩
abbrev main_call9_v11 : Ref sig .tc := ⟨.hbm, 251, rfl⟩
abbrev main_call9_v12 : Ref sig .tc := ⟨.hbm, 252, rfl⟩
abbrev main_call9_v13 : Ref sig .tc := ⟨.hbm, 253, rfl⟩
abbrev main_call9_v14 : Ref sig .tc := ⟨.hbm, 254, rfl⟩
abbrev main_call9_v15 : Ref sig .tc := ⟨.hbm, 255, rfl⟩
abbrev main_call9_v16 : Ref sig .tc := ⟨.hbm, 256, rfl⟩
abbrev main_v35 : Ref sig .tc := ⟨.hbm, 257, rfl⟩
abbrev main_v36 : Ref sig .tc := ⟨.hbm, 258, rfl⟩
abbrev main_c_11 : Ref sig .tc := ⟨.hbm, 259, rfl⟩
abbrev main_v37 : Ref sig .tc := ⟨.hbm, 260, rfl⟩
abbrev main_v38 : Ref sig .tc := ⟨.hbm, 261, rfl⟩
abbrev main_v40 : Ref sig .tc := ⟨.hbm, 262, rfl⟩
abbrev main_c_3 : Ref sig .tc := ⟨.smem, 0, rfl⟩
abbrev main_c_4 : Ref sig .tc := ⟨.smem, 1, rfl⟩
abbrev main_v24 : Ref sig .tc := ⟨.smem, 2, rfl⟩
abbrev main_v39 : Ref sig .tc := ⟨.smem, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

abbrev pre0 : Pipeline.Prefetch sig := ⟨4, ![main_c_3.idx, main_c_4.idx, main_v24.idx, main_v39.idx], fun | 0 => main_c_3.names | 1 => main_c_4.names | 2 => main_v24.names | 3 => main_v39.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond66 (i : grid0.Coords) : BitVec 1 :=
  let arg0 : BitVec 32 := BitVec.ofNat 32 (i 0).val
  let c1_i32 : BitVec 32 := 1#32
  let v3 : BitVec 32 := Scalar.addi arg0 c1_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_off1 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v1936 : Index := Scalar.indexCast v1929
  let c0_1156 : Index := 0#32
  ![v1936.toNat, 0]
def k0_off2 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v1944 : Index := Scalar.indexCast v1929
  let c1_1161 : Index := 1#32
  ![v1944.toNat, 1]
def k0_off3 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1167 : BitVec 32 := 0#32
  let c0_i32_1168 : BitVec 32 := 0#32
  ![v1927.toNat, 0, 0]
def k0_off4 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1166 : BitVec 32 := 0#32
  let c0_i32_2052 : BitVec 32 := 0#32
  let c0_i32_2053 : BitVec 32 := 0#32
  ![v1927.toNat, 0, 0, 0]
def k0_off5 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c0_i32_2054 : BitVec 32 := 0#32
  let c0_i32_2055 : BitVec 32 := 0#32
  ![v1929.toNat, 0, 0]
def k0_off6 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v1955 : Index := Scalar.indexCast v1929
  let c0_1170 : Index := 0#32
  ![v1955.toNat, 0]
def k0_off7 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v1963 : Index := Scalar.indexCast v1929
  let c1_1175 : Index := 1#32
  ![v1963.toNat, 1]
def k0_off8 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1181 : BitVec 32 := 0#32
  let c1_i32_1182 : BitVec 32 := 1#32
  ![v1927.toNat, 0, 1]
def k0_off9 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1180 : BitVec 32 := 0#32
  let c8_i32_2052 : BitVec 32 := 8#32
  let c0_i32_2053 : BitVec 32 := 0#32
  ![v1927.toNat, 0, 8, 0]
def k0_off10 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c8_i32_2054 : BitVec 32 := 8#32
  let c0_i32_2055 : BitVec 32 := 0#32
  ![v1929.toNat, 8, 0]
def k0_off11 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v1974 : Index := Scalar.indexCast v1929
  let c0_1184 : Index := 0#32
  ![v1974.toNat, 0]
def k0_off12 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v1982 : Index := Scalar.indexCast v1929
  let c1_1189 : Index := 1#32
  ![v1982.toNat, 1]
def k0_off13 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1195 : BitVec 32 := 0#32
  let c2_i32_1196 : BitVec 32 := 2#32
  ![v1927.toNat, 0, 2]
def k0_off14 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1194 : BitVec 32 := 0#32
  let c16_i32_2052 : BitVec 32 := 16#32
  let c0_i32_2053 : BitVec 32 := 0#32
  ![v1927.toNat, 0, 16, 0]
def k0_off15 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c16_i32_2054 : BitVec 32 := 16#32
  let c0_i32_2055 : BitVec 32 := 0#32
  ![v1929.toNat, 16, 0]
def k0_off16 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v1993 : Index := Scalar.indexCast v1929
  let c0_1198 : Index := 0#32
  ![v1993.toNat, 0]
def k0_off17 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2001 : Index := Scalar.indexCast v1929
  let c1_1203 : Index := 1#32
  ![v2001.toNat, 1]
def k0_off18 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1209 : BitVec 32 := 0#32
  let c3_i32_1210 : BitVec 32 := 3#32
  ![v1927.toNat, 0, 3]
def k0_off19 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1208 : BitVec 32 := 0#32
  let c24_i32_2052 : BitVec 32 := 24#32
  let c0_i32_2053 : BitVec 32 := 0#32
  ![v1927.toNat, 0, 24, 0]
def k0_off20 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c24_i32_2054 : BitVec 32 := 24#32
  let c0_i32_2055 : BitVec 32 := 0#32
  ![v1929.toNat, 24, 0]
def k0_off21 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2012 : Index := Scalar.indexCast v1929
  let c0_1212 : Index := 0#32
  ![v2012.toNat, 0]
def k0_off22 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2020 : Index := Scalar.indexCast v1929
  let c1_1217 : Index := 1#32
  ![v2020.toNat, 1]
def k0_off23 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1223 : BitVec 32 := 0#32
  let c4_i32_1224 : BitVec 32 := 4#32
  ![v1927.toNat, 0, 4]
def k0_off24 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1222 : BitVec 32 := 0#32
  let c32_i32_2052 : BitVec 32 := 32#32
  let c0_i32_2053 : BitVec 32 := 0#32
  ![v1927.toNat, 0, 32, 0]
def k0_off25 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c32_i32_2054 : BitVec 32 := 32#32
  let c0_i32_2055 : BitVec 32 := 0#32
  ![v1929.toNat, 32, 0]
def k0_off26 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2031 : Index := Scalar.indexCast v1929
  let c0_1226 : Index := 0#32
  ![v2031.toNat, 0]
def k0_off27 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2039 : Index := Scalar.indexCast v1929
  let c1_1231 : Index := 1#32
  ![v2039.toNat, 1]
def k0_off28 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1237 : BitVec 32 := 0#32
  let c5_i32_1238 : BitVec 32 := 5#32
  ![v1927.toNat, 0, 5]
def k0_off29 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1236 : BitVec 32 := 0#32
  let c40_i32_2052 : BitVec 32 := 40#32
  let c0_i32_2053 : BitVec 32 := 0#32
  ![v1927.toNat, 0, 40, 0]
def k0_off30 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c40_i32_2054 : BitVec 32 := 40#32
  let c0_i32_2055 : BitVec 32 := 0#32
  ![v1929.toNat, 40, 0]
def k0_off31 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2050 : Index := Scalar.indexCast v1929
  let c0_1240 : Index := 0#32
  ![v2050.toNat, 0]
def k0_off32 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2058 : Index := Scalar.indexCast v1929
  let c1_1245 : Index := 1#32
  ![v2058.toNat, 1]
def k0_off33 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1251 : BitVec 32 := 0#32
  let c6_i32_1252 : BitVec 32 := 6#32
  ![v1927.toNat, 0, 6]
def k0_off34 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1250 : BitVec 32 := 0#32
  let c48_i32_2052 : BitVec 32 := 48#32
  let c0_i32_2053 : BitVec 32 := 0#32
  ![v1927.toNat, 0, 48, 0]
def k0_off35 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c48_i32_2054 : BitVec 32 := 48#32
  let c0_i32_2055 : BitVec 32 := 0#32
  ![v1929.toNat, 48, 0]
def k0_off36 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2069 : Index := Scalar.indexCast v1929
  let c0_1254 : Index := 0#32
  ![v2069.toNat, 0]
def k0_off37 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2077 : Index := Scalar.indexCast v1929
  let c1_1259 : Index := 1#32
  ![v2077.toNat, 1]
def k0_off38 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1265 : BitVec 32 := 0#32
  let c7_i32_1266 : BitVec 32 := 7#32
  ![v1927.toNat, 0, 7]
def k0_off39 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1264 : BitVec 32 := 0#32
  let c56_i32_2052 : BitVec 32 := 56#32
  let c0_i32_2053 : BitVec 32 := 0#32
  ![v1927.toNat, 0, 56, 0]
def k0_off40 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c56_i32_2054 : BitVec 32 := 56#32
  let c0_i32_2055 : BitVec 32 := 0#32
  ![v1929.toNat, 56, 0]
def k0_off41 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2088 : Index := Scalar.indexCast v1929
  let c0_1268 : Index := 0#32
  ![v2088.toNat, 0]
def k0_off42 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2096 : Index := Scalar.indexCast v1929
  let c1_1273 : Index := 1#32
  ![v2096.toNat, 1]
def k0_off43 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1279 : BitVec 32 := 0#32
  let c8_i32_1280 : BitVec 32 := 8#32
  ![v1927.toNat, 0, 8]
def k0_off44 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1278 : BitVec 32 := 0#32
  let c64_i32_2052 : BitVec 32 := 64#32
  let c0_i32_2053 : BitVec 32 := 0#32
  ![v1927.toNat, 0, 64, 0]
def k0_off45 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c64_i32_2054 : BitVec 32 := 64#32
  let c0_i32_2055 : BitVec 32 := 0#32
  ![v1929.toNat, 64, 0]
def k0_off46 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2107 : Index := Scalar.indexCast v1929
  let c0_1282 : Index := 0#32
  ![v2107.toNat, 0]
def k0_off47 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2115 : Index := Scalar.indexCast v1929
  let c1_1287 : Index := 1#32
  ![v2115.toNat, 1]
def k0_off48 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1293 : BitVec 32 := 0#32
  let c9_i32_1294 : BitVec 32 := 9#32
  ![v1927.toNat, 0, 9]
def k0_off49 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1292 : BitVec 32 := 0#32
  let c72_i32_2052 : BitVec 32 := 72#32
  let c0_i32_2053 : BitVec 32 := 0#32
  ![v1927.toNat, 0, 72, 0]
def k0_off50 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c72_i32_2054 : BitVec 32 := 72#32
  let c0_i32_2055 : BitVec 32 := 0#32
  ![v1929.toNat, 72, 0]
def k0_off51 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2126 : Index := Scalar.indexCast v1929
  let c0_1296 : Index := 0#32
  ![v2126.toNat, 0]
def k0_off52 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2134 : Index := Scalar.indexCast v1929
  let c1_1301 : Index := 1#32
  ![v2134.toNat, 1]
def k0_off53 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1307 : BitVec 32 := 0#32
  let c10_i32_1308 : BitVec 32 := 10#32
  ![v1927.toNat, 0, 10]
def k0_off54 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1306 : BitVec 32 := 0#32
  let c80_i32_2052 : BitVec 32 := 80#32
  let c0_i32_2053 : BitVec 32 := 0#32
  ![v1927.toNat, 0, 80, 0]
def k0_off55 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c80_i32_2054 : BitVec 32 := 80#32
  let c0_i32_2055 : BitVec 32 := 0#32
  ![v1929.toNat, 80, 0]
def k0_off56 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2145 : Index := Scalar.indexCast v1929
  let c0_1310 : Index := 0#32
  ![v2145.toNat, 0]
def k0_off57 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2153 : Index := Scalar.indexCast v1929
  let c1_1315 : Index := 1#32
  ![v2153.toNat, 1]
def k0_off58 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1321 : BitVec 32 := 0#32
  let c11_i32_1322 : BitVec 32 := 11#32
  ![v1927.toNat, 0, 11]
def k0_off59 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1320 : BitVec 32 := 0#32
  let c88_i32_2052 : BitVec 32 := 88#32
  let c0_i32_2053 : BitVec 32 := 0#32
  ![v1927.toNat, 0, 88, 0]
def k0_off60 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c88_i32_2054 : BitVec 32 := 88#32
  let c0_i32_2055 : BitVec 32 := 0#32
  ![v1929.toNat, 88, 0]
def k0_off61 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2164 : Index := Scalar.indexCast v1929
  let c0_1324 : Index := 0#32
  ![v2164.toNat, 0]
def k0_off62 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2172 : Index := Scalar.indexCast v1929
  let c1_1329 : Index := 1#32
  ![v2172.toNat, 1]
def k0_off63 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1335 : BitVec 32 := 0#32
  let c12_i32_1336 : BitVec 32 := 12#32
  ![v1927.toNat, 0, 12]
def k0_off64 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1334 : BitVec 32 := 0#32
  let c96_i32_2052 : BitVec 32 := 96#32
  let c0_i32_2053 : BitVec 32 := 0#32
  ![v1927.toNat, 0, 96, 0]
def k0_off65 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c96_i32_2054 : BitVec 32 := 96#32
  let c0_i32_2055 : BitVec 32 := 0#32
  ![v1929.toNat, 96, 0]
def k0_off66 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2183 : Index := Scalar.indexCast v1929
  let c0_1338 : Index := 0#32
  ![v2183.toNat, 0]
def k0_off67 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2191 : Index := Scalar.indexCast v1929
  let c1_1343 : Index := 1#32
  ![v2191.toNat, 1]
def k0_off68 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1349 : BitVec 32 := 0#32
  let c13_i32_1350 : BitVec 32 := 13#32
  ![v1927.toNat, 0, 13]
def k0_off69 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1348 : BitVec 32 := 0#32
  let c104_i32_2052 : BitVec 32 := 104#32
  let c0_i32_2053 : BitVec 32 := 0#32
  ![v1927.toNat, 0, 104, 0]
def k0_off70 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c104_i32_2054 : BitVec 32 := 104#32
  let c0_i32_2055 : BitVec 32 := 0#32
  ![v1929.toNat, 104, 0]
def k0_off71 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2202 : Index := Scalar.indexCast v1929
  let c0_1352 : Index := 0#32
  ![v2202.toNat, 0]
def k0_off72 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2210 : Index := Scalar.indexCast v1929
  let c1_1357 : Index := 1#32
  ![v2210.toNat, 1]
def k0_off73 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1363 : BitVec 32 := 0#32
  let c14_i32_1364 : BitVec 32 := 14#32
  ![v1927.toNat, 0, 14]
def k0_off74 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1362 : BitVec 32 := 0#32
  let c112_i32_2052 : BitVec 32 := 112#32
  let c0_i32_2053 : BitVec 32 := 0#32
  ![v1927.toNat, 0, 112, 0]
def k0_off75 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c112_i32_2054 : BitVec 32 := 112#32
  let c0_i32_2055 : BitVec 32 := 0#32
  ![v1929.toNat, 112, 0]
def k0_off76 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2221 : Index := Scalar.indexCast v1929
  let c0_1366 : Index := 0#32
  ![v2221.toNat, 0]
def k0_off77 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let v2229 : Index := Scalar.indexCast v1929
  let c1_1371 : Index := 1#32
  ![v2229.toNat, 1]
def k0_off78 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1377 : BitVec 32 := 0#32
  let c15_i32_1378 : BitVec 32 := 15#32
  ![v1927.toNat, 0, 15]
def k0_off79 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c0_i32_1376 : BitVec 32 := 0#32
  let c120_i32_2052 : BitVec 32 := 120#32
  let c0_i32_2053 : BitVec 32 := 0#32
  ![v1927.toNat, 0, 120, 0]
def k0_off80 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1148 : BitVec 32 := 4#32
  let v1928 : BitVec 32 := Scalar.muli v1916 c4_i32_1148
  let c0_i32_1149 : BitVec 32 := 0#32
  let v1929 : BitVec 32 := Scalar.addi v1928 c0_i32_1149
  let c120_i32_2054 : BitVec 32 := 120#32
  let c0_i32_2055 : BitVec 32 := 0#32
  ![v1929.toNat, 120, 0]
def k0_off81 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2240 : Index := Scalar.indexCast v1931
  let c0_1380 : Index := 0#32
  ![v2240.toNat, 0]
def k0_off82 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2248 : Index := Scalar.indexCast v1931
  let c1_1385 : Index := 1#32
  ![v2248.toNat, 1]
def k0_off83 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1391 : BitVec 32 := 1#32
  let c0_i32_1392 : BitVec 32 := 0#32
  ![v1927.toNat, 1, 0]
def k0_off84 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1390 : BitVec 32 := 1#32
  let c0_i32_2052 : BitVec 32 := 0#32
  let c0_i32_2053 : BitVec 32 := 0#32
  ![v1927.toNat, 1, 0, 0]
def k0_off85 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c0_i32_2054 : BitVec 32 := 0#32
  let c0_i32_2055 : BitVec 32 := 0#32
  ![v1931.toNat, 0, 0]
def k0_off86 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2259 : Index := Scalar.indexCast v1931
  let c0_1394 : Index := 0#32
  ![v2259.toNat, 0]
def k0_off87 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2267 : Index := Scalar.indexCast v1931
  let c1_1399 : Index := 1#32
  ![v2267.toNat, 1]
def k0_off88 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1405 : BitVec 32 := 1#32
  let c1_i32_1406 : BitVec 32 := 1#32
  ![v1927.toNat, 1, 1]
def k0_off89 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1404 : BitVec 32 := 1#32
  let c8_i32_2052 : BitVec 32 := 8#32
  let c0_i32_2053 : BitVec 32 := 0#32
  ![v1927.toNat, 1, 8, 0]
def k0_off90 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c8_i32_2054 : BitVec 32 := 8#32
  let c0_i32_2055 : BitVec 32 := 0#32
  ![v1931.toNat, 8, 0]
def k0_off91 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2278 : Index := Scalar.indexCast v1931
  let c0_1408 : Index := 0#32
  ![v2278.toNat, 0]
def k0_off92 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2286 : Index := Scalar.indexCast v1931
  let c1_1413 : Index := 1#32
  ![v2286.toNat, 1]
def k0_off93 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1419 : BitVec 32 := 1#32
  let c2_i32_1420 : BitVec 32 := 2#32
  ![v1927.toNat, 1, 2]
def k0_off94 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1418 : BitVec 32 := 1#32
  let c16_i32_2052 : BitVec 32 := 16#32
  let c0_i32_2053 : BitVec 32 := 0#32
  ![v1927.toNat, 1, 16, 0]
def k0_off95 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c16_i32_2054 : BitVec 32 := 16#32
  let c0_i32_2055 : BitVec 32 := 0#32
  ![v1931.toNat, 16, 0]
def k0_off96 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2297 : Index := Scalar.indexCast v1931
  let c0_1422 : Index := 0#32
  ![v2297.toNat, 0]
def k0_off97 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2305 : Index := Scalar.indexCast v1931
  let c1_1427 : Index := 1#32
  ![v2305.toNat, 1]
def k0_off98 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1433 : BitVec 32 := 1#32
  let c3_i32_1434 : BitVec 32 := 3#32
  ![v1927.toNat, 1, 3]
def k0_off99 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1432 : BitVec 32 := 1#32
  let c24_i32_2052 : BitVec 32 := 24#32
  let c0_i32_2053 : BitVec 32 := 0#32
  ![v1927.toNat, 1, 24, 0]
def k0_off100 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c24_i32_2054 : BitVec 32 := 24#32
  let c0_i32_2055 : BitVec 32 := 0#32
  ![v1931.toNat, 24, 0]
def k0_off101 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2316 : Index := Scalar.indexCast v1931
  let c0_1436 : Index := 0#32
  ![v2316.toNat, 0]
def k0_off102 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2324 : Index := Scalar.indexCast v1931
  let c1_1441 : Index := 1#32
  ![v2324.toNat, 1]
def k0_off103 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1447 : BitVec 32 := 1#32
  let c4_i32_1448 : BitVec 32 := 4#32
  ![v1927.toNat, 1, 4]
def k0_off104 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1446 : BitVec 32 := 1#32
  let c32_i32_2052 : BitVec 32 := 32#32
  let c0_i32_2053 : BitVec 32 := 0#32
  ![v1927.toNat, 1, 32, 0]
def k0_off105 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c32_i32_2054 : BitVec 32 := 32#32
  let c0_i32_2055 : BitVec 32 := 0#32
  ![v1931.toNat, 32, 0]
def k0_off106 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2335 : Index := Scalar.indexCast v1931
  let c0_1450 : Index := 0#32
  ![v2335.toNat, 0]
def k0_off107 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2343 : Index := Scalar.indexCast v1931
  let c1_1455 : Index := 1#32
  ![v2343.toNat, 1]
def k0_off108 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1461 : BitVec 32 := 1#32
  let c5_i32_1462 : BitVec 32 := 5#32
  ![v1927.toNat, 1, 5]
def k0_off109 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1460 : BitVec 32 := 1#32
  let c40_i32_2052 : BitVec 32 := 40#32
  let c0_i32_2053 : BitVec 32 := 0#32
  ![v1927.toNat, 1, 40, 0]
def k0_off110 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c40_i32_2054 : BitVec 32 := 40#32
  let c0_i32_2055 : BitVec 32 := 0#32
  ![v1931.toNat, 40, 0]
def k0_off111 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2354 : Index := Scalar.indexCast v1931
  let c0_1464 : Index := 0#32
  ![v2354.toNat, 0]
def k0_off112 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2362 : Index := Scalar.indexCast v1931
  let c1_1469 : Index := 1#32
  ![v2362.toNat, 1]
def k0_off113 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1475 : BitVec 32 := 1#32
  let c6_i32_1476 : BitVec 32 := 6#32
  ![v1927.toNat, 1, 6]
def k0_off114 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1474 : BitVec 32 := 1#32
  let c48_i32_2052 : BitVec 32 := 48#32
  let c0_i32_2053 : BitVec 32 := 0#32
  ![v1927.toNat, 1, 48, 0]
def k0_off115 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c48_i32_2054 : BitVec 32 := 48#32
  let c0_i32_2055 : BitVec 32 := 0#32
  ![v1931.toNat, 48, 0]
def k0_off116 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2373 : Index := Scalar.indexCast v1931
  let c0_1478 : Index := 0#32
  ![v2373.toNat, 0]
def k0_off117 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2381 : Index := Scalar.indexCast v1931
  let c1_1483 : Index := 1#32
  ![v2381.toNat, 1]
def k0_off118 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1489 : BitVec 32 := 1#32
  let c7_i32_1490 : BitVec 32 := 7#32
  ![v1927.toNat, 1, 7]
def k0_off119 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1488 : BitVec 32 := 1#32
  let c56_i32_2052 : BitVec 32 := 56#32
  let c0_i32_2053 : BitVec 32 := 0#32
  ![v1927.toNat, 1, 56, 0]
def k0_off120 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c56_i32_2054 : BitVec 32 := 56#32
  let c0_i32_2055 : BitVec 32 := 0#32
  ![v1931.toNat, 56, 0]
def k0_off121 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2392 : Index := Scalar.indexCast v1931
  let c0_1492 : Index := 0#32
  ![v2392.toNat, 0]
def k0_off122 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2400 : Index := Scalar.indexCast v1931
  let c1_1497 : Index := 1#32
  ![v2400.toNat, 1]
def k0_off123 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1503 : BitVec 32 := 1#32
  let c8_i32_1504 : BitVec 32 := 8#32
  ![v1927.toNat, 1, 8]
def k0_off124 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1502 : BitVec 32 := 1#32
  let c64_i32_2052 : BitVec 32 := 64#32
  let c0_i32_2053 : BitVec 32 := 0#32
  ![v1927.toNat, 1, 64, 0]
def k0_off125 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c64_i32_2054 : BitVec 32 := 64#32
  let c0_i32_2055 : BitVec 32 := 0#32
  ![v1931.toNat, 64, 0]
def k0_off126 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2411 : Index := Scalar.indexCast v1931
  let c0_1506 : Index := 0#32
  ![v2411.toNat, 0]
def k0_off127 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2419 : Index := Scalar.indexCast v1931
  let c1_1511 : Index := 1#32
  ![v2419.toNat, 1]
def k0_off128 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1517 : BitVec 32 := 1#32
  let c9_i32_1518 : BitVec 32 := 9#32
  ![v1927.toNat, 1, 9]
def k0_off129 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1516 : BitVec 32 := 1#32
  let c72_i32_2052 : BitVec 32 := 72#32
  let c0_i32_2053 : BitVec 32 := 0#32
  ![v1927.toNat, 1, 72, 0]
def k0_off130 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c72_i32_2054 : BitVec 32 := 72#32
  let c0_i32_2055 : BitVec 32 := 0#32
  ![v1931.toNat, 72, 0]
def k0_off131 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2430 : Index := Scalar.indexCast v1931
  let c0_1520 : Index := 0#32
  ![v2430.toNat, 0]
def k0_off132 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2438 : Index := Scalar.indexCast v1931
  let c1_1525 : Index := 1#32
  ![v2438.toNat, 1]
def k0_off133 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1531 : BitVec 32 := 1#32
  let c10_i32_1532 : BitVec 32 := 10#32
  ![v1927.toNat, 1, 10]
def k0_off134 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1530 : BitVec 32 := 1#32
  let c80_i32_2052 : BitVec 32 := 80#32
  let c0_i32_2053 : BitVec 32 := 0#32
  ![v1927.toNat, 1, 80, 0]
def k0_off135 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c80_i32_2054 : BitVec 32 := 80#32
  let c0_i32_2055 : BitVec 32 := 0#32
  ![v1931.toNat, 80, 0]
def k0_off136 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2449 : Index := Scalar.indexCast v1931
  let c0_1534 : Index := 0#32
  ![v2449.toNat, 0]
def k0_off137 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2457 : Index := Scalar.indexCast v1931
  let c1_1539 : Index := 1#32
  ![v2457.toNat, 1]
def k0_off138 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1545 : BitVec 32 := 1#32
  let c11_i32_1546 : BitVec 32 := 11#32
  ![v1927.toNat, 1, 11]
def k0_off139 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1544 : BitVec 32 := 1#32
  let c88_i32_2052 : BitVec 32 := 88#32
  let c0_i32_2053 : BitVec 32 := 0#32
  ![v1927.toNat, 1, 88, 0]
def k0_off140 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c88_i32_2054 : BitVec 32 := 88#32
  let c0_i32_2055 : BitVec 32 := 0#32
  ![v1931.toNat, 88, 0]
def k0_off141 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2468 : Index := Scalar.indexCast v1931
  let c0_1548 : Index := 0#32
  ![v2468.toNat, 0]
def k0_off142 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2476 : Index := Scalar.indexCast v1931
  let c1_1553 : Index := 1#32
  ![v2476.toNat, 1]
def k0_off143 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1559 : BitVec 32 := 1#32
  let c12_i32_1560 : BitVec 32 := 12#32
  ![v1927.toNat, 1, 12]
def k0_off144 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1558 : BitVec 32 := 1#32
  let c96_i32_2052 : BitVec 32 := 96#32
  let c0_i32_2053 : BitVec 32 := 0#32
  ![v1927.toNat, 1, 96, 0]
def k0_off145 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c96_i32_2054 : BitVec 32 := 96#32
  let c0_i32_2055 : BitVec 32 := 0#32
  ![v1931.toNat, 96, 0]
def k0_off146 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2487 : Index := Scalar.indexCast v1931
  let c0_1562 : Index := 0#32
  ![v2487.toNat, 0]
def k0_off147 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2495 : Index := Scalar.indexCast v1931
  let c1_1567 : Index := 1#32
  ![v2495.toNat, 1]
def k0_off148 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1573 : BitVec 32 := 1#32
  let c13_i32_1574 : BitVec 32 := 13#32
  ![v1927.toNat, 1, 13]
def k0_off149 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1572 : BitVec 32 := 1#32
  let c104_i32_2052 : BitVec 32 := 104#32
  let c0_i32_2053 : BitVec 32 := 0#32
  ![v1927.toNat, 1, 104, 0]
def k0_off150 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c104_i32_2054 : BitVec 32 := 104#32
  let c0_i32_2055 : BitVec 32 := 0#32
  ![v1931.toNat, 104, 0]
def k0_off151 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2506 : Index := Scalar.indexCast v1931
  let c0_1576 : Index := 0#32
  ![v2506.toNat, 0]
def k0_off152 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2514 : Index := Scalar.indexCast v1931
  let c1_1581 : Index := 1#32
  ![v2514.toNat, 1]
def k0_off153 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1587 : BitVec 32 := 1#32
  let c14_i32_1588 : BitVec 32 := 14#32
  ![v1927.toNat, 1, 14]
def k0_off154 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1586 : BitVec 32 := 1#32
  let c112_i32_2052 : BitVec 32 := 112#32
  let c0_i32_2053 : BitVec 32 := 0#32
  ![v1927.toNat, 1, 112, 0]
def k0_off155 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c112_i32_2054 : BitVec 32 := 112#32
  let c0_i32_2055 : BitVec 32 := 0#32
  ![v1931.toNat, 112, 0]
def k0_off156 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2525 : Index := Scalar.indexCast v1931
  let c0_1590 : Index := 0#32
  ![v2525.toNat, 0]
def k0_off157 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let v2533 : Index := Scalar.indexCast v1931
  let c1_1595 : Index := 1#32
  ![v2533.toNat, 1]
def k0_off158 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1601 : BitVec 32 := 1#32
  let c15_i32_1602 : BitVec 32 := 15#32
  ![v1927.toNat, 1, 15]
def k0_off159 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c1_i32_1600 : BitVec 32 := 1#32
  let c120_i32_2052 : BitVec 32 := 120#32
  let c0_i32_2053 : BitVec 32 := 0#32
  ![v1927.toNat, 1, 120, 0]
def k0_off160 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1150 : BitVec 32 := 4#32
  let v1930 : BitVec 32 := Scalar.muli v1916 c4_i32_1150
  let c1_i32_1151 : BitVec 32 := 1#32
  let v1931 : BitVec 32 := Scalar.addi v1930 c1_i32_1151
  let c120_i32_2054 : BitVec 32 := 120#32
  let c0_i32_2055 : BitVec 32 := 0#32
  ![v1931.toNat, 120, 0]
def k0_off161 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2544 : Index := Scalar.indexCast v1933
  let c0_1604 : Index := 0#32
  ![v2544.toNat, 0]
def k0_off162 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2552 : Index := Scalar.indexCast v1933
  let c1_1609 : Index := 1#32
  ![v2552.toNat, 1]
def k0_off163 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1615 : BitVec 32 := 2#32
  let c0_i32_1616 : BitVec 32 := 0#32
  ![v1927.toNat, 2, 0]
def k0_off164 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1614 : BitVec 32 := 2#32
  let c0_i32_2052 : BitVec 32 := 0#32
  let c0_i32_2053 : BitVec 32 := 0#32
  ![v1927.toNat, 2, 0, 0]
def k0_off165 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c0_i32_2054 : BitVec 32 := 0#32
  let c0_i32_2055 : BitVec 32 := 0#32
  ![v1933.toNat, 0, 0]
def k0_off166 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2563 : Index := Scalar.indexCast v1933
  let c0_1618 : Index := 0#32
  ![v2563.toNat, 0]
def k0_off167 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2571 : Index := Scalar.indexCast v1933
  let c1_1623 : Index := 1#32
  ![v2571.toNat, 1]
def k0_off168 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1629 : BitVec 32 := 2#32
  let c1_i32_1630 : BitVec 32 := 1#32
  ![v1927.toNat, 2, 1]
def k0_off169 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1628 : BitVec 32 := 2#32
  let c8_i32_2052 : BitVec 32 := 8#32
  let c0_i32_2053 : BitVec 32 := 0#32
  ![v1927.toNat, 2, 8, 0]
def k0_off170 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c8_i32_2054 : BitVec 32 := 8#32
  let c0_i32_2055 : BitVec 32 := 0#32
  ![v1933.toNat, 8, 0]
def k0_off171 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2582 : Index := Scalar.indexCast v1933
  let c0_1632 : Index := 0#32
  ![v2582.toNat, 0]
def k0_off172 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2590 : Index := Scalar.indexCast v1933
  let c1_1637 : Index := 1#32
  ![v2590.toNat, 1]
def k0_off173 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1643 : BitVec 32 := 2#32
  let c2_i32_1644 : BitVec 32 := 2#32
  ![v1927.toNat, 2, 2]
def k0_off174 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1642 : BitVec 32 := 2#32
  let c16_i32_2052 : BitVec 32 := 16#32
  let c0_i32_2053 : BitVec 32 := 0#32
  ![v1927.toNat, 2, 16, 0]
def k0_off175 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c16_i32_2054 : BitVec 32 := 16#32
  let c0_i32_2055 : BitVec 32 := 0#32
  ![v1933.toNat, 16, 0]
def k0_off176 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2601 : Index := Scalar.indexCast v1933
  let c0_1646 : Index := 0#32
  ![v2601.toNat, 0]
def k0_off177 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2609 : Index := Scalar.indexCast v1933
  let c1_1651 : Index := 1#32
  ![v2609.toNat, 1]
def k0_off178 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1657 : BitVec 32 := 2#32
  let c3_i32_1658 : BitVec 32 := 3#32
  ![v1927.toNat, 2, 3]
def k0_off179 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1656 : BitVec 32 := 2#32
  let c24_i32_2052 : BitVec 32 := 24#32
  let c0_i32_2053 : BitVec 32 := 0#32
  ![v1927.toNat, 2, 24, 0]
def k0_off180 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c24_i32_2054 : BitVec 32 := 24#32
  let c0_i32_2055 : BitVec 32 := 0#32
  ![v1933.toNat, 24, 0]
def k0_off181 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2620 : Index := Scalar.indexCast v1933
  let c0_1660 : Index := 0#32
  ![v2620.toNat, 0]
def k0_off182 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2628 : Index := Scalar.indexCast v1933
  let c1_1665 : Index := 1#32
  ![v2628.toNat, 1]
def k0_off183 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1671 : BitVec 32 := 2#32
  let c4_i32_1672 : BitVec 32 := 4#32
  ![v1927.toNat, 2, 4]
def k0_off184 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1670 : BitVec 32 := 2#32
  let c32_i32_2052 : BitVec 32 := 32#32
  let c0_i32_2053 : BitVec 32 := 0#32
  ![v1927.toNat, 2, 32, 0]
def k0_off185 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c32_i32_2054 : BitVec 32 := 32#32
  let c0_i32_2055 : BitVec 32 := 0#32
  ![v1933.toNat, 32, 0]
def k0_off186 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2639 : Index := Scalar.indexCast v1933
  let c0_1674 : Index := 0#32
  ![v2639.toNat, 0]
def k0_off187 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2647 : Index := Scalar.indexCast v1933
  let c1_1679 : Index := 1#32
  ![v2647.toNat, 1]
def k0_off188 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1685 : BitVec 32 := 2#32
  let c5_i32_1686 : BitVec 32 := 5#32
  ![v1927.toNat, 2, 5]
def k0_off189 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1684 : BitVec 32 := 2#32
  let c40_i32_2052 : BitVec 32 := 40#32
  let c0_i32_2053 : BitVec 32 := 0#32
  ![v1927.toNat, 2, 40, 0]
def k0_off190 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c40_i32_2054 : BitVec 32 := 40#32
  let c0_i32_2055 : BitVec 32 := 0#32
  ![v1933.toNat, 40, 0]
def k0_off191 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2658 : Index := Scalar.indexCast v1933
  let c0_1688 : Index := 0#32
  ![v2658.toNat, 0]
def k0_off192 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2666 : Index := Scalar.indexCast v1933
  let c1_1693 : Index := 1#32
  ![v2666.toNat, 1]
def k0_off193 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1699 : BitVec 32 := 2#32
  let c6_i32_1700 : BitVec 32 := 6#32
  ![v1927.toNat, 2, 6]
def k0_off194 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1698 : BitVec 32 := 2#32
  let c48_i32_2052 : BitVec 32 := 48#32
  let c0_i32_2053 : BitVec 32 := 0#32
  ![v1927.toNat, 2, 48, 0]
def k0_off195 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c48_i32_2054 : BitVec 32 := 48#32
  let c0_i32_2055 : BitVec 32 := 0#32
  ![v1933.toNat, 48, 0]
def k0_off196 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2677 : Index := Scalar.indexCast v1933
  let c0_1702 : Index := 0#32
  ![v2677.toNat, 0]
def k0_off197 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2685 : Index := Scalar.indexCast v1933
  let c1_1707 : Index := 1#32
  ![v2685.toNat, 1]
def k0_off198 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1713 : BitVec 32 := 2#32
  let c7_i32_1714 : BitVec 32 := 7#32
  ![v1927.toNat, 2, 7]
def k0_off199 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1712 : BitVec 32 := 2#32
  let c56_i32_2052 : BitVec 32 := 56#32
  let c0_i32_2053 : BitVec 32 := 0#32
  ![v1927.toNat, 2, 56, 0]
def k0_off200 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c56_i32_2054 : BitVec 32 := 56#32
  let c0_i32_2055 : BitVec 32 := 0#32
  ![v1933.toNat, 56, 0]
def k0_off201 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2696 : Index := Scalar.indexCast v1933
  let c0_1716 : Index := 0#32
  ![v2696.toNat, 0]
def k0_off202 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2704 : Index := Scalar.indexCast v1933
  let c1_1721 : Index := 1#32
  ![v2704.toNat, 1]
def k0_off203 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1727 : BitVec 32 := 2#32
  let c8_i32_1728 : BitVec 32 := 8#32
  ![v1927.toNat, 2, 8]
def k0_off204 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1726 : BitVec 32 := 2#32
  let c64_i32_2052 : BitVec 32 := 64#32
  let c0_i32_2053 : BitVec 32 := 0#32
  ![v1927.toNat, 2, 64, 0]
def k0_off205 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c64_i32_2054 : BitVec 32 := 64#32
  let c0_i32_2055 : BitVec 32 := 0#32
  ![v1933.toNat, 64, 0]
def k0_off206 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2715 : Index := Scalar.indexCast v1933
  let c0_1730 : Index := 0#32
  ![v2715.toNat, 0]
def k0_off207 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2723 : Index := Scalar.indexCast v1933
  let c1_1735 : Index := 1#32
  ![v2723.toNat, 1]
def k0_off208 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1741 : BitVec 32 := 2#32
  let c9_i32_1742 : BitVec 32 := 9#32
  ![v1927.toNat, 2, 9]
def k0_off209 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1740 : BitVec 32 := 2#32
  let c72_i32_2052 : BitVec 32 := 72#32
  let c0_i32_2053 : BitVec 32 := 0#32
  ![v1927.toNat, 2, 72, 0]
def k0_off210 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c72_i32_2054 : BitVec 32 := 72#32
  let c0_i32_2055 : BitVec 32 := 0#32
  ![v1933.toNat, 72, 0]
def k0_off211 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2734 : Index := Scalar.indexCast v1933
  let c0_1744 : Index := 0#32
  ![v2734.toNat, 0]
def k0_off212 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2742 : Index := Scalar.indexCast v1933
  let c1_1749 : Index := 1#32
  ![v2742.toNat, 1]
def k0_off213 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1755 : BitVec 32 := 2#32
  let c10_i32_1756 : BitVec 32 := 10#32
  ![v1927.toNat, 2, 10]
def k0_off214 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1754 : BitVec 32 := 2#32
  let c80_i32_2052 : BitVec 32 := 80#32
  let c0_i32_2053 : BitVec 32 := 0#32
  ![v1927.toNat, 2, 80, 0]
def k0_off215 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c80_i32_2054 : BitVec 32 := 80#32
  let c0_i32_2055 : BitVec 32 := 0#32
  ![v1933.toNat, 80, 0]
def k0_off216 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2753 : Index := Scalar.indexCast v1933
  let c0_1758 : Index := 0#32
  ![v2753.toNat, 0]
def k0_off217 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2761 : Index := Scalar.indexCast v1933
  let c1_1763 : Index := 1#32
  ![v2761.toNat, 1]
def k0_off218 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1769 : BitVec 32 := 2#32
  let c11_i32_1770 : BitVec 32 := 11#32
  ![v1927.toNat, 2, 11]
def k0_off219 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1768 : BitVec 32 := 2#32
  let c88_i32_2052 : BitVec 32 := 88#32
  let c0_i32_2053 : BitVec 32 := 0#32
  ![v1927.toNat, 2, 88, 0]
def k0_off220 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c88_i32_2054 : BitVec 32 := 88#32
  let c0_i32_2055 : BitVec 32 := 0#32
  ![v1933.toNat, 88, 0]
def k0_off221 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2772 : Index := Scalar.indexCast v1933
  let c0_1772 : Index := 0#32
  ![v2772.toNat, 0]
def k0_off222 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2780 : Index := Scalar.indexCast v1933
  let c1_1777 : Index := 1#32
  ![v2780.toNat, 1]
def k0_off223 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1783 : BitVec 32 := 2#32
  let c12_i32_1784 : BitVec 32 := 12#32
  ![v1927.toNat, 2, 12]
def k0_off224 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1782 : BitVec 32 := 2#32
  let c96_i32_2052 : BitVec 32 := 96#32
  let c0_i32_2053 : BitVec 32 := 0#32
  ![v1927.toNat, 2, 96, 0]
def k0_off225 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c96_i32_2054 : BitVec 32 := 96#32
  let c0_i32_2055 : BitVec 32 := 0#32
  ![v1933.toNat, 96, 0]
def k0_off226 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2791 : Index := Scalar.indexCast v1933
  let c0_1786 : Index := 0#32
  ![v2791.toNat, 0]
def k0_off227 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2799 : Index := Scalar.indexCast v1933
  let c1_1791 : Index := 1#32
  ![v2799.toNat, 1]
def k0_off228 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1797 : BitVec 32 := 2#32
  let c13_i32_1798 : BitVec 32 := 13#32
  ![v1927.toNat, 2, 13]
def k0_off229 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1796 : BitVec 32 := 2#32
  let c104_i32_2052 : BitVec 32 := 104#32
  let c0_i32_2053 : BitVec 32 := 0#32
  ![v1927.toNat, 2, 104, 0]
def k0_off230 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c104_i32_2054 : BitVec 32 := 104#32
  let c0_i32_2055 : BitVec 32 := 0#32
  ![v1933.toNat, 104, 0]
def k0_off231 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2810 : Index := Scalar.indexCast v1933
  let c0_1800 : Index := 0#32
  ![v2810.toNat, 0]
def k0_off232 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2818 : Index := Scalar.indexCast v1933
  let c1_1805 : Index := 1#32
  ![v2818.toNat, 1]
def k0_off233 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1811 : BitVec 32 := 2#32
  let c14_i32_1812 : BitVec 32 := 14#32
  ![v1927.toNat, 2, 14]
def k0_off234 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1810 : BitVec 32 := 2#32
  let c112_i32_2052 : BitVec 32 := 112#32
  let c0_i32_2053 : BitVec 32 := 0#32
  ![v1927.toNat, 2, 112, 0]
def k0_off235 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c112_i32_2054 : BitVec 32 := 112#32
  let c0_i32_2055 : BitVec 32 := 0#32
  ![v1933.toNat, 112, 0]
def k0_off236 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2829 : Index := Scalar.indexCast v1933
  let c0_1814 : Index := 0#32
  ![v2829.toNat, 0]
def k0_off237 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let v2837 : Index := Scalar.indexCast v1933
  let c1_1819 : Index := 1#32
  ![v2837.toNat, 1]
def k0_off238 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1825 : BitVec 32 := 2#32
  let c15_i32_1826 : BitVec 32 := 15#32
  ![v1927.toNat, 2, 15]
def k0_off239 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c2_i32_1824 : BitVec 32 := 2#32
  let c120_i32_2052 : BitVec 32 := 120#32
  let c0_i32_2053 : BitVec 32 := 0#32
  ![v1927.toNat, 2, 120, 0]
def k0_off240 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1152 : BitVec 32 := 4#32
  let v1932 : BitVec 32 := Scalar.muli v1916 c4_i32_1152
  let c2_i32_1153 : BitVec 32 := 2#32
  let v1933 : BitVec 32 := Scalar.addi v1932 c2_i32_1153
  let c120_i32_2054 : BitVec 32 := 120#32
  let c0_i32_2055 : BitVec 32 := 0#32
  ![v1933.toNat, 120, 0]
def k0_off241 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2848 : Index := Scalar.indexCast v1935
  let c0_1828 : Index := 0#32
  ![v2848.toNat, 0]
def k0_off242 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2856 : Index := Scalar.indexCast v1935
  let c1_1833 : Index := 1#32
  ![v2856.toNat, 1]
def k0_off243 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1839 : BitVec 32 := 3#32
  let c0_i32_1840 : BitVec 32 := 0#32
  ![v1927.toNat, 3, 0]
def k0_off244 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1838 : BitVec 32 := 3#32
  let c0_i32_2052 : BitVec 32 := 0#32
  let c0_i32_2053 : BitVec 32 := 0#32
  ![v1927.toNat, 3, 0, 0]
def k0_off245 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c0_i32_2054 : BitVec 32 := 0#32
  let c0_i32_2055 : BitVec 32 := 0#32
  ![v1935.toNat, 0, 0]
def k0_off246 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2867 : Index := Scalar.indexCast v1935
  let c0_1842 : Index := 0#32
  ![v2867.toNat, 0]
def k0_off247 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2875 : Index := Scalar.indexCast v1935
  let c1_1847 : Index := 1#32
  ![v2875.toNat, 1]
def k0_off248 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1853 : BitVec 32 := 3#32
  let c1_i32_1854 : BitVec 32 := 1#32
  ![v1927.toNat, 3, 1]
def k0_off249 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1852 : BitVec 32 := 3#32
  let c8_i32_2052 : BitVec 32 := 8#32
  let c0_i32_2053 : BitVec 32 := 0#32
  ![v1927.toNat, 3, 8, 0]
def k0_off250 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c8_i32_2054 : BitVec 32 := 8#32
  let c0_i32_2055 : BitVec 32 := 0#32
  ![v1935.toNat, 8, 0]
def k0_off251 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2886 : Index := Scalar.indexCast v1935
  let c0_1856 : Index := 0#32
  ![v2886.toNat, 0]
def k0_off252 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2894 : Index := Scalar.indexCast v1935
  let c1_1861 : Index := 1#32
  ![v2894.toNat, 1]
def k0_off253 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1867 : BitVec 32 := 3#32
  let c2_i32_1868 : BitVec 32 := 2#32
  ![v1927.toNat, 3, 2]
def k0_off254 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1866 : BitVec 32 := 3#32
  let c16_i32_2052 : BitVec 32 := 16#32
  let c0_i32_2053 : BitVec 32 := 0#32
  ![v1927.toNat, 3, 16, 0]
def k0_off255 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c16_i32_2054 : BitVec 32 := 16#32
  let c0_i32_2055 : BitVec 32 := 0#32
  ![v1935.toNat, 16, 0]
def k0_off256 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2905 : Index := Scalar.indexCast v1935
  let c0_1870 : Index := 0#32
  ![v2905.toNat, 0]
def k0_off257 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2913 : Index := Scalar.indexCast v1935
  let c1_1875 : Index := 1#32
  ![v2913.toNat, 1]
def k0_off258 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1881 : BitVec 32 := 3#32
  let c3_i32_1882 : BitVec 32 := 3#32
  ![v1927.toNat, 3, 3]
def k0_off259 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1880 : BitVec 32 := 3#32
  let c24_i32_2052 : BitVec 32 := 24#32
  let c0_i32_2053 : BitVec 32 := 0#32
  ![v1927.toNat, 3, 24, 0]
def k0_off260 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c24_i32_2054 : BitVec 32 := 24#32
  let c0_i32_2055 : BitVec 32 := 0#32
  ![v1935.toNat, 24, 0]
def k0_off261 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2924 : Index := Scalar.indexCast v1935
  let c0_1884 : Index := 0#32
  ![v2924.toNat, 0]
def k0_off262 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2932 : Index := Scalar.indexCast v1935
  let c1_1889 : Index := 1#32
  ![v2932.toNat, 1]
def k0_off263 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1895 : BitVec 32 := 3#32
  let c4_i32_1896 : BitVec 32 := 4#32
  ![v1927.toNat, 3, 4]
def k0_off264 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1894 : BitVec 32 := 3#32
  let c32_i32_2052 : BitVec 32 := 32#32
  let c0_i32_2053 : BitVec 32 := 0#32
  ![v1927.toNat, 3, 32, 0]
def k0_off265 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c32_i32_2054 : BitVec 32 := 32#32
  let c0_i32_2055 : BitVec 32 := 0#32
  ![v1935.toNat, 32, 0]
def k0_off266 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2943 : Index := Scalar.indexCast v1935
  let c0_1898 : Index := 0#32
  ![v2943.toNat, 0]
def k0_off267 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2951 : Index := Scalar.indexCast v1935
  let c1_1903 : Index := 1#32
  ![v2951.toNat, 1]
def k0_off268 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1909 : BitVec 32 := 3#32
  let c5_i32_1910 : BitVec 32 := 5#32
  ![v1927.toNat, 3, 5]
def k0_off269 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1908 : BitVec 32 := 3#32
  let c40_i32_2052 : BitVec 32 := 40#32
  let c0_i32_2053 : BitVec 32 := 0#32
  ![v1927.toNat, 3, 40, 0]
def k0_off270 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c40_i32_2054 : BitVec 32 := 40#32
  let c0_i32_2055 : BitVec 32 := 0#32
  ![v1935.toNat, 40, 0]
def k0_off271 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2962 : Index := Scalar.indexCast v1935
  let c0_1912 : Index := 0#32
  ![v2962.toNat, 0]
def k0_off272 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2970 : Index := Scalar.indexCast v1935
  let c1_1917 : Index := 1#32
  ![v2970.toNat, 1]
def k0_off273 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1923 : BitVec 32 := 3#32
  let c6_i32_1924 : BitVec 32 := 6#32
  ![v1927.toNat, 3, 6]
def k0_off274 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1922 : BitVec 32 := 3#32
  let c48_i32_2052 : BitVec 32 := 48#32
  let c0_i32_2053 : BitVec 32 := 0#32
  ![v1927.toNat, 3, 48, 0]
def k0_off275 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c48_i32_2054 : BitVec 32 := 48#32
  let c0_i32_2055 : BitVec 32 := 0#32
  ![v1935.toNat, 48, 0]
def k0_off276 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2981 : Index := Scalar.indexCast v1935
  let c0_1926 : Index := 0#32
  ![v2981.toNat, 0]
def k0_off277 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v2989 : Index := Scalar.indexCast v1935
  let c1_1931 : Index := 1#32
  ![v2989.toNat, 1]
def k0_off278 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1937 : BitVec 32 := 3#32
  let c7_i32_1938 : BitVec 32 := 7#32
  ![v1927.toNat, 3, 7]
def k0_off279 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1936 : BitVec 32 := 3#32
  let c56_i32_2052 : BitVec 32 := 56#32
  let c0_i32_2053 : BitVec 32 := 0#32
  ![v1927.toNat, 3, 56, 0]
def k0_off280 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c56_i32_2054 : BitVec 32 := 56#32
  let c0_i32_2055 : BitVec 32 := 0#32
  ![v1935.toNat, 56, 0]
def k0_off281 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3000 : Index := Scalar.indexCast v1935
  let c0_1940 : Index := 0#32
  ![v3000.toNat, 0]
def k0_off282 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3008 : Index := Scalar.indexCast v1935
  let c1_1945 : Index := 1#32
  ![v3008.toNat, 1]
def k0_off283 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1951 : BitVec 32 := 3#32
  let c8_i32_1952 : BitVec 32 := 8#32
  ![v1927.toNat, 3, 8]
def k0_off284 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1950 : BitVec 32 := 3#32
  let c64_i32_2052 : BitVec 32 := 64#32
  let c0_i32_2053 : BitVec 32 := 0#32
  ![v1927.toNat, 3, 64, 0]
def k0_off285 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c64_i32_2054 : BitVec 32 := 64#32
  let c0_i32_2055 : BitVec 32 := 0#32
  ![v1935.toNat, 64, 0]
def k0_off286 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3019 : Index := Scalar.indexCast v1935
  let c0_1954 : Index := 0#32
  ![v3019.toNat, 0]
def k0_off287 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3027 : Index := Scalar.indexCast v1935
  let c1_1959 : Index := 1#32
  ![v3027.toNat, 1]
def k0_off288 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1965 : BitVec 32 := 3#32
  let c9_i32_1966 : BitVec 32 := 9#32
  ![v1927.toNat, 3, 9]
def k0_off289 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1964 : BitVec 32 := 3#32
  let c72_i32_2052 : BitVec 32 := 72#32
  let c0_i32_2053 : BitVec 32 := 0#32
  ![v1927.toNat, 3, 72, 0]
def k0_off290 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c72_i32_2054 : BitVec 32 := 72#32
  let c0_i32_2055 : BitVec 32 := 0#32
  ![v1935.toNat, 72, 0]
def k0_off291 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3038 : Index := Scalar.indexCast v1935
  let c0_1968 : Index := 0#32
  ![v3038.toNat, 0]
def k0_off292 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3046 : Index := Scalar.indexCast v1935
  let c1_1973 : Index := 1#32
  ![v3046.toNat, 1]
def k0_off293 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1979 : BitVec 32 := 3#32
  let c10_i32_1980 : BitVec 32 := 10#32
  ![v1927.toNat, 3, 10]
def k0_off294 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1978 : BitVec 32 := 3#32
  let c80_i32_2052 : BitVec 32 := 80#32
  let c0_i32_2053 : BitVec 32 := 0#32
  ![v1927.toNat, 3, 80, 0]
def k0_off295 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c80_i32_2054 : BitVec 32 := 80#32
  let c0_i32_2055 : BitVec 32 := 0#32
  ![v1935.toNat, 80, 0]
def k0_off296 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3057 : Index := Scalar.indexCast v1935
  let c0_1982 : Index := 0#32
  ![v3057.toNat, 0]
def k0_off297 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3065 : Index := Scalar.indexCast v1935
  let c1_1987 : Index := 1#32
  ![v3065.toNat, 1]
def k0_off298 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1993 : BitVec 32 := 3#32
  let c11_i32_1994 : BitVec 32 := 11#32
  ![v1927.toNat, 3, 11]
def k0_off299 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_1992 : BitVec 32 := 3#32
  let c88_i32_2052 : BitVec 32 := 88#32
  let c0_i32_2053 : BitVec 32 := 0#32
  ![v1927.toNat, 3, 88, 0]
def k0_off300 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c88_i32_2054 : BitVec 32 := 88#32
  let c0_i32_2055 : BitVec 32 := 0#32
  ![v1935.toNat, 88, 0]
def k0_off301 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3076 : Index := Scalar.indexCast v1935
  let c0_1996 : Index := 0#32
  ![v3076.toNat, 0]
def k0_off302 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3084 : Index := Scalar.indexCast v1935
  let c1_2001 : Index := 1#32
  ![v3084.toNat, 1]
def k0_off303 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_2007 : BitVec 32 := 3#32
  let c12_i32_2008 : BitVec 32 := 12#32
  ![v1927.toNat, 3, 12]
def k0_off304 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_2006 : BitVec 32 := 3#32
  let c96_i32_2052 : BitVec 32 := 96#32
  let c0_i32_2053 : BitVec 32 := 0#32
  ![v1927.toNat, 3, 96, 0]
def k0_off305 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c96_i32_2054 : BitVec 32 := 96#32
  let c0_i32_2055 : BitVec 32 := 0#32
  ![v1935.toNat, 96, 0]
def k0_off306 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3095 : Index := Scalar.indexCast v1935
  let c0_2010 : Index := 0#32
  ![v3095.toNat, 0]
def k0_off307 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3103 : Index := Scalar.indexCast v1935
  let c1_2015 : Index := 1#32
  ![v3103.toNat, 1]
def k0_off308 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_2021 : BitVec 32 := 3#32
  let c13_i32_2022 : BitVec 32 := 13#32
  ![v1927.toNat, 3, 13]
def k0_off309 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_2020 : BitVec 32 := 3#32
  let c104_i32_2052 : BitVec 32 := 104#32
  let c0_i32_2053 : BitVec 32 := 0#32
  ![v1927.toNat, 3, 104, 0]
def k0_off310 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c104_i32_2054 : BitVec 32 := 104#32
  let c0_i32_2055 : BitVec 32 := 0#32
  ![v1935.toNat, 104, 0]
def k0_off311 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3114 : Index := Scalar.indexCast v1935
  let c0_2024 : Index := 0#32
  ![v3114.toNat, 0]
def k0_off312 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3122 : Index := Scalar.indexCast v1935
  let c1_2029 : Index := 1#32
  ![v3122.toNat, 1]
def k0_off313 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_2035 : BitVec 32 := 3#32
  let c14_i32_2036 : BitVec 32 := 14#32
  ![v1927.toNat, 3, 14]
def k0_off314 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_2034 : BitVec 32 := 3#32
  let c112_i32_2052 : BitVec 32 := 112#32
  let c0_i32_2053 : BitVec 32 := 0#32
  ![v1927.toNat, 3, 112, 0]
def k0_off315 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c112_i32_2054 : BitVec 32 := 112#32
  let c0_i32_2055 : BitVec 32 := 0#32
  ![v1935.toNat, 112, 0]
def k0_off316 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3133 : Index := Scalar.indexCast v1935
  let c0_2038 : Index := 0#32
  ![v3133.toNat, 0]
def k0_off317 (i : grid0.Coords) : Fin 2 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let v3141 : Index := Scalar.indexCast v1935
  let c1_2043 : Index := 1#32
  ![v3141.toNat, 1]
def k0_off318 (i : grid0.Coords) : Fin 3 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_2049 : BitVec 32 := 3#32
  let c15_i32_2050 : BitVec 32 := 15#32
  ![v1927.toNat, 3, 15]
def k0_off319 (i : grid0.Coords) : Fin 4 → Nat :=
  let arg0 : BitVec 32 := BitVec.ofNat 32 (i 0).val
  let c1_i32_1141 : BitVec 32 := 1#32
  let v1917 : BitVec 32 := Scalar.addi arg0 c1_i32_1141
  let c2_i32_1142 : BitVec 32 := 2#32
  let c0_i32_1143 : BitVec 32 := 0#32
  let v1918 : BitVec 1 := Scalar.cmpi .eq c2_i32_1142 c0_i32_1143
  let c1_i32_1144 : BitVec 32 := 1#32
  let v1919 : BitVec 32 := Scalar.select v1918 c1_i32_1144 c2_i32_1142
  let v1920 : BitVec 32 := Scalar.remsi v1917 v1919
  let c0_i32_1146 : BitVec 32 := 0#32
  let v1922 : BitVec 1 := Scalar.cmpi .slt v1920 c0_i32_1146
  let c0_i32_1147 : BitVec 32 := 0#32
  let v1923 : BitVec 1 := Scalar.cmpi .slt v1919 c0_i32_1147
  let v1924 : BitVec 1 := Scalar.xori v1922 v1923
  let c0_i32_1145 : BitVec 32 := 0#32
  let v1921 : BitVec 1 := Scalar.cmpi .ne v1920 c0_i32_1145
  let v1925 : BitVec 1 := Scalar.andi v1924 v1921
  let v1926 : BitVec 32 := Scalar.addi v1920 v1919
  let v1927 : BitVec 32 := Scalar.select v1925 v1926 v1920
  let c3_i32_2048 : BitVec 32 := 3#32
  let c120_i32_2052 : BitVec 32 := 120#32
  let c0_i32_2053 : BitVec 32 := 0#32
  ![v1927.toNat, 3, 120, 0]
def k0_off320 (i : grid0.Coords) : Fin 3 → Nat :=
  let arg0 : BitVec 32 := BitVec.ofNat 32 (i 0).val
  let c1_i32_1140 : BitVec 32 := 1#32
  let v1916 : BitVec 32 := Scalar.addi arg0 c1_i32_1140
  let c4_i32_1154 : BitVec 32 := 4#32
  let v1934 : BitVec 32 := Scalar.muli v1916 c4_i32_1154
  let c3_i32_1155 : BitVec 32 := 3#32
  let v1935 : BitVec 32 := Scalar.addi v1934 c3_i32_1155
  let c120_i32_2054 : BitVec 32 := 120#32
  let c0_i32_2055 : BitVec 32 := 0#32
  ![v1935.toNat, 120, 0]
def k0_off321 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v25 : Index := Scalar.indexCast v18
  let c0 : Index := 0#32
  ![v25.toNat, 0]
def k0_off322 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v33 : Index := Scalar.indexCast v18
  let c1 : Index := 1#32
  ![v33.toNat, 1]
def k0_off323 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_19 : BitVec 32 := 0#32
  let c0_i32_20 : BitVec 32 := 0#32
  ![v16.toNat, 0, 0]
def k0_off324 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_18 : BitVec 32 := 0#32
  let c0_i32_1140 : BitVec 32 := 0#32
  let c0_i32_1141 : BitVec 32 := 0#32
  ![v16.toNat, 0, 0, 0]
def k0_off325 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c0_i32_1142 : BitVec 32 := 0#32
  let c0_i32_1143 : BitVec 32 := 0#32
  ![v18.toNat, 0, 0]
def k0_off326 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c0_1142 : Index := 0#32
  let c0_1143 : Index := 0#32
  ![v1917.toNat, 0, 0, 0]
def k0_off327 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v46 : Index := Scalar.indexCast v18
  let c0_23 : Index := 0#32
  ![v46.toNat, 0]
def k0_off328 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v54 : Index := Scalar.indexCast v18
  let c1_27 : Index := 1#32
  ![v54.toNat, 1]
def k0_off329 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_33 : BitVec 32 := 0#32
  let c1_i32_34 : BitVec 32 := 1#32
  ![v16.toNat, 0, 1]
def k0_off330 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_32 : BitVec 32 := 0#32
  let c8_i32_1140 : BitVec 32 := 8#32
  let c0_i32_1141 : BitVec 32 := 0#32
  ![v16.toNat, 0, 8, 0]
def k0_off331 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c8_i32_1142 : BitVec 32 := 8#32
  let c0_i32_1143 : BitVec 32 := 0#32
  ![v18.toNat, 8, 0]
def k0_off332 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c8_1142 : Index := 8#32
  let c0_1143 : Index := 0#32
  ![v1917.toNat, 0, 8, 0]
def k0_off333 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v67 : Index := Scalar.indexCast v18
  let c0_37 : Index := 0#32
  ![v67.toNat, 0]
def k0_off334 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v75 : Index := Scalar.indexCast v18
  let c1_41 : Index := 1#32
  ![v75.toNat, 1]
def k0_off335 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_47 : BitVec 32 := 0#32
  let c2_i32_48 : BitVec 32 := 2#32
  ![v16.toNat, 0, 2]
def k0_off336 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_46 : BitVec 32 := 0#32
  let c16_i32_1140 : BitVec 32 := 16#32
  let c0_i32_1141 : BitVec 32 := 0#32
  ![v16.toNat, 0, 16, 0]
def k0_off337 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c16_i32_1142 : BitVec 32 := 16#32
  let c0_i32_1143 : BitVec 32 := 0#32
  ![v18.toNat, 16, 0]
def k0_off338 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c16 : Index := 16#32
  let c0_1142 : Index := 0#32
  ![v1917.toNat, 0, 16, 0]
def k0_off339 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v88 : Index := Scalar.indexCast v18
  let c0_51 : Index := 0#32
  ![v88.toNat, 0]
def k0_off340 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v96 : Index := Scalar.indexCast v18
  let c1_56 : Index := 1#32
  ![v96.toNat, 1]
def k0_off341 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_62 : BitVec 32 := 0#32
  let c3_i32_63 : BitVec 32 := 3#32
  ![v16.toNat, 0, 3]
def k0_off342 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_61 : BitVec 32 := 0#32
  let c24_i32_1140 : BitVec 32 := 24#32
  let c0_i32_1141 : BitVec 32 := 0#32
  ![v16.toNat, 0, 24, 0]
def k0_off343 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c24_i32_1142 : BitVec 32 := 24#32
  let c0_i32_1143 : BitVec 32 := 0#32
  ![v18.toNat, 24, 0]
def k0_off344 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c24 : Index := 24#32
  let c0_1142 : Index := 0#32
  ![v1917.toNat, 0, 24, 0]
def k0_off345 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v109 : Index := Scalar.indexCast v18
  let c0_66 : Index := 0#32
  ![v109.toNat, 0]
def k0_off346 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v117 : Index := Scalar.indexCast v18
  let c1_70 : Index := 1#32
  ![v117.toNat, 1]
def k0_off347 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_76 : BitVec 32 := 0#32
  let c4_i32_77 : BitVec 32 := 4#32
  ![v16.toNat, 0, 4]
def k0_off348 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_75 : BitVec 32 := 0#32
  let c32_i32_1140 : BitVec 32 := 32#32
  let c0_i32_1141 : BitVec 32 := 0#32
  ![v16.toNat, 0, 32, 0]
def k0_off349 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c32_i32_1142 : BitVec 32 := 32#32
  let c0_i32_1143 : BitVec 32 := 0#32
  ![v18.toNat, 32, 0]
def k0_off350 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c32 : Index := 32#32
  let c0_1142 : Index := 0#32
  ![v1917.toNat, 0, 32, 0]
def k0_off351 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v130 : Index := Scalar.indexCast v18
  let c0_80 : Index := 0#32
  ![v130.toNat, 0]
def k0_off352 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v138 : Index := Scalar.indexCast v18
  let c1_84 : Index := 1#32
  ![v138.toNat, 1]
def k0_off353 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_90 : BitVec 32 := 0#32
  let c5_i32 : BitVec 32 := 5#32
  ![v16.toNat, 0, 5]
def k0_off354 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_89 : BitVec 32 := 0#32
  let c40_i32_1140 : BitVec 32 := 40#32
  let c0_i32_1141 : BitVec 32 := 0#32
  ![v16.toNat, 0, 40, 0]
def k0_off355 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c40_i32_1142 : BitVec 32 := 40#32
  let c0_i32_1143 : BitVec 32 := 0#32
  ![v18.toNat, 40, 0]
def k0_off356 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c40 : Index := 40#32
  let c0_1142 : Index := 0#32
  ![v1917.toNat, 0, 40, 0]
def k0_off357 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v151 : Index := Scalar.indexCast v18
  let c0_93 : Index := 0#32
  ![v151.toNat, 0]
def k0_off358 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v159 : Index := Scalar.indexCast v18
  let c1_97 : Index := 1#32
  ![v159.toNat, 1]
def k0_off359 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_103 : BitVec 32 := 0#32
  let c6_i32 : BitVec 32 := 6#32
  ![v16.toNat, 0, 6]
def k0_off360 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_102 : BitVec 32 := 0#32
  let c48_i32_1140 : BitVec 32 := 48#32
  let c0_i32_1141 : BitVec 32 := 0#32
  ![v16.toNat, 0, 48, 0]
def k0_off361 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c48_i32_1142 : BitVec 32 := 48#32
  let c0_i32_1143 : BitVec 32 := 0#32
  ![v18.toNat, 48, 0]
def k0_off362 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c48 : Index := 48#32
  let c0_1142 : Index := 0#32
  ![v1917.toNat, 0, 48, 0]
def k0_off363 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v172 : Index := Scalar.indexCast v18
  let c0_106 : Index := 0#32
  ![v172.toNat, 0]
def k0_off364 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v180 : Index := Scalar.indexCast v18
  let c1_110 : Index := 1#32
  ![v180.toNat, 1]
def k0_off365 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_116 : BitVec 32 := 0#32
  let c7_i32 : BitVec 32 := 7#32
  ![v16.toNat, 0, 7]
def k0_off366 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_115 : BitVec 32 := 0#32
  let c56_i32_1140 : BitVec 32 := 56#32
  let c0_i32_1141 : BitVec 32 := 0#32
  ![v16.toNat, 0, 56, 0]
def k0_off367 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c56_i32_1142 : BitVec 32 := 56#32
  let c0_i32_1143 : BitVec 32 := 0#32
  ![v18.toNat, 56, 0]
def k0_off368 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c56 : Index := 56#32
  let c0_1142 : Index := 0#32
  ![v1917.toNat, 0, 56, 0]
def k0_off369 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v193 : Index := Scalar.indexCast v18
  let c0_119 : Index := 0#32
  ![v193.toNat, 0]
def k0_off370 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v201 : Index := Scalar.indexCast v18
  let c1_123 : Index := 1#32
  ![v201.toNat, 1]
def k0_off371 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_129 : BitVec 32 := 0#32
  let c8_i32_130 : BitVec 32 := 8#32
  ![v16.toNat, 0, 8]
def k0_off372 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_128 : BitVec 32 := 0#32
  let c64_i32_1140 : BitVec 32 := 64#32
  let c0_i32_1141 : BitVec 32 := 0#32
  ![v16.toNat, 0, 64, 0]
def k0_off373 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c64_i32_1142 : BitVec 32 := 64#32
  let c0_i32_1143 : BitVec 32 := 0#32
  ![v18.toNat, 64, 0]
def k0_off374 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c64 : Index := 64#32
  let c0_1142 : Index := 0#32
  ![v1917.toNat, 0, 64, 0]
def k0_off375 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v214 : Index := Scalar.indexCast v18
  let c0_133 : Index := 0#32
  ![v214.toNat, 0]
def k0_off376 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v222 : Index := Scalar.indexCast v18
  let c1_137 : Index := 1#32
  ![v222.toNat, 1]
def k0_off377 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_143 : BitVec 32 := 0#32
  let c9_i32 : BitVec 32 := 9#32
  ![v16.toNat, 0, 9]
def k0_off378 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_142 : BitVec 32 := 0#32
  let c72_i32_1140 : BitVec 32 := 72#32
  let c0_i32_1141 : BitVec 32 := 0#32
  ![v16.toNat, 0, 72, 0]
def k0_off379 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c72_i32_1142 : BitVec 32 := 72#32
  let c0_i32_1143 : BitVec 32 := 0#32
  ![v18.toNat, 72, 0]
def k0_off380 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c72 : Index := 72#32
  let c0_1142 : Index := 0#32
  ![v1917.toNat, 0, 72, 0]
def k0_off381 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v235 : Index := Scalar.indexCast v18
  let c0_146 : Index := 0#32
  ![v235.toNat, 0]
def k0_off382 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v243 : Index := Scalar.indexCast v18
  let c1_150 : Index := 1#32
  ![v243.toNat, 1]
def k0_off383 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_156 : BitVec 32 := 0#32
  let c10_i32 : BitVec 32 := 10#32
  ![v16.toNat, 0, 10]
def k0_off384 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_155 : BitVec 32 := 0#32
  let c80_i32_1140 : BitVec 32 := 80#32
  let c0_i32_1141 : BitVec 32 := 0#32
  ![v16.toNat, 0, 80, 0]
def k0_off385 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c80_i32_1142 : BitVec 32 := 80#32
  let c0_i32_1143 : BitVec 32 := 0#32
  ![v18.toNat, 80, 0]
def k0_off386 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c80 : Index := 80#32
  let c0_1142 : Index := 0#32
  ![v1917.toNat, 0, 80, 0]
def k0_off387 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v256 : Index := Scalar.indexCast v18
  let c0_159 : Index := 0#32
  ![v256.toNat, 0]
def k0_off388 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v264 : Index := Scalar.indexCast v18
  let c1_163 : Index := 1#32
  ![v264.toNat, 1]
def k0_off389 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_169 : BitVec 32 := 0#32
  let c11_i32 : BitVec 32 := 11#32
  ![v16.toNat, 0, 11]
def k0_off390 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_168 : BitVec 32 := 0#32
  let c88_i32_1140 : BitVec 32 := 88#32
  let c0_i32_1141 : BitVec 32 := 0#32
  ![v16.toNat, 0, 88, 0]
def k0_off391 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c88_i32_1142 : BitVec 32 := 88#32
  let c0_i32_1143 : BitVec 32 := 0#32
  ![v18.toNat, 88, 0]
def k0_off392 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c88 : Index := 88#32
  let c0_1142 : Index := 0#32
  ![v1917.toNat, 0, 88, 0]
def k0_off393 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v277 : Index := Scalar.indexCast v18
  let c0_172 : Index := 0#32
  ![v277.toNat, 0]
def k0_off394 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v285 : Index := Scalar.indexCast v18
  let c1_176 : Index := 1#32
  ![v285.toNat, 1]
def k0_off395 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_182 : BitVec 32 := 0#32
  let c12_i32 : BitVec 32 := 12#32
  ![v16.toNat, 0, 12]
def k0_off396 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_181 : BitVec 32 := 0#32
  let c96_i32_1140 : BitVec 32 := 96#32
  let c0_i32_1141 : BitVec 32 := 0#32
  ![v16.toNat, 0, 96, 0]
def k0_off397 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c96_i32_1142 : BitVec 32 := 96#32
  let c0_i32_1143 : BitVec 32 := 0#32
  ![v18.toNat, 96, 0]
def k0_off398 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c96 : Index := 96#32
  let c0_1142 : Index := 0#32
  ![v1917.toNat, 0, 96, 0]
def k0_off399 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v298 : Index := Scalar.indexCast v18
  let c0_185 : Index := 0#32
  ![v298.toNat, 0]
def k0_off400 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v306 : Index := Scalar.indexCast v18
  let c1_189 : Index := 1#32
  ![v306.toNat, 1]
def k0_off401 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_195 : BitVec 32 := 0#32
  let c13_i32 : BitVec 32 := 13#32
  ![v16.toNat, 0, 13]
def k0_off402 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_194 : BitVec 32 := 0#32
  let c104_i32_1140 : BitVec 32 := 104#32
  let c0_i32_1141 : BitVec 32 := 0#32
  ![v16.toNat, 0, 104, 0]
def k0_off403 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c104_i32_1142 : BitVec 32 := 104#32
  let c0_i32_1143 : BitVec 32 := 0#32
  ![v18.toNat, 104, 0]
def k0_off404 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c104 : Index := 104#32
  let c0_1142 : Index := 0#32
  ![v1917.toNat, 0, 104, 0]
def k0_off405 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v319 : Index := Scalar.indexCast v18
  let c0_198 : Index := 0#32
  ![v319.toNat, 0]
def k0_off406 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v327 : Index := Scalar.indexCast v18
  let c1_202 : Index := 1#32
  ![v327.toNat, 1]
def k0_off407 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_208 : BitVec 32 := 0#32
  let c14_i32 : BitVec 32 := 14#32
  ![v16.toNat, 0, 14]
def k0_off408 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_207 : BitVec 32 := 0#32
  let c112_i32_1140 : BitVec 32 := 112#32
  let c0_i32_1141 : BitVec 32 := 0#32
  ![v16.toNat, 0, 112, 0]
def k0_off409 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c112_i32_1142 : BitVec 32 := 112#32
  let c0_i32_1143 : BitVec 32 := 0#32
  ![v18.toNat, 112, 0]
def k0_off410 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c112 : Index := 112#32
  let c0_1142 : Index := 0#32
  ![v1917.toNat, 0, 112, 0]
def k0_off411 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v340 : Index := Scalar.indexCast v18
  let c0_211 : Index := 0#32
  ![v340.toNat, 0]
def k0_off412 (i : grid0.Coords) : Fin 2 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let v348 : Index := Scalar.indexCast v18
  let c1_215 : Index := 1#32
  ![v348.toNat, 1]
def k0_off413 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_221 : BitVec 32 := 0#32
  let c15_i32 : BitVec 32 := 15#32
  ![v16.toNat, 0, 15]
def k0_off414 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_220 : BitVec 32 := 0#32
  let c120_i32_1140 : BitVec 32 := 120#32
  let c0_i32_1141 : BitVec 32 := 0#32
  ![v16.toNat, 0, 120, 0]
def k0_off415 (i : grid0.Coords) : Fin 3 → Nat :=
  let arg0 : BitVec 32 := BitVec.ofNat 32 (i 0).val
  let c4_i32 : BitVec 32 := 4#32
  let v17 : BitVec 32 := Scalar.muli arg0 c4_i32
  let c0_i32_7 : BitVec 32 := 0#32
  let v18 : BitVec 32 := Scalar.addi v17 c0_i32_7
  let c120_i32_1142 : BitVec 32 := 120#32
  let c0_i32_1143 : BitVec 32 := 0#32
  ![v18.toNat, 120, 0]
def k0_off416 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c0_1141 : Index := 0#32
  let c120 : Index := 120#32
  let c0_1142 : Index := 0#32
  ![v1917.toNat, 0, 120, 0]
def k0_off417 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v361 : Index := Scalar.indexCast v20
  let c0_224 : Index := 0#32
  ![v361.toNat, 0]
def k0_off418 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v369 : Index := Scalar.indexCast v20
  let c1_229 : Index := 1#32
  ![v369.toNat, 1]
def k0_off419 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_235 : BitVec 32 := 1#32
  let c0_i32_236 : BitVec 32 := 0#32
  ![v16.toNat, 1, 0]
def k0_off420 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_234 : BitVec 32 := 1#32
  let c0_i32_1140 : BitVec 32 := 0#32
  let c0_i32_1141 : BitVec 32 := 0#32
  ![v16.toNat, 1, 0, 0]
def k0_off421 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c0_i32_1142 : BitVec 32 := 0#32
  let c0_i32_1143 : BitVec 32 := 0#32
  ![v20.toNat, 0, 0]
def k0_off422 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c0_1142 : Index := 0#32
  let c0_1143 : Index := 0#32
  ![v1917.toNat, 1, 0, 0]
def k0_off423 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v382 : Index := Scalar.indexCast v20
  let c0_239 : Index := 0#32
  ![v382.toNat, 0]
def k0_off424 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v390 : Index := Scalar.indexCast v20
  let c1_244 : Index := 1#32
  ![v390.toNat, 1]
def k0_off425 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_250 : BitVec 32 := 1#32
  let c1_i32_251 : BitVec 32 := 1#32
  ![v16.toNat, 1, 1]
def k0_off426 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_249 : BitVec 32 := 1#32
  let c8_i32_1140 : BitVec 32 := 8#32
  let c0_i32_1141 : BitVec 32 := 0#32
  ![v16.toNat, 1, 8, 0]
def k0_off427 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c8_i32_1142 : BitVec 32 := 8#32
  let c0_i32_1143 : BitVec 32 := 0#32
  ![v20.toNat, 8, 0]
def k0_off428 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c8_1142 : Index := 8#32
  let c0_1143 : Index := 0#32
  ![v1917.toNat, 1, 8, 0]
def k0_off429 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v403 : Index := Scalar.indexCast v20
  let c0_254 : Index := 0#32
  ![v403.toNat, 0]
def k0_off430 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v411 : Index := Scalar.indexCast v20
  let c1_259 : Index := 1#32
  ![v411.toNat, 1]
def k0_off431 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_265 : BitVec 32 := 1#32
  let c2_i32_266 : BitVec 32 := 2#32
  ![v16.toNat, 1, 2]
def k0_off432 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_264 : BitVec 32 := 1#32
  let c16_i32_1140 : BitVec 32 := 16#32
  let c0_i32_1141 : BitVec 32 := 0#32
  ![v16.toNat, 1, 16, 0]
def k0_off433 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c16_i32_1142 : BitVec 32 := 16#32
  let c0_i32_1143 : BitVec 32 := 0#32
  ![v20.toNat, 16, 0]
def k0_off434 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c16 : Index := 16#32
  let c0_1142 : Index := 0#32
  ![v1917.toNat, 1, 16, 0]
def k0_off435 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v424 : Index := Scalar.indexCast v20
  let c0_269 : Index := 0#32
  ![v424.toNat, 0]
def k0_off436 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v432 : Index := Scalar.indexCast v20
  let c1_274 : Index := 1#32
  ![v432.toNat, 1]
def k0_off437 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_280 : BitVec 32 := 1#32
  let c3_i32_281 : BitVec 32 := 3#32
  ![v16.toNat, 1, 3]
def k0_off438 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_279 : BitVec 32 := 1#32
  let c24_i32_1140 : BitVec 32 := 24#32
  let c0_i32_1141 : BitVec 32 := 0#32
  ![v16.toNat, 1, 24, 0]
def k0_off439 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c24_i32_1142 : BitVec 32 := 24#32
  let c0_i32_1143 : BitVec 32 := 0#32
  ![v20.toNat, 24, 0]
def k0_off440 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c24 : Index := 24#32
  let c0_1142 : Index := 0#32
  ![v1917.toNat, 1, 24, 0]
def k0_off441 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v445 : Index := Scalar.indexCast v20
  let c0_284 : Index := 0#32
  ![v445.toNat, 0]
def k0_off442 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v453 : Index := Scalar.indexCast v20
  let c1_289 : Index := 1#32
  ![v453.toNat, 1]
def k0_off443 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_295 : BitVec 32 := 1#32
  let c4_i32_296 : BitVec 32 := 4#32
  ![v16.toNat, 1, 4]
def k0_off444 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_294 : BitVec 32 := 1#32
  let c32_i32_1140 : BitVec 32 := 32#32
  let c0_i32_1141 : BitVec 32 := 0#32
  ![v16.toNat, 1, 32, 0]
def k0_off445 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c32_i32_1142 : BitVec 32 := 32#32
  let c0_i32_1143 : BitVec 32 := 0#32
  ![v20.toNat, 32, 0]
def k0_off446 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c32 : Index := 32#32
  let c0_1142 : Index := 0#32
  ![v1917.toNat, 1, 32, 0]
def k0_off447 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v466 : Index := Scalar.indexCast v20
  let c0_299 : Index := 0#32
  ![v466.toNat, 0]
def k0_off448 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v474 : Index := Scalar.indexCast v20
  let c1_304 : Index := 1#32
  ![v474.toNat, 1]
def k0_off449 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_310 : BitVec 32 := 1#32
  let c5_i32_311 : BitVec 32 := 5#32
  ![v16.toNat, 1, 5]
def k0_off450 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_309 : BitVec 32 := 1#32
  let c40_i32_1140 : BitVec 32 := 40#32
  let c0_i32_1141 : BitVec 32 := 0#32
  ![v16.toNat, 1, 40, 0]
def k0_off451 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c40_i32_1142 : BitVec 32 := 40#32
  let c0_i32_1143 : BitVec 32 := 0#32
  ![v20.toNat, 40, 0]
def k0_off452 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c40 : Index := 40#32
  let c0_1142 : Index := 0#32
  ![v1917.toNat, 1, 40, 0]
def k0_off453 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v487 : Index := Scalar.indexCast v20
  let c0_314 : Index := 0#32
  ![v487.toNat, 0]
def k0_off454 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v495 : Index := Scalar.indexCast v20
  let c1_319 : Index := 1#32
  ![v495.toNat, 1]
def k0_off455 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_325 : BitVec 32 := 1#32
  let c6_i32_326 : BitVec 32 := 6#32
  ![v16.toNat, 1, 6]
def k0_off456 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_324 : BitVec 32 := 1#32
  let c48_i32_1140 : BitVec 32 := 48#32
  let c0_i32_1141 : BitVec 32 := 0#32
  ![v16.toNat, 1, 48, 0]
def k0_off457 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c48_i32_1142 : BitVec 32 := 48#32
  let c0_i32_1143 : BitVec 32 := 0#32
  ![v20.toNat, 48, 0]
def k0_off458 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c48 : Index := 48#32
  let c0_1142 : Index := 0#32
  ![v1917.toNat, 1, 48, 0]
def k0_off459 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v508 : Index := Scalar.indexCast v20
  let c0_329 : Index := 0#32
  ![v508.toNat, 0]
def k0_off460 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v516 : Index := Scalar.indexCast v20
  let c1_334 : Index := 1#32
  ![v516.toNat, 1]
def k0_off461 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_340 : BitVec 32 := 1#32
  let c7_i32_341 : BitVec 32 := 7#32
  ![v16.toNat, 1, 7]
def k0_off462 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_339 : BitVec 32 := 1#32
  let c56_i32_1140 : BitVec 32 := 56#32
  let c0_i32_1141 : BitVec 32 := 0#32
  ![v16.toNat, 1, 56, 0]
def k0_off463 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c56_i32_1142 : BitVec 32 := 56#32
  let c0_i32_1143 : BitVec 32 := 0#32
  ![v20.toNat, 56, 0]
def k0_off464 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c56 : Index := 56#32
  let c0_1142 : Index := 0#32
  ![v1917.toNat, 1, 56, 0]
def k0_off465 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v529 : Index := Scalar.indexCast v20
  let c0_344 : Index := 0#32
  ![v529.toNat, 0]
def k0_off466 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v537 : Index := Scalar.indexCast v20
  let c1_349 : Index := 1#32
  ![v537.toNat, 1]
def k0_off467 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_355 : BitVec 32 := 1#32
  let c8_i32_356 : BitVec 32 := 8#32
  ![v16.toNat, 1, 8]
def k0_off468 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_354 : BitVec 32 := 1#32
  let c64_i32_1140 : BitVec 32 := 64#32
  let c0_i32_1141 : BitVec 32 := 0#32
  ![v16.toNat, 1, 64, 0]
def k0_off469 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c64_i32_1142 : BitVec 32 := 64#32
  let c0_i32_1143 : BitVec 32 := 0#32
  ![v20.toNat, 64, 0]
def k0_off470 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c64 : Index := 64#32
  let c0_1142 : Index := 0#32
  ![v1917.toNat, 1, 64, 0]
def k0_off471 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v550 : Index := Scalar.indexCast v20
  let c0_359 : Index := 0#32
  ![v550.toNat, 0]
def k0_off472 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v558 : Index := Scalar.indexCast v20
  let c1_364 : Index := 1#32
  ![v558.toNat, 1]
def k0_off473 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_370 : BitVec 32 := 1#32
  let c9_i32_371 : BitVec 32 := 9#32
  ![v16.toNat, 1, 9]
def k0_off474 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_369 : BitVec 32 := 1#32
  let c72_i32_1140 : BitVec 32 := 72#32
  let c0_i32_1141 : BitVec 32 := 0#32
  ![v16.toNat, 1, 72, 0]
def k0_off475 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c72_i32_1142 : BitVec 32 := 72#32
  let c0_i32_1143 : BitVec 32 := 0#32
  ![v20.toNat, 72, 0]
def k0_off476 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c72 : Index := 72#32
  let c0_1142 : Index := 0#32
  ![v1917.toNat, 1, 72, 0]
def k0_off477 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v571 : Index := Scalar.indexCast v20
  let c0_374 : Index := 0#32
  ![v571.toNat, 0]
def k0_off478 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v579 : Index := Scalar.indexCast v20
  let c1_379 : Index := 1#32
  ![v579.toNat, 1]
def k0_off479 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_385 : BitVec 32 := 1#32
  let c10_i32_386 : BitVec 32 := 10#32
  ![v16.toNat, 1, 10]
def k0_off480 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_384 : BitVec 32 := 1#32
  let c80_i32_1140 : BitVec 32 := 80#32
  let c0_i32_1141 : BitVec 32 := 0#32
  ![v16.toNat, 1, 80, 0]
def k0_off481 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c80_i32_1142 : BitVec 32 := 80#32
  let c0_i32_1143 : BitVec 32 := 0#32
  ![v20.toNat, 80, 0]
def k0_off482 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c80 : Index := 80#32
  let c0_1142 : Index := 0#32
  ![v1917.toNat, 1, 80, 0]
def k0_off483 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v592 : Index := Scalar.indexCast v20
  let c0_389 : Index := 0#32
  ![v592.toNat, 0]
def k0_off484 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v600 : Index := Scalar.indexCast v20
  let c1_394 : Index := 1#32
  ![v600.toNat, 1]
def k0_off485 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_400 : BitVec 32 := 1#32
  let c11_i32_401 : BitVec 32 := 11#32
  ![v16.toNat, 1, 11]
def k0_off486 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_399 : BitVec 32 := 1#32
  let c88_i32_1140 : BitVec 32 := 88#32
  let c0_i32_1141 : BitVec 32 := 0#32
  ![v16.toNat, 1, 88, 0]
def k0_off487 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c88_i32_1142 : BitVec 32 := 88#32
  let c0_i32_1143 : BitVec 32 := 0#32
  ![v20.toNat, 88, 0]
def k0_off488 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c88 : Index := 88#32
  let c0_1142 : Index := 0#32
  ![v1917.toNat, 1, 88, 0]
def k0_off489 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v613 : Index := Scalar.indexCast v20
  let c0_404 : Index := 0#32
  ![v613.toNat, 0]
def k0_off490 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v621 : Index := Scalar.indexCast v20
  let c1_409 : Index := 1#32
  ![v621.toNat, 1]
def k0_off491 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_415 : BitVec 32 := 1#32
  let c12_i32_416 : BitVec 32 := 12#32
  ![v16.toNat, 1, 12]
def k0_off492 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_414 : BitVec 32 := 1#32
  let c96_i32_1140 : BitVec 32 := 96#32
  let c0_i32_1141 : BitVec 32 := 0#32
  ![v16.toNat, 1, 96, 0]
def k0_off493 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c96_i32_1142 : BitVec 32 := 96#32
  let c0_i32_1143 : BitVec 32 := 0#32
  ![v20.toNat, 96, 0]
def k0_off494 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c96 : Index := 96#32
  let c0_1142 : Index := 0#32
  ![v1917.toNat, 1, 96, 0]
def k0_off495 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v634 : Index := Scalar.indexCast v20
  let c0_419 : Index := 0#32
  ![v634.toNat, 0]
def k0_off496 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v642 : Index := Scalar.indexCast v20
  let c1_424 : Index := 1#32
  ![v642.toNat, 1]
def k0_off497 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_430 : BitVec 32 := 1#32
  let c13_i32_431 : BitVec 32 := 13#32
  ![v16.toNat, 1, 13]
def k0_off498 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_429 : BitVec 32 := 1#32
  let c104_i32_1140 : BitVec 32 := 104#32
  let c0_i32_1141 : BitVec 32 := 0#32
  ![v16.toNat, 1, 104, 0]
def k0_off499 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c104_i32_1142 : BitVec 32 := 104#32
  let c0_i32_1143 : BitVec 32 := 0#32
  ![v20.toNat, 104, 0]
def k0_off500 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c104 : Index := 104#32
  let c0_1142 : Index := 0#32
  ![v1917.toNat, 1, 104, 0]
def k0_off501 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v655 : Index := Scalar.indexCast v20
  let c0_434 : Index := 0#32
  ![v655.toNat, 0]
def k0_off502 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v663 : Index := Scalar.indexCast v20
  let c1_439 : Index := 1#32
  ![v663.toNat, 1]
def k0_off503 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_445 : BitVec 32 := 1#32
  let c14_i32_446 : BitVec 32 := 14#32
  ![v16.toNat, 1, 14]
def k0_off504 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_444 : BitVec 32 := 1#32
  let c112_i32_1140 : BitVec 32 := 112#32
  let c0_i32_1141 : BitVec 32 := 0#32
  ![v16.toNat, 1, 112, 0]
def k0_off505 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c112_i32_1142 : BitVec 32 := 112#32
  let c0_i32_1143 : BitVec 32 := 0#32
  ![v20.toNat, 112, 0]
def k0_off506 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c112 : Index := 112#32
  let c0_1142 : Index := 0#32
  ![v1917.toNat, 1, 112, 0]
def k0_off507 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v676 : Index := Scalar.indexCast v20
  let c0_449 : Index := 0#32
  ![v676.toNat, 0]
def k0_off508 (i : grid0.Coords) : Fin 2 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let v684 : Index := Scalar.indexCast v20
  let c1_454 : Index := 1#32
  ![v684.toNat, 1]
def k0_off509 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_460 : BitVec 32 := 1#32
  let c15_i32_461 : BitVec 32 := 15#32
  ![v16.toNat, 1, 15]
def k0_off510 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_459 : BitVec 32 := 1#32
  let c120_i32_1140 : BitVec 32 := 120#32
  let c0_i32_1141 : BitVec 32 := 0#32
  ![v16.toNat, 1, 120, 0]
def k0_off511 (i : grid0.Coords) : Fin 3 → Nat :=
  let arg0 : BitVec 32 := BitVec.ofNat 32 (i 0).val
  let c4_i32_8 : BitVec 32 := 4#32
  let v19 : BitVec 32 := Scalar.muli arg0 c4_i32_8
  let c1_i32_9 : BitVec 32 := 1#32
  let v20 : BitVec 32 := Scalar.addi v19 c1_i32_9
  let c120_i32_1142 : BitVec 32 := 120#32
  let c0_i32_1143 : BitVec 32 := 0#32
  ![v20.toNat, 120, 0]
def k0_off512 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c1_1141 : Index := 1#32
  let c120 : Index := 120#32
  let c0_1142 : Index := 0#32
  ![v1917.toNat, 1, 120, 0]
def k0_off513 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v697 : Index := Scalar.indexCast v22
  let c0_464 : Index := 0#32
  ![v697.toNat, 0]
def k0_off514 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v705 : Index := Scalar.indexCast v22
  let c1_469 : Index := 1#32
  ![v705.toNat, 1]
def k0_off515 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_475 : BitVec 32 := 2#32
  let c0_i32_476 : BitVec 32 := 0#32
  ![v16.toNat, 2, 0]
def k0_off516 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_474 : BitVec 32 := 2#32
  let c0_i32_1140 : BitVec 32 := 0#32
  let c0_i32_1141 : BitVec 32 := 0#32
  ![v16.toNat, 2, 0, 0]
def k0_off517 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c0_i32_1142 : BitVec 32 := 0#32
  let c0_i32_1143 : BitVec 32 := 0#32
  ![v22.toNat, 0, 0]
def k0_off518 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c0_1142 : Index := 0#32
  let c0_1143 : Index := 0#32
  ![v1917.toNat, 2, 0, 0]
def k0_off519 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v718 : Index := Scalar.indexCast v22
  let c0_479 : Index := 0#32
  ![v718.toNat, 0]
def k0_off520 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v726 : Index := Scalar.indexCast v22
  let c1_484 : Index := 1#32
  ![v726.toNat, 1]
def k0_off521 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_490 : BitVec 32 := 2#32
  let c1_i32_491 : BitVec 32 := 1#32
  ![v16.toNat, 2, 1]
def k0_off522 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_489 : BitVec 32 := 2#32
  let c8_i32_1140 : BitVec 32 := 8#32
  let c0_i32_1141 : BitVec 32 := 0#32
  ![v16.toNat, 2, 8, 0]
def k0_off523 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c8_i32_1142 : BitVec 32 := 8#32
  let c0_i32_1143 : BitVec 32 := 0#32
  ![v22.toNat, 8, 0]
def k0_off524 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c8_1142 : Index := 8#32
  let c0_1143 : Index := 0#32
  ![v1917.toNat, 2, 8, 0]
def k0_off525 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v739 : Index := Scalar.indexCast v22
  let c0_494 : Index := 0#32
  ![v739.toNat, 0]
def k0_off526 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v747 : Index := Scalar.indexCast v22
  let c1_499 : Index := 1#32
  ![v747.toNat, 1]
def k0_off527 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_505 : BitVec 32 := 2#32
  let c2_i32_506 : BitVec 32 := 2#32
  ![v16.toNat, 2, 2]
def k0_off528 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_504 : BitVec 32 := 2#32
  let c16_i32_1140 : BitVec 32 := 16#32
  let c0_i32_1141 : BitVec 32 := 0#32
  ![v16.toNat, 2, 16, 0]
def k0_off529 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c16_i32_1142 : BitVec 32 := 16#32
  let c0_i32_1143 : BitVec 32 := 0#32
  ![v22.toNat, 16, 0]
def k0_off530 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c16 : Index := 16#32
  let c0_1142 : Index := 0#32
  ![v1917.toNat, 2, 16, 0]
def k0_off531 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v760 : Index := Scalar.indexCast v22
  let c0_509 : Index := 0#32
  ![v760.toNat, 0]
def k0_off532 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v768 : Index := Scalar.indexCast v22
  let c1_514 : Index := 1#32
  ![v768.toNat, 1]
def k0_off533 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_520 : BitVec 32 := 2#32
  let c3_i32_521 : BitVec 32 := 3#32
  ![v16.toNat, 2, 3]
def k0_off534 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_519 : BitVec 32 := 2#32
  let c24_i32_1140 : BitVec 32 := 24#32
  let c0_i32_1141 : BitVec 32 := 0#32
  ![v16.toNat, 2, 24, 0]
def k0_off535 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c24_i32_1142 : BitVec 32 := 24#32
  let c0_i32_1143 : BitVec 32 := 0#32
  ![v22.toNat, 24, 0]
def k0_off536 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c24 : Index := 24#32
  let c0_1142 : Index := 0#32
  ![v1917.toNat, 2, 24, 0]
def k0_off537 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v781 : Index := Scalar.indexCast v22
  let c0_524 : Index := 0#32
  ![v781.toNat, 0]
def k0_off538 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v789 : Index := Scalar.indexCast v22
  let c1_529 : Index := 1#32
  ![v789.toNat, 1]
def k0_off539 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_535 : BitVec 32 := 2#32
  let c4_i32_536 : BitVec 32 := 4#32
  ![v16.toNat, 2, 4]
def k0_off540 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_534 : BitVec 32 := 2#32
  let c32_i32_1140 : BitVec 32 := 32#32
  let c0_i32_1141 : BitVec 32 := 0#32
  ![v16.toNat, 2, 32, 0]
def k0_off541 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c32_i32_1142 : BitVec 32 := 32#32
  let c0_i32_1143 : BitVec 32 := 0#32
  ![v22.toNat, 32, 0]
def k0_off542 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c32 : Index := 32#32
  let c0_1142 : Index := 0#32
  ![v1917.toNat, 2, 32, 0]
def k0_off543 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v802 : Index := Scalar.indexCast v22
  let c0_539 : Index := 0#32
  ![v802.toNat, 0]
def k0_off544 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v810 : Index := Scalar.indexCast v22
  let c1_544 : Index := 1#32
  ![v810.toNat, 1]
def k0_off545 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_550 : BitVec 32 := 2#32
  let c5_i32_551 : BitVec 32 := 5#32
  ![v16.toNat, 2, 5]
def k0_off546 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_549 : BitVec 32 := 2#32
  let c40_i32_1140 : BitVec 32 := 40#32
  let c0_i32_1141 : BitVec 32 := 0#32
  ![v16.toNat, 2, 40, 0]
def k0_off547 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c40_i32_1142 : BitVec 32 := 40#32
  let c0_i32_1143 : BitVec 32 := 0#32
  ![v22.toNat, 40, 0]
def k0_off548 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c40 : Index := 40#32
  let c0_1142 : Index := 0#32
  ![v1917.toNat, 2, 40, 0]
def k0_off549 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v823 : Index := Scalar.indexCast v22
  let c0_554 : Index := 0#32
  ![v823.toNat, 0]
def k0_off550 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v831 : Index := Scalar.indexCast v22
  let c1_559 : Index := 1#32
  ![v831.toNat, 1]
def k0_off551 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_565 : BitVec 32 := 2#32
  let c6_i32_566 : BitVec 32 := 6#32
  ![v16.toNat, 2, 6]
def k0_off552 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_564 : BitVec 32 := 2#32
  let c48_i32_1140 : BitVec 32 := 48#32
  let c0_i32_1141 : BitVec 32 := 0#32
  ![v16.toNat, 2, 48, 0]
def k0_off553 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c48_i32_1142 : BitVec 32 := 48#32
  let c0_i32_1143 : BitVec 32 := 0#32
  ![v22.toNat, 48, 0]
def k0_off554 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c48 : Index := 48#32
  let c0_1142 : Index := 0#32
  ![v1917.toNat, 2, 48, 0]
def k0_off555 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v844 : Index := Scalar.indexCast v22
  let c0_569 : Index := 0#32
  ![v844.toNat, 0]
def k0_off556 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v852 : Index := Scalar.indexCast v22
  let c1_574 : Index := 1#32
  ![v852.toNat, 1]
def k0_off557 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_580 : BitVec 32 := 2#32
  let c7_i32_581 : BitVec 32 := 7#32
  ![v16.toNat, 2, 7]
def k0_off558 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_579 : BitVec 32 := 2#32
  let c56_i32_1140 : BitVec 32 := 56#32
  let c0_i32_1141 : BitVec 32 := 0#32
  ![v16.toNat, 2, 56, 0]
def k0_off559 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c56_i32_1142 : BitVec 32 := 56#32
  let c0_i32_1143 : BitVec 32 := 0#32
  ![v22.toNat, 56, 0]
def k0_off560 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c56 : Index := 56#32
  let c0_1142 : Index := 0#32
  ![v1917.toNat, 2, 56, 0]
def k0_off561 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v865 : Index := Scalar.indexCast v22
  let c0_584 : Index := 0#32
  ![v865.toNat, 0]
def k0_off562 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v873 : Index := Scalar.indexCast v22
  let c1_589 : Index := 1#32
  ![v873.toNat, 1]
def k0_off563 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_595 : BitVec 32 := 2#32
  let c8_i32_596 : BitVec 32 := 8#32
  ![v16.toNat, 2, 8]
def k0_off564 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_594 : BitVec 32 := 2#32
  let c64_i32_1140 : BitVec 32 := 64#32
  let c0_i32_1141 : BitVec 32 := 0#32
  ![v16.toNat, 2, 64, 0]
def k0_off565 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c64_i32_1142 : BitVec 32 := 64#32
  let c0_i32_1143 : BitVec 32 := 0#32
  ![v22.toNat, 64, 0]
def k0_off566 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c64 : Index := 64#32
  let c0_1142 : Index := 0#32
  ![v1917.toNat, 2, 64, 0]
def k0_off567 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v886 : Index := Scalar.indexCast v22
  let c0_599 : Index := 0#32
  ![v886.toNat, 0]
def k0_off568 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v894 : Index := Scalar.indexCast v22
  let c1_604 : Index := 1#32
  ![v894.toNat, 1]
def k0_off569 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_610 : BitVec 32 := 2#32
  let c9_i32_611 : BitVec 32 := 9#32
  ![v16.toNat, 2, 9]
def k0_off570 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_609 : BitVec 32 := 2#32
  let c72_i32_1140 : BitVec 32 := 72#32
  let c0_i32_1141 : BitVec 32 := 0#32
  ![v16.toNat, 2, 72, 0]
def k0_off571 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c72_i32_1142 : BitVec 32 := 72#32
  let c0_i32_1143 : BitVec 32 := 0#32
  ![v22.toNat, 72, 0]
def k0_off572 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c72 : Index := 72#32
  let c0_1142 : Index := 0#32
  ![v1917.toNat, 2, 72, 0]
def k0_off573 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v907 : Index := Scalar.indexCast v22
  let c0_614 : Index := 0#32
  ![v907.toNat, 0]
def k0_off574 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v915 : Index := Scalar.indexCast v22
  let c1_619 : Index := 1#32
  ![v915.toNat, 1]
def k0_off575 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_625 : BitVec 32 := 2#32
  let c10_i32_626 : BitVec 32 := 10#32
  ![v16.toNat, 2, 10]
def k0_off576 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_624 : BitVec 32 := 2#32
  let c80_i32_1140 : BitVec 32 := 80#32
  let c0_i32_1141 : BitVec 32 := 0#32
  ![v16.toNat, 2, 80, 0]
def k0_off577 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c80_i32_1142 : BitVec 32 := 80#32
  let c0_i32_1143 : BitVec 32 := 0#32
  ![v22.toNat, 80, 0]
def k0_off578 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c80 : Index := 80#32
  let c0_1142 : Index := 0#32
  ![v1917.toNat, 2, 80, 0]
def k0_off579 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v928 : Index := Scalar.indexCast v22
  let c0_629 : Index := 0#32
  ![v928.toNat, 0]
def k0_off580 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v936 : Index := Scalar.indexCast v22
  let c1_634 : Index := 1#32
  ![v936.toNat, 1]
def k0_off581 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_640 : BitVec 32 := 2#32
  let c11_i32_641 : BitVec 32 := 11#32
  ![v16.toNat, 2, 11]
def k0_off582 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_639 : BitVec 32 := 2#32
  let c88_i32_1140 : BitVec 32 := 88#32
  let c0_i32_1141 : BitVec 32 := 0#32
  ![v16.toNat, 2, 88, 0]
def k0_off583 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c88_i32_1142 : BitVec 32 := 88#32
  let c0_i32_1143 : BitVec 32 := 0#32
  ![v22.toNat, 88, 0]
def k0_off584 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c88 : Index := 88#32
  let c0_1142 : Index := 0#32
  ![v1917.toNat, 2, 88, 0]
def k0_off585 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v949 : Index := Scalar.indexCast v22
  let c0_644 : Index := 0#32
  ![v949.toNat, 0]
def k0_off586 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v957 : Index := Scalar.indexCast v22
  let c1_649 : Index := 1#32
  ![v957.toNat, 1]
def k0_off587 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_655 : BitVec 32 := 2#32
  let c12_i32_656 : BitVec 32 := 12#32
  ![v16.toNat, 2, 12]
def k0_off588 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_654 : BitVec 32 := 2#32
  let c96_i32_1140 : BitVec 32 := 96#32
  let c0_i32_1141 : BitVec 32 := 0#32
  ![v16.toNat, 2, 96, 0]
def k0_off589 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c96_i32_1142 : BitVec 32 := 96#32
  let c0_i32_1143 : BitVec 32 := 0#32
  ![v22.toNat, 96, 0]
def k0_off590 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c96 : Index := 96#32
  let c0_1142 : Index := 0#32
  ![v1917.toNat, 2, 96, 0]
def k0_off591 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v970 : Index := Scalar.indexCast v22
  let c0_659 : Index := 0#32
  ![v970.toNat, 0]
def k0_off592 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v978 : Index := Scalar.indexCast v22
  let c1_664 : Index := 1#32
  ![v978.toNat, 1]
def k0_off593 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_670 : BitVec 32 := 2#32
  let c13_i32_671 : BitVec 32 := 13#32
  ![v16.toNat, 2, 13]
def k0_off594 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_669 : BitVec 32 := 2#32
  let c104_i32_1140 : BitVec 32 := 104#32
  let c0_i32_1141 : BitVec 32 := 0#32
  ![v16.toNat, 2, 104, 0]
def k0_off595 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c104_i32_1142 : BitVec 32 := 104#32
  let c0_i32_1143 : BitVec 32 := 0#32
  ![v22.toNat, 104, 0]
def k0_off596 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c104 : Index := 104#32
  let c0_1142 : Index := 0#32
  ![v1917.toNat, 2, 104, 0]
def k0_off597 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v991 : Index := Scalar.indexCast v22
  let c0_674 : Index := 0#32
  ![v991.toNat, 0]
def k0_off598 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v999 : Index := Scalar.indexCast v22
  let c1_679 : Index := 1#32
  ![v999.toNat, 1]
def k0_off599 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_685 : BitVec 32 := 2#32
  let c14_i32_686 : BitVec 32 := 14#32
  ![v16.toNat, 2, 14]
def k0_off600 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_684 : BitVec 32 := 2#32
  let c112_i32_1140 : BitVec 32 := 112#32
  let c0_i32_1141 : BitVec 32 := 0#32
  ![v16.toNat, 2, 112, 0]
def k0_off601 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c112_i32_1142 : BitVec 32 := 112#32
  let c0_i32_1143 : BitVec 32 := 0#32
  ![v22.toNat, 112, 0]
def k0_off602 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c112 : Index := 112#32
  let c0_1142 : Index := 0#32
  ![v1917.toNat, 2, 112, 0]
def k0_off603 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v1012 : Index := Scalar.indexCast v22
  let c0_689 : Index := 0#32
  ![v1012.toNat, 0]
def k0_off604 (i : grid0.Coords) : Fin 2 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let v1020 : Index := Scalar.indexCast v22
  let c1_694 : Index := 1#32
  ![v1020.toNat, 1]
def k0_off605 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_700 : BitVec 32 := 2#32
  let c15_i32_701 : BitVec 32 := 15#32
  ![v16.toNat, 2, 15]
def k0_off606 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_699 : BitVec 32 := 2#32
  let c120_i32_1140 : BitVec 32 := 120#32
  let c0_i32_1141 : BitVec 32 := 0#32
  ![v16.toNat, 2, 120, 0]
def k0_off607 (i : grid0.Coords) : Fin 3 → Nat :=
  let arg0 : BitVec 32 := BitVec.ofNat 32 (i 0).val
  let c4_i32_10 : BitVec 32 := 4#32
  let v21 : BitVec 32 := Scalar.muli arg0 c4_i32_10
  let c2_i32_11 : BitVec 32 := 2#32
  let v22 : BitVec 32 := Scalar.addi v21 c2_i32_11
  let c120_i32_1142 : BitVec 32 := 120#32
  let c0_i32_1143 : BitVec 32 := 0#32
  ![v22.toNat, 120, 0]
def k0_off608 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c2_1141 : Index := 2#32
  let c120 : Index := 120#32
  let c0_1142 : Index := 0#32
  ![v1917.toNat, 2, 120, 0]
def k0_off609 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1033 : Index := Scalar.indexCast v24
  let c0_704 : Index := 0#32
  ![v1033.toNat, 0]
def k0_off610 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1041 : Index := Scalar.indexCast v24
  let c1_709 : Index := 1#32
  ![v1041.toNat, 1]
def k0_off611 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_715 : BitVec 32 := 3#32
  let c0_i32_716 : BitVec 32 := 0#32
  ![v16.toNat, 3, 0]
def k0_off612 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_714 : BitVec 32 := 3#32
  let c0_i32_1140 : BitVec 32 := 0#32
  let c0_i32_1141 : BitVec 32 := 0#32
  ![v16.toNat, 3, 0, 0]
def k0_off613 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c0_i32_1142 : BitVec 32 := 0#32
  let c0_i32_1143 : BitVec 32 := 0#32
  ![v24.toNat, 0, 0]
def k0_off614 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c0_1142 : Index := 0#32
  let c0_1143 : Index := 0#32
  ![v1917.toNat, 3, 0, 0]
def k0_off615 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1054 : Index := Scalar.indexCast v24
  let c0_719 : Index := 0#32
  ![v1054.toNat, 0]
def k0_off616 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1062 : Index := Scalar.indexCast v24
  let c1_724 : Index := 1#32
  ![v1062.toNat, 1]
def k0_off617 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_730 : BitVec 32 := 3#32
  let c1_i32_731 : BitVec 32 := 1#32
  ![v16.toNat, 3, 1]
def k0_off618 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_729 : BitVec 32 := 3#32
  let c8_i32_1140 : BitVec 32 := 8#32
  let c0_i32_1141 : BitVec 32 := 0#32
  ![v16.toNat, 3, 8, 0]
def k0_off619 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c8_i32_1142 : BitVec 32 := 8#32
  let c0_i32_1143 : BitVec 32 := 0#32
  ![v24.toNat, 8, 0]
def k0_off620 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c8_1142 : Index := 8#32
  let c0_1143 : Index := 0#32
  ![v1917.toNat, 3, 8, 0]
def k0_off621 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1075 : Index := Scalar.indexCast v24
  let c0_734 : Index := 0#32
  ![v1075.toNat, 0]
def k0_off622 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1083 : Index := Scalar.indexCast v24
  let c1_739 : Index := 1#32
  ![v1083.toNat, 1]
def k0_off623 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_745 : BitVec 32 := 3#32
  let c2_i32_746 : BitVec 32 := 2#32
  ![v16.toNat, 3, 2]
def k0_off624 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_744 : BitVec 32 := 3#32
  let c16_i32_1140 : BitVec 32 := 16#32
  let c0_i32_1141 : BitVec 32 := 0#32
  ![v16.toNat, 3, 16, 0]
def k0_off625 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c16_i32_1142 : BitVec 32 := 16#32
  let c0_i32_1143 : BitVec 32 := 0#32
  ![v24.toNat, 16, 0]
def k0_off626 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c16 : Index := 16#32
  let c0_1142 : Index := 0#32
  ![v1917.toNat, 3, 16, 0]
def k0_off627 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1096 : Index := Scalar.indexCast v24
  let c0_749 : Index := 0#32
  ![v1096.toNat, 0]
def k0_off628 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1104 : Index := Scalar.indexCast v24
  let c1_754 : Index := 1#32
  ![v1104.toNat, 1]
def k0_off629 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_760 : BitVec 32 := 3#32
  let c3_i32_761 : BitVec 32 := 3#32
  ![v16.toNat, 3, 3]
def k0_off630 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_759 : BitVec 32 := 3#32
  let c24_i32_1140 : BitVec 32 := 24#32
  let c0_i32_1141 : BitVec 32 := 0#32
  ![v16.toNat, 3, 24, 0]
def k0_off631 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c24_i32_1142 : BitVec 32 := 24#32
  let c0_i32_1143 : BitVec 32 := 0#32
  ![v24.toNat, 24, 0]
def k0_off632 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c24 : Index := 24#32
  let c0_1142 : Index := 0#32
  ![v1917.toNat, 3, 24, 0]
def k0_off633 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1117 : Index := Scalar.indexCast v24
  let c0_764 : Index := 0#32
  ![v1117.toNat, 0]
def k0_off634 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1125 : Index := Scalar.indexCast v24
  let c1_769 : Index := 1#32
  ![v1125.toNat, 1]
def k0_off635 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_775 : BitVec 32 := 3#32
  let c4_i32_776 : BitVec 32 := 4#32
  ![v16.toNat, 3, 4]
def k0_off636 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_774 : BitVec 32 := 3#32
  let c32_i32_1140 : BitVec 32 := 32#32
  let c0_i32_1141 : BitVec 32 := 0#32
  ![v16.toNat, 3, 32, 0]
def k0_off637 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c32_i32_1142 : BitVec 32 := 32#32
  let c0_i32_1143 : BitVec 32 := 0#32
  ![v24.toNat, 32, 0]
def k0_off638 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c32 : Index := 32#32
  let c0_1142 : Index := 0#32
  ![v1917.toNat, 3, 32, 0]
def k0_off639 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1138 : Index := Scalar.indexCast v24
  let c0_779 : Index := 0#32
  ![v1138.toNat, 0]
def k0_off640 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1146 : Index := Scalar.indexCast v24
  let c1_784 : Index := 1#32
  ![v1146.toNat, 1]
def k0_off641 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_790 : BitVec 32 := 3#32
  let c5_i32_791 : BitVec 32 := 5#32
  ![v16.toNat, 3, 5]
def k0_off642 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_789 : BitVec 32 := 3#32
  let c40_i32_1140 : BitVec 32 := 40#32
  let c0_i32_1141 : BitVec 32 := 0#32
  ![v16.toNat, 3, 40, 0]
def k0_off643 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c40_i32_1142 : BitVec 32 := 40#32
  let c0_i32_1143 : BitVec 32 := 0#32
  ![v24.toNat, 40, 0]
def k0_off644 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c40 : Index := 40#32
  let c0_1142 : Index := 0#32
  ![v1917.toNat, 3, 40, 0]
def k0_off645 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1159 : Index := Scalar.indexCast v24
  let c0_794 : Index := 0#32
  ![v1159.toNat, 0]
def k0_off646 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1167 : Index := Scalar.indexCast v24
  let c1_799 : Index := 1#32
  ![v1167.toNat, 1]
def k0_off647 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_805 : BitVec 32 := 3#32
  let c6_i32_806 : BitVec 32 := 6#32
  ![v16.toNat, 3, 6]
def k0_off648 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_804 : BitVec 32 := 3#32
  let c48_i32_1140 : BitVec 32 := 48#32
  let c0_i32_1141 : BitVec 32 := 0#32
  ![v16.toNat, 3, 48, 0]
def k0_off649 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c48_i32_1142 : BitVec 32 := 48#32
  let c0_i32_1143 : BitVec 32 := 0#32
  ![v24.toNat, 48, 0]
def k0_off650 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c48 : Index := 48#32
  let c0_1142 : Index := 0#32
  ![v1917.toNat, 3, 48, 0]
def k0_off651 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1180 : Index := Scalar.indexCast v24
  let c0_809 : Index := 0#32
  ![v1180.toNat, 0]
def k0_off652 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1188 : Index := Scalar.indexCast v24
  let c1_814 : Index := 1#32
  ![v1188.toNat, 1]
def k0_off653 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_820 : BitVec 32 := 3#32
  let c7_i32_821 : BitVec 32 := 7#32
  ![v16.toNat, 3, 7]
def k0_off654 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_819 : BitVec 32 := 3#32
  let c56_i32_1140 : BitVec 32 := 56#32
  let c0_i32_1141 : BitVec 32 := 0#32
  ![v16.toNat, 3, 56, 0]
def k0_off655 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c56_i32_1142 : BitVec 32 := 56#32
  let c0_i32_1143 : BitVec 32 := 0#32
  ![v24.toNat, 56, 0]
def k0_off656 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c56 : Index := 56#32
  let c0_1142 : Index := 0#32
  ![v1917.toNat, 3, 56, 0]
def k0_off657 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1201 : Index := Scalar.indexCast v24
  let c0_824 : Index := 0#32
  ![v1201.toNat, 0]
def k0_off658 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1209 : Index := Scalar.indexCast v24
  let c1_829 : Index := 1#32
  ![v1209.toNat, 1]
def k0_off659 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_835 : BitVec 32 := 3#32
  let c8_i32_836 : BitVec 32 := 8#32
  ![v16.toNat, 3, 8]
def k0_off660 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_834 : BitVec 32 := 3#32
  let c64_i32_1140 : BitVec 32 := 64#32
  let c0_i32_1141 : BitVec 32 := 0#32
  ![v16.toNat, 3, 64, 0]
def k0_off661 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c64_i32_1142 : BitVec 32 := 64#32
  let c0_i32_1143 : BitVec 32 := 0#32
  ![v24.toNat, 64, 0]
def k0_off662 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c64 : Index := 64#32
  let c0_1142 : Index := 0#32
  ![v1917.toNat, 3, 64, 0]
def k0_off663 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1222 : Index := Scalar.indexCast v24
  let c0_839 : Index := 0#32
  ![v1222.toNat, 0]
def k0_off664 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1230 : Index := Scalar.indexCast v24
  let c1_844 : Index := 1#32
  ![v1230.toNat, 1]
def k0_off665 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_850 : BitVec 32 := 3#32
  let c9_i32_851 : BitVec 32 := 9#32
  ![v16.toNat, 3, 9]
def k0_off666 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_849 : BitVec 32 := 3#32
  let c72_i32_1140 : BitVec 32 := 72#32
  let c0_i32_1141 : BitVec 32 := 0#32
  ![v16.toNat, 3, 72, 0]
def k0_off667 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c72_i32_1142 : BitVec 32 := 72#32
  let c0_i32_1143 : BitVec 32 := 0#32
  ![v24.toNat, 72, 0]
def k0_off668 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c72 : Index := 72#32
  let c0_1142 : Index := 0#32
  ![v1917.toNat, 3, 72, 0]
def k0_off669 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1243 : Index := Scalar.indexCast v24
  let c0_854 : Index := 0#32
  ![v1243.toNat, 0]
def k0_off670 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1251 : Index := Scalar.indexCast v24
  let c1_859 : Index := 1#32
  ![v1251.toNat, 1]
def k0_off671 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_865 : BitVec 32 := 3#32
  let c10_i32_866 : BitVec 32 := 10#32
  ![v16.toNat, 3, 10]
def k0_off672 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_864 : BitVec 32 := 3#32
  let c80_i32_1140 : BitVec 32 := 80#32
  let c0_i32_1141 : BitVec 32 := 0#32
  ![v16.toNat, 3, 80, 0]
def k0_off673 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c80_i32_1142 : BitVec 32 := 80#32
  let c0_i32_1143 : BitVec 32 := 0#32
  ![v24.toNat, 80, 0]
def k0_off674 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c80 : Index := 80#32
  let c0_1142 : Index := 0#32
  ![v1917.toNat, 3, 80, 0]
def k0_off675 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1264 : Index := Scalar.indexCast v24
  let c0_869 : Index := 0#32
  ![v1264.toNat, 0]
def k0_off676 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1272 : Index := Scalar.indexCast v24
  let c1_874 : Index := 1#32
  ![v1272.toNat, 1]
def k0_off677 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_880 : BitVec 32 := 3#32
  let c11_i32_881 : BitVec 32 := 11#32
  ![v16.toNat, 3, 11]
def k0_off678 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_879 : BitVec 32 := 3#32
  let c88_i32_1140 : BitVec 32 := 88#32
  let c0_i32_1141 : BitVec 32 := 0#32
  ![v16.toNat, 3, 88, 0]
def k0_off679 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c88_i32_1142 : BitVec 32 := 88#32
  let c0_i32_1143 : BitVec 32 := 0#32
  ![v24.toNat, 88, 0]
def k0_off680 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c88 : Index := 88#32
  let c0_1142 : Index := 0#32
  ![v1917.toNat, 3, 88, 0]
def k0_off681 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1285 : Index := Scalar.indexCast v24
  let c0_884 : Index := 0#32
  ![v1285.toNat, 0]
def k0_off682 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1293 : Index := Scalar.indexCast v24
  let c1_889 : Index := 1#32
  ![v1293.toNat, 1]
def k0_off683 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_895 : BitVec 32 := 3#32
  let c12_i32_896 : BitVec 32 := 12#32
  ![v16.toNat, 3, 12]
def k0_off684 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_894 : BitVec 32 := 3#32
  let c96_i32_1140 : BitVec 32 := 96#32
  let c0_i32_1141 : BitVec 32 := 0#32
  ![v16.toNat, 3, 96, 0]
def k0_off685 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c96_i32_1142 : BitVec 32 := 96#32
  let c0_i32_1143 : BitVec 32 := 0#32
  ![v24.toNat, 96, 0]
def k0_off686 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c96 : Index := 96#32
  let c0_1142 : Index := 0#32
  ![v1917.toNat, 3, 96, 0]
def k0_off687 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1306 : Index := Scalar.indexCast v24
  let c0_899 : Index := 0#32
  ![v1306.toNat, 0]
def k0_off688 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1314 : Index := Scalar.indexCast v24
  let c1_904 : Index := 1#32
  ![v1314.toNat, 1]
def k0_off689 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_910 : BitVec 32 := 3#32
  let c13_i32_911 : BitVec 32 := 13#32
  ![v16.toNat, 3, 13]
def k0_off690 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_909 : BitVec 32 := 3#32
  let c104_i32_1140 : BitVec 32 := 104#32
  let c0_i32_1141 : BitVec 32 := 0#32
  ![v16.toNat, 3, 104, 0]
def k0_off691 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c104_i32_1142 : BitVec 32 := 104#32
  let c0_i32_1143 : BitVec 32 := 0#32
  ![v24.toNat, 104, 0]
def k0_off692 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c104 : Index := 104#32
  let c0_1142 : Index := 0#32
  ![v1917.toNat, 3, 104, 0]
def k0_off693 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1327 : Index := Scalar.indexCast v24
  let c0_914 : Index := 0#32
  ![v1327.toNat, 0]
def k0_off694 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1335 : Index := Scalar.indexCast v24
  let c1_919 : Index := 1#32
  ![v1335.toNat, 1]
def k0_off695 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_925 : BitVec 32 := 3#32
  let c14_i32_926 : BitVec 32 := 14#32
  ![v16.toNat, 3, 14]
def k0_off696 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_924 : BitVec 32 := 3#32
  let c112_i32_1140 : BitVec 32 := 112#32
  let c0_i32_1141 : BitVec 32 := 0#32
  ![v16.toNat, 3, 112, 0]
def k0_off697 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c112_i32_1142 : BitVec 32 := 112#32
  let c0_i32_1143 : BitVec 32 := 0#32
  ![v24.toNat, 112, 0]
def k0_off698 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c112 : Index := 112#32
  let c0_1142 : Index := 0#32
  ![v1917.toNat, 3, 112, 0]
def k0_off699 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1348 : Index := Scalar.indexCast v24
  let c0_929 : Index := 0#32
  ![v1348.toNat, 0]
def k0_off700 (i : grid0.Coords) : Fin 2 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let v1356 : Index := Scalar.indexCast v24
  let c1_934 : Index := 1#32
  ![v1356.toNat, 1]
def k0_off701 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_940 : BitVec 32 := 3#32
  let c15_i32_941 : BitVec 32 := 15#32
  ![v16.toNat, 3, 15]
def k0_off702 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_939 : BitVec 32 := 3#32
  let c120_i32_1140 : BitVec 32 := 120#32
  let c0_i32_1141 : BitVec 32 := 0#32
  ![v16.toNat, 3, 120, 0]
def k0_off703 (i : grid0.Coords) : Fin 3 → Nat :=
  let arg0 : BitVec 32 := BitVec.ofNat 32 (i 0).val
  let c4_i32_12 : BitVec 32 := 4#32
  let v23 : BitVec 32 := Scalar.muli arg0 c4_i32_12
  let c3_i32 : BitVec 32 := 3#32
  let v24 : BitVec 32 := Scalar.addi v23 c3_i32
  let c120_i32_1142 : BitVec 32 := 120#32
  let c0_i32_1143 : BitVec 32 := 0#32
  ![v24.toNat, 120, 0]
def k0_off704 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1917 : Index := Scalar.indexCast v16
  let c3_1141 : Index := 3#32
  let c120 : Index := 120#32
  let c0_1142 : Index := 0#32
  ![v1917.toNat, 3, 120, 0]
def k0_off705 (i : grid0.Coords) (c0_i32_946 : BitVec 32) : Fin 2 → Nat :=
  let arg0 : BitVec 32 := BitVec.ofNat 32 (i 0).val
  let c4_i32_944 : BitVec 32 := 4#32
  let v1369 : BitVec 32 := Scalar.muli arg0 c4_i32_944
  let v1373 : BitVec 32 := Scalar.addi v1369 c0_i32_946
  let v1374 : Index := Scalar.indexCast v1373
  let c0_947 : Index := 0#32
  ![v1374.toNat, 0]
def k0_off706 (i : grid0.Coords) (c0_i32_962 : BitVec 32) : Fin 2 → Nat :=
  let arg0 : BitVec 32 := BitVec.ofNat 32 (i 0).val
  let c4_i32_944 : BitVec 32 := 4#32
  let v1369 : BitVec 32 := Scalar.muli arg0 c4_i32_944
  let v1417 : BitVec 32 := Scalar.addi v1369 c0_i32_962
  let v1418 : Index := Scalar.indexCast v1417
  let c1_963 : Index := 1#32
  ![v1418.toNat, 1]
def k0_off707 (i : grid0.Coords) (c0_i32_979 : BitVec 32) : Fin 2 → Nat :=
  let arg0 : BitVec 32 := BitVec.ofNat 32 (i 0).val
  let c4_i32_944 : BitVec 32 := 4#32
  let v1369 : BitVec 32 := Scalar.muli arg0 c4_i32_944
  let v1462 : BitVec 32 := Scalar.addi v1369 c0_i32_979
  let v1463 : Index := Scalar.indexCast v1462
  let c0_980 : Index := 0#32
  ![v1463.toNat, 0]
def k0_off708 (i : grid0.Coords) (c0_i32_995 : BitVec 32) : Fin 2 → Nat :=
  let arg0 : BitVec 32 := BitVec.ofNat 32 (i 0).val
  let c4_i32_944 : BitVec 32 := 4#32
  let v1369 : BitVec 32 := Scalar.muli arg0 c4_i32_944
  let v1506 : BitVec 32 := Scalar.addi v1369 c0_i32_995
  let v1507 : Index := Scalar.indexCast v1506
  let c1_996 : Index := 1#32
  ![v1507.toNat, 1]
def k0_off709 (i : grid0.Coords) (c0_i32_1011 : BitVec 32) : Fin 2 → Nat :=
  let arg0 : BitVec 32 := BitVec.ofNat 32 (i 0).val
  let c4_i32_944 : BitVec 32 := 4#32
  let v1369 : BitVec 32 := Scalar.muli arg0 c4_i32_944
  let v1550 : BitVec 32 := Scalar.addi v1369 c0_i32_1011
  let v1551 : Index := Scalar.indexCast v1550
  let c2 : Index := 2#32
  ![v1551.toNat, 2]
def k0_off710 (i : grid0.Coords) (c0_i32_1026 : BitVec 32) : Fin 2 → Nat :=
  let arg0 : BitVec 32 := BitVec.ofNat 32 (i 0).val
  let c4_i32_944 : BitVec 32 := 4#32
  let v1369 : BitVec 32 := Scalar.muli arg0 c4_i32_944
  let v1594 : BitVec 32 := Scalar.addi v1369 c0_i32_1026
  let v1595 : Index := Scalar.indexCast v1594
  let c3 : Index := 3#32
  ![v1595.toNat, 3]
def k0_off711 (i : grid0.Coords) (c0_i32_1041 : BitVec 32) : Fin 2 → Nat :=
  let arg0 : BitVec 32 := BitVec.ofNat 32 (i 0).val
  let c4_i32_944 : BitVec 32 := 4#32
  let v1369 : BitVec 32 := Scalar.muli arg0 c4_i32_944
  let v1638 : BitVec 32 := Scalar.addi v1369 c0_i32_1041
  let v1639 : Index := Scalar.indexCast v1638
  let c4 : Index := 4#32
  ![v1639.toNat, 4]
def k0_off712 (i : grid0.Coords) (c0_i32_1056 : BitVec 32) : Fin 2 → Nat :=
  let arg0 : BitVec 32 := BitVec.ofNat 32 (i 0).val
  let c4_i32_944 : BitVec 32 := 4#32
  let v1369 : BitVec 32 := Scalar.muli arg0 c4_i32_944
  let v1682 : BitVec 32 := Scalar.addi v1369 c0_i32_1056
  let v1683 : Index := Scalar.indexCast v1682
  let c5 : Index := 5#32
  ![v1683.toNat, 5]
def k0_off713 (i : grid0.Coords) (c0_i32_1071 : BitVec 32) : Fin 2 → Nat :=
  let arg0 : BitVec 32 := BitVec.ofNat 32 (i 0).val
  let c4_i32_944 : BitVec 32 := 4#32
  let v1369 : BitVec 32 := Scalar.muli arg0 c4_i32_944
  let v1726 : BitVec 32 := Scalar.addi v1369 c0_i32_1071
  let v1727 : Index := Scalar.indexCast v1726
  let c6 : Index := 6#32
  ![v1727.toNat, 6]
def k0_off714 (i : grid0.Coords) (c0_i32_1086 : BitVec 32) : Fin 2 → Nat :=
  let arg0 : BitVec 32 := BitVec.ofNat 32 (i 0).val
  let c4_i32_944 : BitVec 32 := 4#32
  let v1369 : BitVec 32 := Scalar.muli arg0 c4_i32_944
  let v1770 : BitVec 32 := Scalar.addi v1369 c0_i32_1086
  let v1771 : Index := Scalar.indexCast v1770
  let c7 : Index := 7#32
  ![v1771.toNat, 7]
def k0_off715 (i : grid0.Coords) (c0_i32_1101 : BitVec 32) : Fin 2 → Nat :=
  let arg0 : BitVec 32 := BitVec.ofNat 32 (i 0).val
  let c4_i32_944 : BitVec 32 := 4#32
  let v1369 : BitVec 32 := Scalar.muli arg0 c4_i32_944
  let v1814 : BitVec 32 := Scalar.addi v1369 c0_i32_1101
  let v1815 : Index := Scalar.indexCast v1814
  let c8 : Index := 8#32
  ![v1815.toNat, 8]
def k0_off716 (i : grid0.Coords) (c0_i32_1116 : BitVec 32) : Fin 2 → Nat :=
  let arg0 : BitVec 32 := BitVec.ofNat 32 (i 0).val
  let c4_i32_944 : BitVec 32 := 4#32
  let v1369 : BitVec 32 := Scalar.muli arg0 c4_i32_944
  let v1858 : BitVec 32 := Scalar.addi v1369 c0_i32_1116
  let v1859 : Index := Scalar.indexCast v1858
  let c9 : Index := 9#32
  ![v1859.toNat, 9]
def k0_off717 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v1908 : Index := Scalar.indexCast v16
  let c0_1134 : Index := 0#32
  let c0_1135 : Index := 0#32
  let c0_1136 : Index := 0#32
  ![v1908.toNat, 0, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S128x128x4096 : Shape := ⟨3, ![128, 128, 4096]⟩
abbrev S128 : Shape := ⟨1, ![128]⟩
abbrev S128x2 : Shape := ⟨2, ![128, 2]⟩
abbrev S_ : Shape := ⟨0, ![]⟩
abbrev S1x1 : Shape := ⟨2, ![1, 1]⟩
abbrev S128x1 : Shape := ⟨2, ![128, 1]⟩
abbrev S128x10 : Shape := ⟨2, ![128, 10]⟩
abbrev S1x1x128 : Shape := ⟨3, ![1, 1, 128]⟩
abbrev S128x2x1 : Shape := ⟨3, ![128, 2, 1]⟩
abbrev S128x2x128 : Shape := ⟨3, ![128, 2, 128]⟩
abbrev S128x128 : Shape := ⟨2, ![128, 128]⟩
abbrev S4096 : Shape := ⟨1, ![4096]⟩
abbrev S1x1x4096 : Shape := ⟨3, ![1, 1, 4096]⟩
abbrev S128x10x1 : Shape := ⟨3, ![128, 10, 1]⟩
abbrev S128x10x4096 : Shape := ⟨3, ![128, 10, 4096]⟩
abbrev S128x4096 : Shape := ⟨2, ![128, 4096]⟩
abbrev S128x128x1 : Shape := ⟨3, ![128, 128, 1]⟩
abbrev S128x1x4096 : Shape := ⟨3, ![128, 1, 4096]⟩

abbrev nBuf : Space → Nat
  | .hbm => 146
  | .vmem => 0
  | .smem => 0
  | _ => 0

abbrev hbmTy0_0 (i : Nat) : BufTy := match i % 128 with
  | 0 => ⟨S128x128x4096, .f32⟩
  | 1 => ⟨S128, .i32⟩
  | 2 => ⟨S128x2, .i32⟩
  | 3 => ⟨S128x2, .i32⟩
  | 4 => ⟨S_, .i32⟩
  | 5 => ⟨S_, .i32⟩
  | 6 => ⟨S_, .i32⟩
  | 7 => ⟨S1x1, .i32⟩
  | 8 => ⟨S128x1, .i32⟩
  | 9 => ⟨S128x10, .i32⟩
  | 10 => ⟨S128x10, .i32⟩
  | 11 => ⟨S_, .i32⟩
  | 12 => ⟨S_, .i32⟩
  | 13 => ⟨S_, .i32⟩
  | 14 => ⟨S_, .i32⟩
  | 15 => ⟨S1x1, .i32⟩
  | 16 => ⟨S128x1, .i32⟩
  | 17 => ⟨S128x10, .i32⟩
  | 18 => ⟨S128x10, .i32⟩
  | 19 => ⟨S128, .i32⟩
  | 20 => ⟨S1x1x128, .i32⟩
  | 21 => ⟨S128x2x1, .i32⟩
  | 22 => ⟨S128x2x128, .i32⟩
  | 23 => ⟨S128x2x128, .i32⟩
  | 24 => ⟨S128x2x128, .i1⟩
  | 25 => ⟨S128x2, .i32⟩
  | 26 => ⟨S128x2x1, .i32⟩
  | 27 => ⟨S128x2x128, .i32⟩
  | 28 => ⟨S128x2x128, .i32⟩
  | 29 => ⟨S128x2x128, .i1⟩
  | 30 => ⟨S128x2x128, .i1⟩
  | 31 => ⟨S_, .i1⟩
  | 32 => ⟨S128x128, .i1⟩
  | 33 => ⟨S128, .f32⟩
  | 34 => ⟨S_, .f32⟩
  | 35 => ⟨S128, .f32⟩
  | 36 => ⟨S128, .f32⟩
  | 37 => ⟨S128, .i32⟩
  | 38 => ⟨S_, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S128x1, .i32⟩
  | 49 => ⟨S128x1, .i32⟩
  | 50 => ⟨S128x1, .i1⟩
  | 51 => ⟨S128x1, .i32⟩
  | 52 => ⟨S128x1, .i32⟩
  | 53 => ⟨S128x1, .i32⟩
  | 54 => ⟨S128x1, .i32⟩
  | 55 => ⟨S128x1, .i32⟩
  | 56 => ⟨S128x1, .i32⟩
  | 57 => ⟨S128x1, .i32⟩
  | 58 => ⟨S128x1, .i32⟩
  | 59 => ⟨S128x1, .i1⟩
  | 60 => ⟨S128x1, .i32⟩
  | 61 => ⟨S128x1, .i32⟩
  | 62 => ⟨S128x1, .i1⟩
  | 63 => ⟨S128x1, .i1⟩
  | 64 => ⟨S_, .i32⟩
  | 65 => ⟨S128x1, .i32⟩
  | 66 => ⟨S128x1, .i32⟩
  | 67 => ⟨S128x1, .i32⟩
  | 68 => ⟨S_, .i32⟩
  | 69 => ⟨S128x1, .i32⟩
  | 70 => ⟨S128x1, .i32⟩
  | 71 => ⟨S128x1, .i32⟩
  | 72 => ⟨S128x1, .i32⟩
  | 73 => ⟨S128x10, .i32⟩
  | 74 => ⟨S128x10, .i32⟩
  | 75 => ⟨S128x10, .i32⟩
  | 76 => ⟨S128x10, .i32⟩
  | 77 => ⟨S128x10, .i32⟩
  | 78 => ⟨S128x10, .i32⟩
  | 79 => ⟨S128x10, .i32⟩
  | 80 => ⟨S128x10, .i32⟩
  | 81 => ⟨S128x10, .i32⟩
  | 82 => ⟨S128x10, .i32⟩
  | 83 => ⟨S128x10, .i32⟩
  | 84 => ⟨S128x10, .i32⟩
  | 85 => ⟨S128, .i32⟩
  | 86 => ⟨S128, .i32⟩
  | 87 => ⟨S128x1, .i32⟩
  | 88 => ⟨S128x1, .i32⟩
  | 89 => ⟨S128x1, .i1⟩
  | 90 => ⟨S128x1, .i32⟩
  | 91 => ⟨S128x1, .i32⟩
  | 92 => ⟨S128x1, .i32⟩
  | 93 => ⟨S128x1, .i32⟩
  | 94 => ⟨S128x1, .i32⟩
  | 95 => ⟨S128x1, .i32⟩
  | 96 => ⟨S128x1, .i32⟩
  | 97 => ⟨S128x1, .i32⟩
  | 98 => ⟨S128x1, .i1⟩
  | 99 => ⟨S128x1, .i32⟩
  | 100 => ⟨S128x1, .i32⟩
  | 101 => ⟨S128x1, .i1⟩
  | 102 => ⟨S128x1, .i1⟩
  | 103 => ⟨S_, .i32⟩
  | 104 => ⟨S128x1, .i32⟩
  | 105 => ⟨S128x1, .i32⟩
  | 106 => ⟨S128x1, .i32⟩
  | 107 => ⟨S_, .i32⟩
  | 108 => ⟨S128x1, .i32⟩
  | 109 => ⟨S128x1, .i32⟩
  | 110 => ⟨S128x1, .i32⟩
  | 111 => ⟨S128x1, .i32⟩
  | 112 => ⟨S128x10, .i32⟩
  | 113 => ⟨S128x10, .i32⟩
  | 114 => ⟨S128x10, .i32⟩
  | 115 => ⟨S128x10, .i32⟩
  | 116 => ⟨S128x10, .i32⟩
  | 117 => ⟨S128x10, .i32⟩
  | 118 => ⟨S128x10, .i32⟩
  | 119 => ⟨S128x10, .i32⟩
  | 120 => ⟨S128x10, .i32⟩
  | 121 => ⟨S128x10, .i32⟩
  | 122 => ⟨S128x10, .i32⟩
  | 123 => ⟨S128x10, .i32⟩
  | 124 => ⟨S4096, .i32⟩
  | 125 => ⟨S1x1x4096, .i32⟩
  | 126 => ⟨S128x10x1, .i32⟩
  | 127 => ⟨S128x10x4096, .i32⟩
  | _ => ⟨S128x128x4096, .f32⟩

abbrev hbmTy0_1 (i : Nat) : BufTy := match i % 128 with
  | 0 => ⟨S128x10x4096, .i32⟩
  | 1 => ⟨S128x10x4096, .i1⟩
  | 2 => ⟨S128x10, .i32⟩
  | 3 => ⟨S128x10x1, .i32⟩
  | 4 => ⟨S128x10x4096, .i32⟩
  | 5 => ⟨S128x10x4096, .i32⟩
  | 6 => ⟨S128x10x4096, .i1⟩
  | 7 => ⟨S128x10x4096, .i1⟩
  | 8 => ⟨S_, .i1⟩
  | 9 => ⟨S128x4096, .i1⟩
  | 10 => ⟨S128x128x1, .i1⟩
  | 11 => ⟨S128x1x4096, .i1⟩
  | 12 => ⟨S128x128x4096, .i1⟩
  | 13 => ⟨S128x128x4096, .i1⟩
  | 14 => ⟨S128x128x4096, .i1⟩
  | 15 => ⟨S_, .f32⟩
  | 16 => ⟨S128x128x4096, .f32⟩
  | 17 => ⟨S128x128x4096, .f32⟩
  | _ => ⟨S128x128x4096, .f32⟩

abbrev hbmTy (i : Nat) : BufTy := match i / 128 with
  | 0 => hbmTy0_0 i
  | 1 => hbmTy0_1 i
  | _ => ⟨S128x128x4096, .f32⟩

abbrev bufTy : (tb : Table) → Fin (tcTables nBuf tb) → BufTy
  | .hbm, ⟨i, _⟩ => hbmTy i
  | _, _ => ⟨S128x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_c_15 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_16 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_17 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_18 : Ref sig .tc := ⟨.hbm, 42, rfl⟩
abbrev main_v20 : Ref sig .tc := ⟨.hbm, 43, rfl⟩
abbrev main_v21 : Ref sig .tc := ⟨.hbm, 44, rfl⟩
abbrev main_c_19 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_20 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_21 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_22 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_23 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_c_24 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_25 : Ref sig .tc := ⟨.hbm, 143, rfl⟩
abbrev main_call0_v0 : Ref sig .tc := ⟨.hbm, 144, rfl⟩
abbrev main_v114 : Ref sig .tc := ⟨.hbm, 145, rfl⟩

abbrev nD : Nat := 1
abbrev τ : Topo := Topo.v7x

variable {F : FTy → Type} [FloatOps F]
-- ==== Proof.Cells.lean ====
module
public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## The cells of the double buffer

A tile is eight rows of one of the four samples of a slot: number `j` of 64 is sample `j / 16`, group `j % 16`. -/

/-- The counter of tile `j` of slot `σ` is one of the array of counters. -/
theorem inbSem (σ : Fin 2) (j : Fin 64) : ∀ a, (![σ.val, j.val / 16, j.val % 16] : Fin 3 → ℕ) a + S1x1x1.size a ≤ S2x4x16.size a := by
  intro a; fin_cases a <;> simp [S1x1x1, S2x4x16] <;> omega
/-- Tile `j` of slot `σ` lies in the double buffer. -/
theorem inbDst (σ : Fin 2) (j : Fin 64) : ∀ a, (![σ.val, j.val / 16, 8 * (j.val % 16), 0] : Fin 4 → ℕ) a + S1x1x8x4096.size a ≤ S2x4x128x4096.size a := by
  intro a; fin_cases a <;> simp [S1x1x8x4096, S2x4x128x4096] <;> omega
/-- The group of the argument that fills tile `j` at step `s` lies in the argument. -/
theorem inbSrc (s : Fin 32) (j : Fin 64) : ∀ a, (![4 * s.val + j.val / 16, 8 * (j.val % 16), 0] : Fin 3 → ℕ) a + S1x8x4096.size a ≤ S128x128x4096.size a := by
  intro a; fin_cases a <;> simp [S1x8x4096, S128x128x4096] <;> omega

/-- The semaphore of tile `j` of slot `σ`. -/
abbrev cellSem (σ : Fin 2) (j : Fin 64) : DmaSem sig :=
  ((cc0_scratch1.slice (Rect.unit (s := S2x4x16) ![σ.val, j.val / 16, j.val % 16] S1x1x1.size (inbSem σ j))).squeeze S_ squeezes_S1x1x1_S_).sem

/-- Tile `j` of slot `σ` of the double buffer. -/
abbrev dstM (σ : Fin 2) (j : Fin 64) : Memref sig .tc .vmem S8x4096 .f32 :=
  ((Memref.whole cc0_scratch0).slice (Rect.unit (s := S2x4x128x4096) ![σ.val, j.val / 16, 8 * (j.val % 16), 0] S1x1x8x4096.size (inbDst σ j)) (fun _ => rfl)).squeeze S8x4096 squeezes_S1x1x8x4096_S8x4096

/-- Tile `j` of step `s` of the argument. -/
abbrev srcM (s : Fin 32) (j : Fin 64) : Memref sig .tc .hbm S8x4096 .f32 :=
  ((Memref.whole main_arg0).slice (Rect.unit (s := S128x128x4096) ![4 * s.val + j.val / 16, 8 * (j.val % 16), 0] S1x8x4096.size (inbSrc s j)) (fun _ => rfl)).squeeze S8x4096 squeezes_S1x8x4096_S8x4096

/-! ## The tables -/

/-- A table's word at row `b`, column `k`; outside it `0`. -/
def tb {n : ℕ} (t : (⟨⟨2, ![128, n]⟩, .i32⟩ : BufTy).Contents (Elt F)) (b k : ℕ) : BitVec 32 :=
  if h : b < 128 ∧ k < n then t (fun a => ⟨(![b, k] : Fin 2 → ℕ) a, by fin_cases a; exacts [h.1, h.2]⟩) else 0#32

/-- The word that says a group of eight rows `[lo, hi)` lies in one of two bands. -/
def covW (a b c d lo hi : BitVec 32) : BitVec 1 :=
  Scalar.ori (Scalar.ori 0#1 (Scalar.andi (Scalar.cmpi .sle a lo) (Scalar.cmpi .sge b hi))) (Scalar.andi (Scalar.cmpi .sle c lo) (Scalar.cmpi .sge d hi))

/-- What the body reads and does not write: the four tables' contents and the argument's. -/
structure Inp (F : FTy → Type) [FloatOps F] where
  t1 : (⟨S128x2, .i32⟩ : BufTy).Contents (Elt F)
  t2 : (⟨S128x2, .i32⟩ : BufTy).Contents (Elt F)
  t3 : (⟨S128x10, .i32⟩ : BufTy).Contents (Elt F)
  t4 : (⟨S128x10, .i32⟩ : BufTy).Contents (Elt F)
  x : (⟨S128x128x4096, .f32⟩ : BufTy).Contents (Elt F)

variable (I : Inp F)

/-- Whether group `g` of row `b` is covered by a band. -/
def Inp.cov (b g : ℕ) : BitVec 1 :=
  covW (tb I.t1 b 0) (tb I.t2 b 0) (tb I.t1 b 1) (tb I.t2 b 1) (BitVec.ofNat 32 (8 * g)) (BitVec.ofNat 32 (8 * g + 8))

/-- What the waits of step `s` leave in the slot (either one): zero in the covered groups, elsewhere the argument. -/
def Inp.slotVal (s : Fin 32) : (⟨S2x4x128x4096, .f32⟩ : BufTy).Contents (Elt F) := fun (y : S2x4x128x4096.Idx) =>
  if I.cov (4 * s.val + (y 1).val) ((y 2).val / 8) = 1#1 then (FloatOps.ofBits .f32 0#32 : F .f32)
  else I.x (fun a => ⟨(![4 * s.val + (y 1).val, (y 2).val, (y 3).val] : Fin 3 → ℕ) a, by
    fin_cases a
    · have := s.isLt; have := (y 1).isLt; simp [S2x4x128x4096, S128x128x4096] at *; omega
    · exact (y 2).isLt
    · exact (y 3).isLt⟩)

variable (c : Dev nD)

/-- The bands' starts, at the share the body holds, -/
abbrev hT1 : sProp 𝕄 := ((c : Thread nD τ).loc main_c_3) ↦{fullShare.right} I.t1
/-- their ends, -/
abbrev hT2 : sProp 𝕄 := ((c : Thread nD τ).loc main_c_4) ↦{fullShare.right} I.t2
/-- the intervals' starts, -/
abbrev hT3 : sProp 𝕄 := ((c : Thread nD τ).loc main_v24) ↦{fullShare.right} I.t3
/-- and their ends. -/
abbrev hT4 : sProp 𝕄 := ((c : Thread nD τ).loc main_v39) ↦{fullShare.right} I.t4

/-- The four tables, at the share the body holds. -/
def Tabs : sProp 𝕄 := iprop(hT1 I c ∗ hT2 I c ∗ hT3 I c ∗ hT4 I c)

local notation "WP" => wp frame (wpE (defs₀ (F := F)) Variants.none (c : Thread nD τ) none) Set.univ

variable {α : Type}

/-- A scalar load through a whole buffer held in `P` at contents `f`. -/
theorem wp_tab {s : Shape} {K : Elt F .i32 → Prog (TpuEff nD τ sig (Elt F) Λ₀ .tc) α} {Q : α → sProp 𝕄} {P R : sProp 𝕄}
    {M : Memref sig .tc .smem s .i32} {r : Rect s} {h1 hp} {q : PosShare TreeShare} {f : Buf (Elt F) ((M.access r).loc (c : Thread nD τ))} {v : Elt F .i32}
    (hv : ∀ x, (M.access r).read (Elt F) f x = v)
    (hP : P ⊢ iprop(((M.access r).loc (c : Thread nD τ) ↦{q} f) ∗ (((M.access r).loc (c : Thread nD τ) ↦{q} f) -∗ P)))
    (h : iprop(P ∗ R) ⊢ WP (K v) Q) :
    iprop(P ∗ R) ⊢ WP (smemLoad M r h1 hp >>= K) Q := by
  rw [wp_bind]
  unfold smemLoad
  iintro ⟨HP, HR⟩
  icases hP $$ HP with ⟨H1, HP⟩
  iapply (wp_smemLoadElt Variants.none (c : Thread nD τ) none Set.univ (m := M) (S := Finset.univ) (Finset.subset_univ _)) $$ H1
  iintro H1
  rw [hv, wp_ret]
  imodintro
  iapply h
  isplitr [HR]
  · iapply HP $$ H1
  iexact HR

/-- The tables lend the first of them, -/
theorem Tabs_1 : Tabs I c ⊢ iprop(hT1 I c ∗ (hT1 I c -∗ Tabs I c)) := by
  unfold Tabs
  iintro ⟨H1, H2, H3, H4⟩
  isplitl [H1]; · iexact H1
  iintro H1
  isplitl [H1]; · iexact H1
  isplitl [H2]; · iexact H2
  isplitl [H3] <;> iassumption
/-- the second, -/
theorem Tabs_2 : Tabs I c ⊢ iprop(hT2 I c ∗ (hT2 I c -∗ Tabs I c)) := by
  unfold Tabs
  iintro ⟨H1, H2, H3, H4⟩
  isplitl [H2]; · iexact H2
  iintro H2
  isplitl [H1]; · iexact H1
  isplitl [H2]; · iexact H2
  isplitl [H3] <;> iassumption
/-- the third, -/
theorem Tabs_3 : Tabs I c ⊢ iprop(hT3 I c ∗ (hT3 I c -∗ Tabs I c)) := by
  unfold Tabs
  iintro ⟨H1, H2, H3, H4⟩
  isplitl [H3]; · iexact H3
  iintro H3
  isplitl [H1]; · iexact H1
  isplitl [H2]; · iexact H2
  isplitl [H3] <;> iassumption
/-- and the fourth. -/
theorem Tabs_4 : Tabs I c ⊢ iprop(hT4 I c ∗ (hT4 I c -∗ Tabs I c)) := by
  unfold Tabs
  iintro ⟨H1, H2, H3, H4⟩
  isplitl [H4]; · iexact H4
  iintro H4
  isplitl [H1]; · iexact H1
  isplitl [H2]; · iexact H2
  isplitl [H3] <;> iassumption

/-- A table at an index is its entry at the index's coordinates. -/
theorem tb_at {n : ℕ} (t : (⟨⟨2, ![128, n]⟩, .i32⟩ : BufTy).Contents (Elt F)) {b k : ℕ} (y : Shape.Idx ⟨2, ![128, n]⟩)
    (h0 : (y 0).val = b) (h1 : (y 1).val = k) : t y = tb t b k := by
  subst h0 h1
  unfold tb
  rw [dif_pos ⟨(y 0).isLt, (y 1).isLt⟩]
  congr 1; funext a; fin_cases a <;> rfl

/-- A rectangle of extent one has one coordinate, its offset. -/
theorem unit_coord (b m : ℕ) (x : Fin 1) : b + m * x.val = b := by
  rw [Fin.val_eq_zero x, Nat.mul_zero, Nat.add_zero]

/-- A read of the bands' starts gives the entry there. -/
theorem wp_tab1 {K : Elt F .i32 → Prog (TpuEff nD τ sig (Elt F) Λ₀ .tc) α} {Q : α → sProp 𝕄} {R : sProp 𝕄} {off : Fin 2 → ℕ} {inb h1 hp} {b k : ℕ}
    (hoff : off = ![b, k]) (h : iprop(Tabs I c ∗ R) ⊢ WP (K (tb I.t1 b k)) Q) :
    iprop(Tabs I c ∗ R) ⊢ WP (smemLoad (Memref.whole main_c_3) (Rect.unit (s := S128x2) off S1x1.size inb) h1 hp >>= K) Q := by
  subst hoff
  exact wp_tab c (q := fullShare.right) (f := I.t1) (fun x => tb_at (n := 2) I.t1 _ (unit_coord b _ (x 0)) (unit_coord k _ (x 1))) (Tabs_1 I c) h

/-! ## The states of a cell -/

/-- The argument, at share `q`. -/
abbrev hX (q : PosShare TreeShare) : sProp 𝕄 := ((c : Thread nD τ).loc main_arg0) ↦{q} I.x

/-- The share of the argument that cell `σ, j` lends its transfers. -/
def qx (σ : Fin 2) (j : Fin 64) : PosShare TreeShare := shareTok fullShare 128 ⟨64 * σ.val + j.val, by omega⟩

/-- Tile `j` of slot `σ`, holding what the buffer `f` has there. -/
abbrev tile (σ : Fin 2) (j : Fin 64) (f : (⟨S2x4x128x4096, .f32⟩ : BufTy).Contents (Elt F)) : sProp 𝕄 :=
  ((dstM σ j).view.loc (c : Thread nD τ)) ↦[(dstM σ j).view.set]{fullShare} f

/-- Nothing in flight: the counter at zero, the tile at some contents, the share of the argument. -/
def Idle (σ : Fin 2) (j : Fin 64) : sProp 𝕄 :=
  iprop(semVal ((c : Thread nD τ), SemLoc.dma (cellSem σ j)) 0 ∗ (∃ f, tile c σ j f) ∗ hX I c (qx σ j))

/-- The same with the tile at step `s`'s contents. -/
def Done (s : Fin 32) (σ : Fin 2) (j : Fin 64) : sProp 𝕄 :=
  iprop(semVal ((c : Thread nD τ), SemLoc.dma (cellSem σ j)) 0 ∗ tile c σ j (I.slotVal s) ∗ hX I c (qx σ j))

/-- Group `j` of step `s` (row and group of the argument). -/
abbrev Inp.covs (s : Fin 32) (j : Fin 64) : BitVec 1 := I.cov (4 * s.val + j.val / 16) (j.val % 16)

/-- Step `s`'s transfer in flight, delivering the tile at step `s`'s contents and the share lent; a covered group has none. -/
def Started (s : Fin 32) (σ : Fin 2) (j : Fin 64) : sProp 𝕄 :=
  if I.covs s j = 1#1 then Idle I c σ j
  else iprop(Flight (countersEmb (U := Pipeline.UD sig nD τ)) (c : Thread nD τ) (SemLoc.dma (cellSem σ j)) () ((dstM σ j).view.amount (SemLoc.dma (cellSem σ j)))
      iprop(tile c σ j (I.slotVal s) ∗ (((srcM s j).view.loc (c : Thread nD τ)) ↦[(srcM s j).view.set]{qx σ j} I.x))
    ∗ (((srcM s j).view.loc (c : Thread nD τ)) ↦[Finset.univ \ (srcM s j).view.set]{qx σ j} I.x))

/-- The branch on a negated bit is taken iff the bit is not set, -/
theorem bit_not (w : BitVec 1) : (Scalar.cmpi .ne (Scalar.extui (Scalar.xori w 1#1) : BitVec 32) 0#32 = 1#1) ↔ ¬ w = 1#1 := by
  revert w; decide
/-- and the branch on a bit iff it is. -/
theorem bit_self (w : BitVec 1) : (Scalar.cmpi .ne (Scalar.extui w : BitVec 32) 0#32 = 1#1) ↔ w = 1#1 := by
  revert w; decide

/-- Where an index of a tile lies in the double buffer. -/
theorem dst_emb (σ : Fin 2) (j : Fin 64) (x : Fin 8) (y : Fin 4096) :
    (dstM σ j).view.emb (ix2 x y : S8x4096.Idx) = (ix4 σ (⟨j.val / 16, by omega⟩ : Fin 4) (⟨8 * (j.val % 16) + x.val, by omega⟩ : Fin 128) y : S2x4x128x4096.Idx) := by
  show (Rect.unit (s := S2x4x128x4096) _ S1x1x8x4096.size (inbDst σ j)).emb (Shape.reshapeEquiv _ (ix2 x y)) = _
  rw [reshapeEquiv_ix2_11ab]
  funext a
  fin_cases a <;> apply Fin.ext
  · show σ.val + 1 * 0 = σ.val; omega
  · show j.val / 16 + 1 * 0 = j.val / 16; omega
  · show 8 * (j.val % 16) + 1 * x.val = 8 * (j.val % 16) + x.val; omega
  · show 0 + 1 * y.val = y.val; omega
/-- and of the argument's tile in the argument. -/
theorem src_emb (s : Fin 32) (j : Fin 64) (x : Fin 8) (y : Fin 4096) :
    (srcM s j).view.emb (ix2 x y : S8x4096.Idx) = (ix3 (⟨4 * s.val + j.val / 16, by omega⟩ : Fin 128) (⟨8 * (j.val % 16) + x.val, by omega⟩ : Fin 128) y : S128x128x4096.Idx) := by
  show (Rect.unit (s := S128x128x4096) _ S1x8x4096.size (inbSrc s j)).emb (Shape.reshapeEquiv _ (ix2 x y)) = _
  rw [reshapeEquiv_ix2_1ab]
  funext a
  fin_cases a <;> apply Fin.ext
  · show 4 * s.val + j.val / 16 + 1 * 0 = 4 * s.val + j.val / 16; omega
  · show 8 * (j.val % 16) + 1 * x.val = 8 * (j.val % 16) + x.val; omega
  · show 0 + 1 * y.val = y.val; omega

/-- An element of a tile is one of its indices, placed. -/
theorem mem_tile {σ : Fin 2} {j : Fin 64} {i : S2x4x128x4096.Idx} (hi : i ∈ (dstM σ j).view.set) :
    ∃ (x : Fin 8) (y : Fin 4096), i = (dstM σ j).view.emb (ix2 x y : S8x4096.Idx) := by
  obtain ⟨z, -, hz⟩ := Finset.mem_map.mp hi
  exact ⟨z 0, z 1, hz.symm.trans (congrArg (dstM σ j).view.emb (eq_ix2 (n0 := 8) (n1 := 4096) z))⟩

/-- Step `s`'s contents at an index of tile `j`. -/
theorem slotVal_emb (s : Fin 32) (σ : Fin 2) (j : Fin 64) (x : Fin 8) (y : Fin 4096) :
    I.slotVal s ((dstM σ j).view.emb (ix2 x y : S8x4096.Idx))
      = if I.covs s j = 1#1 then (FloatOps.ofBits .f32 0#32 : F .f32) else I.x ((srcM s j).view.emb (ix2 x y : S8x4096.Idx)) := by
  rw [dst_emb, src_emb]
  unfold Inp.slotVal
  have h2 : (8 * (j.val % 16) + x.val) / 8 = j.val % 16 := by omega
  show (if I.cov (4 * s.val + j.val / 16) ((8 * (j.val % 16) + x.val) / 8) = 1#1 then _ else _) = _
  rw [h2]
  refine if_congr Iff.rfl rfl (congrArg I.x ?_)
  funext a; fin_cases a <;> rfl

/-- Where the group is not covered, the transfer lands step `s`'s contents. -/
theorem landed (s : Fin 32) (σ : Fin 2) (j : Fin 64) (hc : ¬ I.covs s j = 1#1) (fd : (⟨S2x4x128x4096, .f32⟩ : BufTy).Contents (Elt F)) :
    tile c σ j ((dstM σ j).view.write (Elt F) fd ((srcM s j).view.read (Elt F) I.x) Finset.univ) = tile c σ j (I.slotVal s) := by
  refine pointsTo_congr fun i hi => ?_
  obtain ⟨x, y, rfl⟩ := mem_tile hi
  refine (View.write_emb_of_mem _ _ (Finset.mem_univ _)).trans ?_
  refine Eq.trans ?_ ((slotVal_emb I s σ j x y).trans (if_neg hc)).symm
  rfl

/-- A tile has elements. -/
theorem tile_pos : 0 < S8x4096.numel := Shape.numel_pos fun a => by fin_cases a <;> simp [S8x4096]

/-- A start: the copy is issued where the group is not covered. -/
theorem wp_start {K : Prog (TpuEff nD τ sig (Elt F) Λ₀ .tc) α} {Q : α → sProp 𝕄} {R : sProp 𝕄}
    (s : Fin 32) (σ : Fin 2) (j : Fin 64) {w : BitVec 1} (hw : w = I.covs s j) {o8 i8 o7 i7 t7 o5 i5 t5 p1 p2 p3}
    (h8 : o8 = ![σ.val, j.val / 16, j.val % 16]) (h7 : o7 = ![σ.val, j.val / 16, 8 * (j.val % 16), 0])
    (h5 : o5 = ![4 * s.val + j.val / 16, 8 * (j.val % 16), 0])
    (h : iprop(Started I c s σ j ∗ R) ⊢ WP K Q) :
    iprop(Idle I c σ j ∗ R) ⊢ WP (if Scalar.cmpi .ne (Scalar.extui (Scalar.xori w 1#1) : BitVec 32) 0#32 = 1#1 then
        (Prog.lift (.enqueueDma (((Memref.whole main_arg0).slice (Rect.unit (s := S128x128x4096) o5 S1x8x4096.size i5) t5).squeeze S8x4096 squeezes_S1x8x4096_S8x4096)
          (.here (((Memref.whole cc0_scratch0).slice (Rect.unit (s := S2x4x128x4096) o7 S1x1x8x4096.size i7) t7).squeeze S8x4096 squeezes_S1x1x8x4096_S8x4096))
          (.dma ((cc0_scratch1.slice (Rect.unit (s := S2x4x16) o8 S1x1x1.size i8)).squeeze S_ squeezes_S1x1x1_S_).sem) p1 p2 p3) >>= fun _ => K)
      else K) Q := by
  subst h8 h7 h5 hw
  by_cases hc : I.covs s j = 1#1
  · rw [if_neg (by rw [bit_not]; exact fun h => h hc)]
    refine .trans ?_ h
    unfold Started
    rw [if_pos hc]
  · rw [if_pos (by rw [bit_not]; exact hc)]
    unfold Idle hX
    iintro ⟨⟨Hv, ⟨%fd, Hd⟩, Hx⟩, HR⟩
    ihave ⟨Hs, Hx⟩ := (pointsTo_split_subset (I := (srcM s j).view.set) (S := Finset.univ) (Finset.subset_univ _)).1 $$ Hx
    iapply (wp_dmaLocal (countersEmb (U := Pipeline.UD sig nD τ)) Variants.none (c : Thread nD τ) none (src := srcM s j) (dst := dstM σ j)
      (Sd := (dstM σ j).view.set) () _ rfl (View.amount_pos _ _ tile_pos) (Finset.Subset.refl _)) $$ [Hv Hd Hs]
    · isplitl [Hs]; · iexact Hs
      isplitl [Hd]; · iexact Hd
      iexact Hv
    iintro HF
    iapply h
    isplitr [HR]; swap; · iexact HR
    unfold Started
    rw [if_neg hc]
    isplitl [HF]
    · iapply (Flight_mono _ _ ?_) $$ HF
      exact sep_mono (BIBase.Entails.of_eq (landed I c s σ j hc fd)) BIBase.Entails.rfl
    iexact Hx

/-- After a wait: a covered tile as it was, another at step `s`'s contents. -/
def Waited (s : Fin 32) (σ : Fin 2) (j : Fin 64) : sProp 𝕄 := if I.covs s j = 1#1 then Idle I c σ j else Done I c s σ j

/-- What the core has waited for: at no point does it matter. -/
def Owes : sProp 𝕄 := iprop(∃ W, owes (c : Thread nD τ) 0 W)

/-- A wait: the core waits where the group is not covered. -/
theorem wp_wait {K : Prog (TpuEff nD τ sig (Elt F) Λ₀ .tc) α} {Q : α → sProp 𝕄} {R : sProp 𝕄}
    (s : Fin 32) (σ : Fin 2) (j : Fin 64) {w : BitVec 1} (hw : w = I.covs s j) {o8 i8 o7 i7 t7 o5 i5 t5 p1 p2}
    (h8 : o8 = ![σ.val, j.val / 16, j.val % 16]) (h7 : o7 = ![σ.val, j.val / 16, 8 * (j.val % 16), 0])
    (h5 : o5 = ![4 * s.val + j.val / 16, 8 * (j.val % 16), 0])
    (h : iprop(Waited I c s σ j ∗ Owes c ∗ R) ⊢ WP K Q) :
    iprop(Started I c s σ j ∗ Owes c ∗ R) ⊢ WP (if Scalar.cmpi .ne (Scalar.extui (Scalar.xori w 1#1) : BitVec 32) 0#32 = 1#1 then
        (Prog.lift (.waitDma2 ((cc0_scratch1.slice (Rect.unit (s := S2x4x16) o8 S1x1x1.size i8)).squeeze S_ squeezes_S1x1x1_S_).sem
          (((Memref.whole main_arg0).slice (Rect.unit (s := S128x128x4096) o5 S1x8x4096.size i5) t5).squeeze S8x4096 squeezes_S1x8x4096_S8x4096)
          (((Memref.whole cc0_scratch0).slice (Rect.unit (s := S2x4x128x4096) o7 S1x1x8x4096.size i7) t7).squeeze S8x4096 squeezes_S1x1x8x4096_S8x4096)
          p1 p2) >>= fun _ => K)
      else K) Q := by
  subst h8 h7 h5 hw
  by_cases hc : I.covs s j = 1#1
  · rw [if_neg (by rw [bit_not]; exact fun h => h hc)]
    refine .trans ?_ h
    unfold Started Waited
    rw [if_pos hc, if_pos hc]
  · rw [if_pos (by rw [bit_not]; exact hc)]
    unfold Started Owes
    rw [if_neg hc]
    iintro ⟨⟨HF, Hx⟩, ⟨%W, HO⟩, HR⟩
    iapply (wp_waitLocal (countersEmb (U := Pipeline.UD sig nD τ)) Variants.none (c : Thread nD τ) none (srcw := srcM s j) (dstw := dstM σ j) () rfl) $$ [HF HO]
    · isplitl [HF]; · iexact HF
      iexact HO
    iintro ⟨⟨Hd, Hs⟩, Hv, HO⟩
    ihave Hx := (pointsTo_split_subset (ℓ := (srcM s j).view.loc (c : Thread nD τ)) (I := (srcM s j).view.set) (S := Finset.univ) (Finset.subset_univ _)).2 $$ [Hs Hx]
    · isplitl [Hs]; · iexact Hs
      iexact Hx
    iapply h
    isplitr [HR HO]
    · unfold Waited Done
      rw [if_neg hc]
      isplitl [Hv]; · iexact Hv
      isplitl [Hd]; · iexact Hd
      iexact Hx
    isplitl [HO]
    · unfold Owes; iexists _; iexact HO
    iexact HR

/-- The rectangle a covered tile's zeros are stored at is the tile. -/
theorem tile_access (σ : Fin 2) (j : Fin 64) :
    ((Memref.whole cc0_scratch0).access (Rect.unit (s := S2x4x128x4096) ![σ.val, j.val / 16, 8 * (j.val % 16), 0] S1x1x8x4096.size (inbDst σ j))).set = (dstM σ j).view.set :=
  (View.set_reshape _ _).symm

/-- A zero fill: a covered tile is overwritten by zeros. -/
theorem wp_zero {K : Prog (TpuEff nD τ sig (Elt F) Λ₀ .tc) α} {Q : α → sProp 𝕄} {R : sProp 𝕄}
    (s : Fin 32) (σ : Fin 2) (j : Fin 64) {w : BitVec 1} (hw : w = I.covs s j) {o7 i7 l7 p1 p2} {pay : FVec F S1x1x8x4096 .f32}
    (hp : pay = fun _ => FloatOps.ofBits .f32 0#32)
    (h7 : o7 = ![σ.val, j.val / 16, 8 * (j.val % 16), 0])
    (h : iprop(Done I c s σ j ∗ R) ⊢ WP K Q) :
    iprop(Waited I c s σ j ∗ R) ⊢ WP (if Scalar.cmpi .ne (Scalar.extui w : BitVec 32) 0#32 = 1#1 then
        (Prog.lift (.load (Memref.whole cc0_scratch0) (Rect.unit (s := S2x4x128x4096) o7 S1x1x8x4096.size i7).toLoadRect l7) >>= fun _ =>
          (Prog.lift (.store (Memref.whole cc0_scratch0) (Rect.unit (s := S2x4x128x4096) o7 S1x1x8x4096.size i7) pay Finset.univ p1 p2) >>= fun _ => K))
      else K) Q := by
  subst h7 hw hp
  by_cases hc : I.covs s j = 1#1
  · rw [if_pos (by rw [bit_self]; exact hc)]
    unfold Waited Idle
    rw [if_pos hc]
    iintro ⟨⟨Hv, ⟨%fd, Hd⟩, Hx⟩, HR⟩
    iapply (wp_load_rect Variants.none (c : Thread nD τ) none Set.univ (m := Memref.whole cc0_scratch0) (S := (dstM σ j).view.set)
      (r := Rect.unit (s := S2x4x128x4096) ![σ.val, j.val / 16, 8 * (j.val % 16), 0] S1x1x8x4096.size (inbDst σ j)) (tile_access σ j).subset) $$ Hd
    iintro Hd
    iapply (wp_store Variants.none (c : Thread nD τ) none Set.univ (m := Memref.whole cc0_scratch0) (S := (dstM σ j).view.set)
      (r := Rect.unit (s := S2x4x128x4096) ![σ.val, j.val / 16, 8 * (j.val % 16), 0] S1x1x8x4096.size (inbDst σ j)) (Mk := Finset.univ) (tile_access σ j).subset) $$ Hd
    iintro Hd
    iapply h
    isplitr [HR]; swap; · iexact HR
    unfold Done
    isplitl [Hv]; · iexact Hv
    isplitl [Hd]
    · iapply (BIBase.Entails.of_eq (pointsTo_congr ?_)) $$ Hd
      intro i hi
      have hi' := hi
      rw [← tile_access] at hi'
      obtain ⟨z, -, rfl⟩ := Finset.mem_map.mp hi'
      refine (View.write_emb_of_mem _ _ (Finset.mem_univ _)).trans ?_
      obtain ⟨x, y, hxy⟩ := mem_tile hi
      refine Eq.trans ?_ ((congrArg (I.slotVal s) hxy).trans ((slotVal_emb I s σ j x y).trans (if_pos hc))).symm
      rfl
    iexact Hx
  · rw [if_neg (by rw [bit_self]; exact hc)]
    refine .trans ?_ h
    unfold Waited
    rw [if_neg hc]

end Cert.KernelIdeal.Hand
-- ==== Proof.Steps.lean ====
module
public import proofs.«01_k».proof.Proof.Cells

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## Steps of the walk

The body is walked with the tables, the 64 cells of a slot — those before `k` in their new state, the others in their old — and the rest. -/

variable (I : Inp F) (c : Dev nD)

local notation "WP" => wp frame (wpE (defs₀ (F := F)) Variants.none (c : Thread nD τ) none) Set.univ

variable {α β : Type}

/-- A read of the bands' ends gives the entry there, -/
theorem wp_tab2 {K : Elt F .i32 → Prog (TpuEff nD τ sig (Elt F) Λ₀ .tc) α} {Q : α → sProp 𝕄} {R : sProp 𝕄} {off : Fin 2 → ℕ} {inb h1 hp} {b k : ℕ}
    (hoff : off = ![b, k]) (h : iprop(Tabs I c ∗ R) ⊢ WP (K (tb I.t2 b k)) Q) :
    iprop(Tabs I c ∗ R) ⊢ WP (smemLoad (Memref.whole main_c_4) (Rect.unit (s := S128x2) off S1x1.size inb) h1 hp >>= K) Q := by
  subst hoff
  exact wp_tab c (q := fullShare.right) (f := I.t2) (fun x => tb_at (n := 2) I.t2 _ (unit_coord b _ (x 0)) (unit_coord k _ (x 1))) (Tabs_2 I c) h

/-- and so does one of the intervals' starts, -/
theorem wp_tab3 {K : Elt F .i32 → Prog (TpuEff nD τ sig (Elt F) Λ₀ .tc) α} {Q : α → sProp 𝕄} {R : sProp 𝕄} {off : Fin 2 → ℕ} {inb h1 hp} {b k : ℕ}
    (hoff : off = ![b, k]) (h : iprop(Tabs I c ∗ R) ⊢ WP (K (tb I.t3 b k)) Q) :
    iprop(Tabs I c ∗ R) ⊢ WP (smemLoad (Memref.whole main_v24) (Rect.unit (s := S128x10) off S1x1.size inb) h1 hp >>= K) Q := by
  subst hoff
  exact wp_tab c (q := fullShare.right) (f := I.t3) (fun x => tb_at (n := 10) I.t3 _ (unit_coord b _ (x 0)) (unit_coord k _ (x 1))) (Tabs_3 I c) h

/-- and of their ends. -/
theorem wp_tab4 {K : Elt F .i32 → Prog (TpuEff nD τ sig (Elt F) Λ₀ .tc) α} {Q : α → sProp 𝕄} {R : sProp 𝕄} {off : Fin 2 → ℕ} {inb h1 hp} {b k : ℕ}
    (hoff : off = ![b, k]) (h : iprop(Tabs I c ∗ R) ⊢ WP (K (tb I.t4 b k)) Q) :
    iprop(Tabs I c ∗ R) ⊢ WP (smemLoad (Memref.whole main_v39) (Rect.unit (s := S128x10) off S1x1.size inb) h1 hp >>= K) Q := by
  subst hoff
  exact wp_tab c (q := fullShare.right) (f := I.t4) (fun x => tb_at (n := 10) I.t4 _ (unit_coord b _ (x 0)) (unit_coord k _ (x 1))) (Tabs_4 I c) h

/-- A call: its continuation is kept aside until the call returns. -/
theorem wp_call {p : Prog (TpuEff nD τ sig (Elt F) Λ₀ .tc) β} {k : β → Prog (TpuEff nD τ sig (Elt F) Λ₀ .tc) α} {Q : α → sProp 𝕄} {P : sProp 𝕄}
    (h : ∀ Q' : β → sProp 𝕄, (∀ a P', (P' ⊢ WP (k a) Q) → P' ⊢ Q' a) → P ⊢ WP p Q') : P ⊢ WP (p >>= k) Q := by
  rw [wp_bind]
  exact h _ fun a P' h => h

/-- A load that ends its part. -/
theorem wp_tail {s : Shape} {M : Memref sig .tc .smem s .i32} {r : Rect s} {h1 hp} {Q : Elt F .i32 → sProp 𝕄} {P : sProp 𝕄}
    (h : P ⊢ WP (smemLoad M r h1 hp >>= fun v => pure v) Q) : P ⊢ WP (smemLoad M r h1 hp) Q := by
  rwa [bind_pure] at h

/-- A return. -/
theorem wp_return {v : α} {Q : α → sProp 𝕄} {P : sProp 𝕄} (h : P ⊢ Q v) : P ⊢ WP (pure v) Q := by
  show P ⊢ WP (Prog.ret v) Q
  rw [wp_ret]
  iintro HP
  imodintro
  iapply h $$ HP

/-- The cells before `k` in the new state, the others in the old. -/
def mix (Old New : Fin 64 → sProp 𝕄) (k : ℕ) : sProp 𝕄 :=
  bigSep Finset.univ fun j : Fin 64 => if j.val < k then New j else Old j

/-- One cell apart from the others. -/
theorem split_at (Φ : Fin 64 → sProp 𝕄) (j : Fin 64) : bigSep Finset.univ Φ = iprop(Φ j ∗ bigSep (Finset.univ.erase j) Φ) :=
  bigSep_univ_split j

/-- Cell `k` may be taken out in the old state and put back in the new one. -/
theorem mix_step (Old New : Fin 64 → sProp 𝕄) (k : ℕ) (hk : k < 64) :
    mix Old New k ⊢ iprop(Old ⟨k, hk⟩ ∗ (New ⟨k, hk⟩ -∗ mix Old New (k + 1))) := by
  unfold mix
  rw [split_at (fun j : Fin 64 => if j.val < k then New j else Old j) ⟨k, hk⟩,
    split_at (fun j : Fin 64 => if j.val < k + 1 then New j else Old j) ⟨k, hk⟩]
  rw [if_neg (Nat.lt_irrefl k), if_pos (Nat.lt_succ_self k)]
  iintro ⟨H1, H2⟩
  isplitl [H1]; · iexact H1
  iintro H1
  isplitl [H1]; · iexact H1
  iapply (BIBase.Entails.of_eq (bigSep_congr fun j hj => ?_)) $$ H2
  have hne : j.val ≠ k := fun h => (Finset.mem_erase.mp hj).1 (Fin.ext h)
  by_cases h : j.val < k
  · rw [if_pos h, if_pos (Nat.lt_succ_of_lt h)]
  · rw [if_neg h, if_neg (by omega)]

/-- At first all cells are in the old state, -/
theorem mix_zero (Old New : Fin 64 → sProp 𝕄) : mix Old New 0 = bigSep Finset.univ Old := by
  unfold mix; exact bigSep_congr fun j _ => if_neg (Nat.not_lt_zero _)
/-- and in the end all are in the new one. -/
theorem mix_all (Old New : Fin 64 → sProp 𝕄) : mix Old New 64 = bigSep Finset.univ New := by
  unfold mix; exact bigSep_congr fun j _ => if_pos j.isLt

/-- The covering word, from its four reads. -/
theorem cov_read {s : Fin 32} {k : ℕ} (hk : k < 64) {b : ℕ} {lo hi : BitVec 32} (hb : b = 4 * s.val + k / 16)
    (hlo : lo = BitVec.ofNat 32 (8 * (k % 16))) (hhi : hi = BitVec.ofNat 32 (8 * (k % 16) + 8)) :
    Scalar.ori (Scalar.ori 0#1 (Scalar.andi (Scalar.cmpi .sle (tb I.t1 b 0) lo) (Scalar.cmpi .sge (tb I.t2 b 0) hi)))
      (Scalar.andi (Scalar.cmpi .sle (tb I.t1 b 1) lo) (Scalar.cmpi .sge (tb I.t2 b 1) hi)) = I.covs s ⟨k, hk⟩ := by
  subst hb hlo hhi; rfl

/-- The start of copy `k`, unless the bands cover its group: cell `k` is then started. -/
theorem step_start {K : Prog (TpuEff nD τ sig (Elt F) Λ₀ .tc) α} {Q : α → sProp 𝕄} {R : sProp 𝕄} {s : Fin 32} {σ : Fin 2} {k n b b5 r5 : ℕ} {lo hi : BitVec 32}
    {o8 i8 o7 i7 t7 o5 i5 t5 p1 p2 p3}
    (h8 : o8 = ![n, k / 16, k % 16]) (h7 : o7 = ![n, k / 16, 8 * (k % 16), 0]) (h5 : o5 = ![b5, r5, 0]) (hn : n = σ.val)
    (hk : k < 64) (hb : b = 4 * s.val + k / 16) (hb5 : b5 = 4 * s.val + k / 16) (hr5 : r5 = 8 * (k % 16))
    (hlo : lo = BitVec.ofNat 32 (8 * (k % 16))) (hhi : hi = BitVec.ofNat 32 (8 * (k % 16) + 8))
    (h : iprop(Tabs I c ∗ mix (Idle I c σ) (Started I c s σ) (k + 1) ∗ R) ⊢ WP K Q) :
    iprop(Tabs I c ∗ mix (Idle I c σ) (Started I c s σ) k ∗ R) ⊢ WP (if Scalar.cmpi .ne (Scalar.extui (Scalar.xori
        (Scalar.ori (Scalar.ori 0#1 (Scalar.andi (Scalar.cmpi .sle (tb I.t1 b 0) lo) (Scalar.cmpi .sge (tb I.t2 b 0) hi)))
          (Scalar.andi (Scalar.cmpi .sle (tb I.t1 b 1) lo) (Scalar.cmpi .sge (tb I.t2 b 1) hi))) 1#1) : BitVec 32) 0#32 = 1#1 then
        (Prog.lift (.enqueueDma (((Memref.whole main_arg0).slice (Rect.unit (s := S128x128x4096) o5 S1x8x4096.size i5) t5).squeeze S8x4096 squeezes_S1x8x4096_S8x4096)
          (.here (((Memref.whole cc0_scratch0).slice (Rect.unit (s := S2x4x128x4096) o7 S1x1x8x4096.size i7) t7).squeeze S8x4096 squeezes_S1x1x8x4096_S8x4096))
          (.dma ((cc0_scratch1.slice (Rect.unit (s := S2x4x16) o8 S1x1x1.size i8)).squeeze S_ squeezes_S1x1x1_S_).sem) p1 p2 p3) >>= fun _ => K)
      else K) Q := by
  rw [hb5, hr5] at h5
  rw [hn] at h8 h7
  iintro ⟨HT, HM, HR⟩
  icases mix_step _ _ k hk $$ HM with ⟨H1, HM⟩
  iapply (wp_start I c s σ ⟨k, hk⟩ (R := iprop(Tabs I c ∗ (Started I c s σ ⟨k, hk⟩ -∗ mix (Idle I c σ) (Started I c s σ) (k + 1)) ∗ R))
    (cov_read I hk hb hlo hhi) h8 h7 h5 ?_) $$ [HT H1 HM HR]
  · iintro ⟨H1, HT, HM, HR⟩
    iapply h
    isplitl [HT]; · iexact HT
    isplitl [HM H1]; · iapply HM $$ H1
    iexact HR
  isplitl [H1]; · iexact H1
  isplitl [HT]; · iexact HT
  isplitl [HM]; · iexact HM
  iexact HR

/-- The cells with cell `k` waited for and not yet filled. -/
def mid (s : Fin 32) (σ : Fin 2) (k : ℕ) (hk : k < 64) : sProp 𝕄 :=
  iprop(Waited I c s σ ⟨k, hk⟩ ∗ (Done I c s σ ⟨k, hk⟩ -∗ mix (Started I c s σ) (Done I c s σ) (k + 1)))

/-- The wait for copy `k`, under the same condition: cell `k` is then waited for. -/
theorem step_wait {K : Prog (TpuEff nD τ sig (Elt F) Λ₀ .tc) α} {Q : α → sProp 𝕄} {R : sProp 𝕄} {s : Fin 32} {σ : Fin 2} {k n b b5 r5 : ℕ} {lo hi : BitVec 32}
    {o8 i8 o7 i7 t7 o5 i5 t5 p1 p2}
    (h8 : o8 = ![n, k / 16, k % 16]) (h7 : o7 = ![n, k / 16, 8 * (k % 16), 0]) (h5 : o5 = ![b5, r5, 0]) (hn : n = σ.val)
    (hk : k < 64) (hb : b = 4 * s.val + k / 16) (hb5 : b5 = 4 * s.val + k / 16) (hr5 : r5 = 8 * (k % 16))
    (hlo : lo = BitVec.ofNat 32 (8 * (k % 16))) (hhi : hi = BitVec.ofNat 32 (8 * (k % 16) + 8))
    (h : iprop(Tabs I c ∗ mid I c s σ k hk ∗ Owes c ∗ R) ⊢ WP K Q) :
    iprop(Tabs I c ∗ mix (Started I c s σ) (Done I c s σ) k ∗ Owes c ∗ R) ⊢ WP (if Scalar.cmpi .ne (Scalar.extui (Scalar.xori
        (Scalar.ori (Scalar.ori 0#1 (Scalar.andi (Scalar.cmpi .sle (tb I.t1 b 0) lo) (Scalar.cmpi .sge (tb I.t2 b 0) hi)))
          (Scalar.andi (Scalar.cmpi .sle (tb I.t1 b 1) lo) (Scalar.cmpi .sge (tb I.t2 b 1) hi))) 1#1) : BitVec 32) 0#32 = 1#1 then
        (Prog.lift (.waitDma2 ((cc0_scratch1.slice (Rect.unit (s := S2x4x16) o8 S1x1x1.size i8)).squeeze S_ squeezes_S1x1x1_S_).sem
          (((Memref.whole main_arg0).slice (Rect.unit (s := S128x128x4096) o5 S1x8x4096.size i5) t5).squeeze S8x4096 squeezes_S1x8x4096_S8x4096)
          (((Memref.whole cc0_scratch0).slice (Rect.unit (s := S2x4x128x4096) o7 S1x1x8x4096.size i7) t7).squeeze S8x4096 squeezes_S1x1x8x4096_S8x4096)
          p1 p2) >>= fun _ => K)
      else K) Q := by
  rw [hb5, hr5] at h5
  rw [hn] at h8 h7
  iintro ⟨HT, HM, HO, HR⟩
  icases mix_step _ _ k hk $$ HM with ⟨H1, HM⟩
  iapply (wp_wait I c s σ ⟨k, hk⟩ (R := iprop(Tabs I c ∗ (Done I c s σ ⟨k, hk⟩ -∗ mix (Started I c s σ) (Done I c s σ) (k + 1)) ∗ R))
    (cov_read I hk hb hlo hhi) h8 h7 h5 ?_) $$ [HT H1 HM HO HR]
  · iintro ⟨H1, HO, HT, HM, HR⟩
    iapply h
    isplitl [HT]; · iexact HT
    isplitl [HM H1]
    · unfold mid; isplitl [H1]; · iexact H1
      iexact HM
    isplitl [HO]; · iexact HO
    iexact HR
  isplitl [H1]; · iexact H1
  isplitl [HO]; · iexact HO
  isplitl [HT]; · iexact HT
  isplitl [HM]; · iexact HM
  iexact HR

/-- A covered tile, which no copy has filled, is filled with zeros: cell `k` is then done. -/
theorem step_zero {K : Prog (TpuEff nD τ sig (Elt F) Λ₀ .tc) α} {Q : α → sProp 𝕄} {R : sProp 𝕄} {s : Fin 32} {σ : Fin 2} {k n b : ℕ} {hk : k < 64} {lo hi : BitVec 32}
    {o7 i7 l7 p1 p2} {pay : FVec F S1x1x8x4096 .f32}
    (h7 : o7 = ![n, k / 16, 8 * (k % 16), 0]) (hn : n = σ.val) (hp : pay = fun _ => FloatOps.ofBits .f32 0#32)
    (hb : b = 4 * s.val + k / 16)
    (hlo : lo = BitVec.ofNat 32 (8 * (k % 16))) (hhi : hi = BitVec.ofNat 32 (8 * (k % 16) + 8))
    (h : iprop(Tabs I c ∗ mix (Started I c s σ) (Done I c s σ) (k + 1) ∗ R) ⊢ WP K Q) :
    iprop(Tabs I c ∗ mid I c s σ k hk ∗ R) ⊢ WP (if Scalar.cmpi .ne (Scalar.extui
        (Scalar.ori (Scalar.ori 0#1 (Scalar.andi (Scalar.cmpi .sle (tb I.t1 b 0) lo) (Scalar.cmpi .sge (tb I.t2 b 0) hi)))
          (Scalar.andi (Scalar.cmpi .sle (tb I.t1 b 1) lo) (Scalar.cmpi .sge (tb I.t2 b 1) hi))) : BitVec 32) 0#32 = 1#1 then
        (Prog.lift (.load (Memref.whole cc0_scratch0) (Rect.unit (s := S2x4x128x4096) o7 S1x1x8x4096.size i7).toLoadRect l7) >>= fun _ =>
          (Prog.lift (.store (Memref.whole cc0_scratch0) (Rect.unit (s := S2x4x128x4096) o7 S1x1x8x4096.size i7) pay Finset.univ p1 p2) >>= fun _ => K))
      else K) Q := by
  rw [hn] at h7
  unfold mid
  iintro ⟨HT, ⟨H1, HM⟩, HR⟩
  iapply (wp_zero I c s σ ⟨k, hk⟩ (R := iprop(Tabs I c ∗ (Done I c s σ ⟨k, hk⟩ -∗ mix (Started I c s σ) (Done I c s σ) (k + 1)) ∗ R))
    (cov_read I hk hb hlo hhi) hp h7 ?_) $$ [HT H1 HM HR]
  · iintro ⟨H1, HT, HM, HR⟩
    iapply h
    isplitl [HT]; · iexact HT
    isplitl [HM H1]; · iapply HM $$ H1
    iexact HR
  isplitl [H1]; · iexact H1
  isplitl [HT]; · iexact HT
  isplitl [HM]; · iexact HM
  iexact HR

/-! ## The slots -/

/-- The slot the body reads at a step, as the kernel computes it. -/
abbrev slotNow (i : grid0.Coords) : ℕ := k0_off323 i 0
/-- and the slot it fills for the next step. -/
abbrev slotNext (i : grid0.Coords) : ℕ := k0_off3 i 0

/-- The slot of a step is its parity, -/
theorem slotNow_eq : ∀ i : grid0.Coords, slotNow i = (i 0).val % 2 := by decide +kernel
/-- and the slot of the next step is the other one. -/
theorem slotNext_eq : ∀ i : grid0.Coords, slotNext i = ((i 0).val + 1) % 2 := by decide +kernel

end Cert.KernelIdeal.Hand
-- ==== Proof.WalkA.lean ====
module
public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## The first step's starts -/

variable (I : Inp F) (c : Dev nD)

local notation "WP" => wp frame (wpE (defs₀ (F := F)) Variants.none (c : Thread nD τ) none) Set.univ

set_option maxHeartbeats 800000
set_option maxRecDepth 10000
set_option backward.isDefEq.respectTransparency.types false

/-- The first 63 starts of the first step's copies, into slot 0; the last one's condition is returned. -/
theorem starts_first (i : grid0.Coords) {Q : BitVec 32 → sProp 𝕄} {R : sProp 𝕄} {h1 h2 h3 h4 h5 h7} {M6 : Memref sig .tc .vmem S4x128x4096 .f32} {h6}
    (h : iprop(Tabs I c ∗ mix (Idle I c 0) (Started I c 0 0) 63 ∗ R) ⊢ Q (Scalar.extui (Scalar.xori
        (Scalar.ori (Scalar.ori 0#1 (Scalar.andi (Scalar.cmpi .sle (tb I.t1 3 0) 120#32) (Scalar.cmpi .sge (tb I.t2 3 0) 128#32)))
          (Scalar.andi (Scalar.cmpi .sle (tb I.t1 3 1) 120#32) (Scalar.cmpi .sge (tb I.t2 3 1) 128#32))) 1#1))) :
    iprop(Tabs I c ∗ mix (Idle I c 0) (Started I c 0 0) 0 ∗ R) ⊢ WP (k0_part40 i (Memref.whole main_c_3) h1 (Memref.whole main_c_4) h2
      (Memref.whole main_v24) h3 (Memref.whole main_v39) h4 (Memref.whole main_arg0) h5 M6 h6 (Memref.whole cc0_scratch0) h7 cc0_scratch1) Q := by
  delta k0_part40
  iterate 63
    iterate 2
      try (with_reducible refine wp_return c ?_
           with_reducible refine hQ' _ _ ?_
           clear hQ' Q')
      try (with_reducible refine wp_call c ?_
           intro Q' hQ'
           delta k0_part1 k0_part2 k0_part3 k0_part4 k0_part5 k0_part6 k0_part7 k0_part8 k0_part9 k0_part10 k0_part11 k0_part12 k0_part13 k0_part14
             k0_part15 k0_part16 k0_part17 k0_part18 k0_part19 k0_part20 k0_part21 k0_part22 k0_part23 k0_part24 k0_part25 k0_part26 k0_part27
             k0_part28 k0_part29 k0_part30 k0_part31 k0_part32 k0_part33 k0_part34 k0_part35 k0_part36 k0_part37 k0_part38 k0_part39)
      try (with_reducible refine wp_tail c ?_)
      refine wp_tab1 I c rfl ?_
      try (with_reducible refine wp_return c ?_
           with_reducible refine hQ' _ _ ?_
           clear hQ' Q')
      try (with_reducible refine wp_call c ?_
           intro Q' hQ'
           delta k0_part1 k0_part2 k0_part3 k0_part4 k0_part5 k0_part6 k0_part7 k0_part8 k0_part9 k0_part10 k0_part11 k0_part12 k0_part13 k0_part14
             k0_part15 k0_part16 k0_part17 k0_part18 k0_part19 k0_part20 k0_part21 k0_part22 k0_part23 k0_part24 k0_part25 k0_part26 k0_part27
             k0_part28 k0_part29 k0_part30 k0_part31 k0_part32 k0_part33 k0_part34 k0_part35 k0_part36 k0_part37 k0_part38 k0_part39)
      try (with_reducible refine wp_tail c ?_)
      refine wp_tab2 I c rfl ?_
    try (with_reducible refine wp_return c ?_
         with_reducible refine hQ' _ _ ?_
         clear hQ' Q')
    try (with_reducible refine wp_call c ?_
         intro Q' hQ'
         delta k0_part1 k0_part2 k0_part3 k0_part4 k0_part5 k0_part6 k0_part7 k0_part8 k0_part9 k0_part10 k0_part11 k0_part12 k0_part13 k0_part14
           k0_part15 k0_part16 k0_part17 k0_part18 k0_part19 k0_part20 k0_part21 k0_part22 k0_part23 k0_part24 k0_part25 k0_part26 k0_part27
           k0_part28 k0_part29 k0_part30 k0_part31 k0_part32 k0_part33 k0_part34 k0_part35 k0_part36 k0_part37 k0_part38 k0_part39)
    try (with_reducible refine wp_tail c ?_)
    refine step_start I c rfl rfl rfl rfl (by decide) (by rfl) (by rfl) (by rfl) (by rfl) (by rfl) ?_
  iterate 2
    try (with_reducible refine wp_return c ?_
         with_reducible refine hQ' _ _ ?_
         clear hQ' Q')
    try (with_reducible refine wp_call c ?_
         intro Q' hQ'
         delta k0_part1 k0_part2 k0_part3 k0_part4 k0_part5 k0_part6 k0_part7 k0_part8 k0_part9 k0_part10 k0_part11 k0_part12 k0_part13 k0_part14
           k0_part15 k0_part16 k0_part17 k0_part18 k0_part19 k0_part20 k0_part21 k0_part22 k0_part23 k0_part24 k0_part25 k0_part26 k0_part27
           k0_part28 k0_part29 k0_part30 k0_part31 k0_part32 k0_part33 k0_part34 k0_part35 k0_part36 k0_part37 k0_part38 k0_part39)
    try (with_reducible refine wp_tail c ?_)
    refine wp_tab1 I c rfl ?_
    try (with_reducible refine wp_return c ?_
         with_reducible refine hQ' _ _ ?_
         clear hQ' Q')
    try (with_reducible refine wp_call c ?_
         intro Q' hQ'
         delta k0_part1 k0_part2 k0_part3 k0_part4 k0_part5 k0_part6 k0_part7 k0_part8 k0_part9 k0_part10 k0_part11 k0_part12 k0_part13 k0_part14
           k0_part15 k0_part16 k0_part17 k0_part18 k0_part19 k0_part20 k0_part21 k0_part22 k0_part23 k0_part24 k0_part25 k0_part26 k0_part27
           k0_part28 k0_part29 k0_part30 k0_part31 k0_part32 k0_part33 k0_part34 k0_part35 k0_part36 k0_part37 k0_part38 k0_part39)
    try (with_reducible refine wp_tail c ?_)
    refine wp_tab2 I c rfl ?_
  with_reducible refine wp_return c ?_
  exact h

end Cert.KernelIdeal.Hand
-- ==== Proof.WalkB.lean ====
module
public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## The next step's starts -/

variable (I : Inp F) (c : Dev nD)

local notation "WP" => wp frame (wpE (defs₀ (F := F)) Variants.none (c : Thread nD τ) none) Set.univ

set_option maxHeartbeats 800000
set_option maxRecDepth 10000
set_option backward.isDefEq.respectTransparency.types false

/-- The first 63 starts of the next step's copies, into the other slot; of the last one the first comparison is returned. -/
theorem starts_next (i : grid0.Coords) {s : Fin 32} {σ : Fin 2} (hs : s.val = (i 0).val + 1) (hσ : slotNext i = σ.val)
    {Q : (Σ' (_ : BitVec 32), BitVec 1) → sProp 𝕄} {R : sProp 𝕄} {h1 h2 h3 h4 h5 h7} {M6 : Memref sig .tc .vmem S4x128x4096 .f32} {h6 a0 hc}
    (h : ∀ v, iprop(Tabs I c ∗ mix (Idle I c σ) (Started I c s σ) 63 ∗ R) ⊢ Q ⟨v, Scalar.cmpi .sle (tb I.t1 (4 * (i 0).val + 7) 0) 120#32⟩) :
    iprop(Tabs I c ∗ mix (Idle I c σ) (Started I c s σ) 0 ∗ R) ⊢ WP (k0_part77 i (Memref.whole main_c_3) h1 (Memref.whole main_c_4) h2
      (Memref.whole main_v24) h3 (Memref.whole main_v39) h4 (Memref.whole main_arg0) h5 M6 h6 (Memref.whole cc0_scratch0) h7 cc0_scratch1 a0 hc) Q := by
  delta k0_part77
  iterate 63
    iterate 2
      try (with_reducible refine wp_return c ?_
           with_reducible refine hQ' _ _ ?_
           clear hQ' Q')
      try (with_reducible refine wp_call c ?_
           intro Q' hQ'
           delta k0_part41 k0_part42 k0_part43 k0_part44 k0_part45 k0_part46 k0_part47 k0_part48 k0_part49 k0_part50 k0_part51 k0_part52 k0_part53
             k0_part54 k0_part55 k0_part56 k0_part57 k0_part58 k0_part59 k0_part60 k0_part61 k0_part62 k0_part63 k0_part64 k0_part65 k0_part66
             k0_part67 k0_part68 k0_part69 k0_part70 k0_part71 k0_part72 k0_part73 k0_part74 k0_part75 k0_part76)
      try (with_reducible refine wp_tail c ?_)
      refine wp_tab1 I c (by exact ClosedOff.eq) ?_
      try (with_reducible refine wp_return c ?_
           with_reducible refine hQ' _ _ ?_
           clear hQ' Q')
      try (with_reducible refine wp_call c ?_
           intro Q' hQ'
           delta k0_part41 k0_part42 k0_part43 k0_part44 k0_part45 k0_part46 k0_part47 k0_part48 k0_part49 k0_part50 k0_part51 k0_part52 k0_part53
             k0_part54 k0_part55 k0_part56 k0_part57 k0_part58 k0_part59 k0_part60 k0_part61 k0_part62 k0_part63 k0_part64 k0_part65 k0_part66
             k0_part67 k0_part68 k0_part69 k0_part70 k0_part71 k0_part72 k0_part73 k0_part74 k0_part75 k0_part76)
      try (with_reducible refine wp_tail c ?_)
      refine wp_tab2 I c (by exact ClosedOff.eq) ?_
    try (with_reducible refine wp_return c ?_
         with_reducible refine hQ' _ _ ?_
         clear hQ' Q')
    try (with_reducible refine wp_call c ?_
         intro Q' hQ'
         delta k0_part41 k0_part42 k0_part43 k0_part44 k0_part45 k0_part46 k0_part47 k0_part48 k0_part49 k0_part50 k0_part51 k0_part52 k0_part53
           k0_part54 k0_part55 k0_part56 k0_part57 k0_part58 k0_part59 k0_part60 k0_part61 k0_part62 k0_part63 k0_part64 k0_part65 k0_part66
           k0_part67 k0_part68 k0_part69 k0_part70 k0_part71 k0_part72 k0_part73 k0_part74 k0_part75 k0_part76)
    try (with_reducible refine wp_tail c ?_)
    refine step_start I c (n := slotNext i) (by rfl) (by rfl) (by exact ClosedOff.eq) hσ (by decide) (by omega) (by omega) (by rfl) (by rfl)
      (by rfl) ?_
  try (with_reducible refine wp_return c ?_
       with_reducible refine hQ' _ _ ?_
       clear hQ' Q')
  try (with_reducible refine wp_call c ?_
       intro Q' hQ'
       delta k0_part41 k0_part42 k0_part43 k0_part44 k0_part45 k0_part46 k0_part47 k0_part48 k0_part49 k0_part50 k0_part51 k0_part52 k0_part53
         k0_part54 k0_part55 k0_part56 k0_part57 k0_part58 k0_part59 k0_part60 k0_part61 k0_part62 k0_part63 k0_part64 k0_part65 k0_part66 k0_part67
         k0_part68 k0_part69 k0_part70 k0_part71 k0_part72 k0_part73 k0_part74 k0_part75 k0_part76)
  try (with_reducible refine wp_tail c ?_)
  refine wp_tab1 I c (by exact ClosedOff.eq) ?_
  with_reducible refine wp_return c ?_
  exact h _

end Cert.KernelIdeal.Hand
-- ==== Proof.WalkN.lean ====
module
public import proofs.«01_k».proof.Proof.WalkA
public import proofs.«01_k».proof.Proof.WalkB

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## The two conditional phases -/

/-- The first step's condition. -/
theorem cond_first : ∀ i : grid0.Coords, Scalar.cmpi .ne (Scalar.extui (Scalar.cmpi .eq (BitVec.ofNat 32 (i 0).val) 0#32) : BitVec 32) 0#32 = 1#1 ↔ (i 0).val = 0 := by
  decide +kernel
/-- The condition under which a further step is started. -/
theorem cond_next : ∀ i : grid0.Coords, k0_cond66 i = 1#1 ↔ (i 0).val + 1 < 32 := by
  decide +kernel

variable (I : Inp F) (c : Dev nD)

local notation "WP" => wp frame (wpE (defs₀ (F := F)) Variants.none (c : Thread nD τ) none) Set.univ

set_option maxHeartbeats 800000
set_option maxRecDepth 10000
set_option backward.isDefEq.respectTransparency.types false

/-- Slot `σ` before step `t`, the step that empties it: the copies of step `t` in flight, if an earlier step has started them. -/
def Ahead (t : ℕ) (σ : Fin 2) : sProp 𝕄 :=
  if h : 0 < t ∧ t < 32 then bigSep Finset.univ (Started I c ⟨t, h.2⟩ σ) else bigSep Finset.univ (Idle I c σ)

/-- Two inner parts of what is held change places. -/
theorem swap_in {A B T R X : sProp 𝕄} (h : iprop(T ∗ B ∗ A ∗ R) ⊢ X) : iprop(T ∗ A ∗ B ∗ R) ⊢ X := by
  refine .trans ?_ h
  iintro ⟨H1, H2, H3, H4⟩
  isplitl [H1]; · iexact H1
  isplitl [H3]; · iexact H3
  isplitl [H2]; · iexact H2
  iexact H4

/-- The first step starts its own copies; at the others they are in flight already. -/
theorem step_first {α : Type} (i : grid0.Coords) {s : Fin 32} {σ : Fin 2} (hs : s.val = (i 0).val) (hσ : slotNow i = σ.val)
    {K : Prog (TpuEff nD τ sig (Elt F) Λ₀ .tc) α} {Q : α → sProp 𝕄} {R : sProp 𝕄} {h1 h2 h3 h4 h5 h7} {M6 : Memref sig .tc .vmem S4x128x4096 .f32} {h6 i8 i7 t7 i5 t5 p1 p2 p3}
    (h : iprop(Tabs I c ∗ bigSep Finset.univ (Started I c s σ) ∗ R) ⊢ WP K Q) :
    iprop(Tabs I c ∗ Ahead I c s.val σ ∗ R) ⊢ WP (if _ : Scalar.cmpi .ne (Scalar.extui (Scalar.cmpi .eq (BitVec.ofNat 32 (i 0).val) 0#32) : BitVec 32) 0#32 = 1#1 then
        k0_part40 i (Memref.whole main_c_3) h1 (Memref.whole main_c_4) h2
      (Memref.whole main_v24) h3 (Memref.whole main_v39) h4 (Memref.whole main_arg0) h5 M6 h6 (Memref.whole cc0_scratch0) h7 cc0_scratch1 >>= fun v =>
        if Scalar.cmpi .ne v 0#32 = 1#1 then
          (Prog.lift (.enqueueDma (((Memref.whole main_arg0).slice (Rect.unit (s := S128x128x4096) ![3, 120, 0] S1x8x4096.size i5) t5).squeeze S8x4096 squeezes_S1x8x4096_S8x4096)
            (.here (((Memref.whole cc0_scratch0).slice (Rect.unit (s := S2x4x128x4096) ![0, 3, 120, 0] S1x1x8x4096.size i7) t7).squeeze S8x4096 squeezes_S1x1x8x4096_S8x4096))
            (.dma ((cc0_scratch1.slice (Rect.unit (s := S2x4x16) ![0, 3, 15] S1x1x1.size i8)).squeeze S_ squeezes_S1x1x1_S_).sem) p1 p2 p3) >>= fun _ => K)
        else K
      else K) Q := by
  by_cases hc : (i 0).val = 0
  · rw [dif_pos ((cond_first i).2 hc)]
    obtain rfl : s = 0 := Fin.ext (hs.trans hc)
    obtain rfl : σ = 0 := Fin.ext (by rw [← hσ, slotNow_eq, hc]; rfl)
    unfold Ahead
    rw [dif_neg (by simp), ← mix_zero (Idle I c 0) (Started I c 0 0)]
    refine wp_call c ?_
    intro Q' hQ'
    refine starts_first I c i ?_
    refine hQ' _ _ ?_
    refine step_start I c (k := 63) rfl rfl rfl rfl (by decide) (by rfl) (by rfl) (by rfl) (by rfl) (by rfl) ?_
    rw [mix_all]
    exact h
  · rw [dif_neg (fun h => hc ((cond_first i).1 h))]
    unfold Ahead
    rw [dif_pos ⟨by omega, s.isLt⟩]
    exact h

/-- Every step but the last starts the next one's copies into the other slot. -/
theorem step_next {α : Type} (i : grid0.Coords) {σ : Fin 2} (hσ : slotNext i = σ.val)
    {K : Prog (TpuEff nD τ sig (Elt F) Λ₀ .tc) α} {Q : α → sProp 𝕄} {R : sProp 𝕄} {h1 h2 h3 h4 h5 h7} {M6 : Memref sig .tc .vmem S4x128x4096 .f32} {h6 a0}
    (h : iprop(Tabs I c ∗ Ahead I c ((i 0).val + 1) σ ∗ R) ⊢ WP K Q) :
    iprop(Tabs I c ∗ bigSep Finset.univ (Idle I c σ) ∗ R) ⊢ WP (if hc : k0_cond66 i = 1#1 then
        k0_part77 i (Memref.whole main_c_3) h1 (Memref.whole main_c_4) h2
      (Memref.whole main_v24) h3 (Memref.whole main_v39) h4 (Memref.whole main_arg0) h5 M6 h6 (Memref.whole cc0_scratch0) h7 cc0_scratch1 a0 hc >>= fun p =>
        smemLoad (Memref.whole main_c_4) (Rect.unit (s := S128x2) (k0_off316 i) S1x1.size (k0_off316_inb i hc)) numel1_S1x1 rfl >>= fun u1 =>
        smemLoad (Memref.whole main_c_3) (Rect.unit (s := S128x2) (k0_off317 i) S1x1.size (k0_off317_inb i hc)) numel1_S1x1 rfl >>= fun u2 =>
        smemLoad (Memref.whole main_c_4) (Rect.unit (s := S128x2) (k0_off317 i) S1x1.size (k0_off317_inb i hc)) numel1_S1x1 rfl >>= fun u3 =>
        if Scalar.cmpi .ne (Scalar.extui (Scalar.xori (Scalar.ori (Scalar.ori 0#1 (Scalar.andi p.2 (Scalar.cmpi .sge u1 128#32)))
            (Scalar.andi (Scalar.cmpi .sle u2 120#32) (Scalar.cmpi .sge u3 128#32))) 1#1) : BitVec 32) 0#32 = 1#1 then
          (Prog.lift (.enqueueDma (((Memref.whole main_arg0).slice (Rect.unit (s := S128x128x4096) (k0_off320 i) S1x8x4096.size (k0_off320_inb i hc)) (fun _ => rfl)).squeeze S8x4096 squeezes_S1x8x4096_S8x4096)
            (.here (((Memref.whole cc0_scratch0).slice (Rect.unit (s := S2x4x128x4096) (k0_off319 i) S1x1x8x4096.size (k0_off319_inb i hc)) (fun _ => rfl)).squeeze S8x4096 squeezes_S1x1x8x4096_S8x4096))
            (.dma ((cc0_scratch1.slice (Rect.unit (s := S2x4x16) (k0_off318 i) S1x1x1.size (k0_off318_inb i hc))).squeeze S_ squeezes_S1x1x1_S_).sem) ((View.wordExact_bits rfl).reshape _ _) ((View.wordExact_bits rfl).reshape _ _) ⟨Or.inl rfl, trivial⟩) >>= fun _ => K)
        else K
      else K) Q := by
  by_cases hc : (i 0).val + 1 < 32
  · rw [dif_pos ((cond_next i).2 hc)]
    unfold Ahead at h
    rw [dif_pos ⟨by omega, hc⟩] at h
    rw [← mix_zero (Idle I c σ) (Started I c ⟨(i 0).val + 1, hc⟩ σ)]
    refine wp_call c ?_
    intro Q' hQ'
    refine starts_next I c i rfl hσ ?_
    intro v
    refine hQ' _ _ ?_
    refine wp_tab2 I c (by exact ClosedOff.eq) ?_
    refine wp_tab1 I c (by exact ClosedOff.eq) ?_
    refine wp_tab2 I c (by exact ClosedOff.eq) ?_
    refine step_start I c (n := slotNext i) (k := 63) (by rfl) (by rfl) (by exact ClosedOff.eq) hσ (by decide) (by simp only []; omega) (by simp only []; omega) (by rfl) (by rfl) (by rfl) ?_
    rw [mix_all]
    exact h
  · rw [dif_neg (fun h => hc ((cond_next i).1 h))]
    unfold Ahead at h
    rw [dif_neg (by omega)] at h
    exact h

end Cert.KernelIdeal.Hand
-- ==== Proof.Out.lean ====
module
public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## What the body computes -/

variable (I : Inp F)

/-- A value of four words of a table, those of the four samples of step `i`, at column `k`. -/
def four {β : Type} {n : ℕ} (f : BitVec 32 → BitVec 32 → BitVec 32 → BitVec 32 → β) (t : (⟨⟨2, ![128, n]⟩, .i32⟩ : BufTy).Contents (Elt F)) (i : grid0.Coords) (k : ℕ) : β :=
  f (tb t (4 * (i 0).val + 0) k) (tb t (4 * (i 0).val + 1) k) (tb t (4 * (i 0).val + 2) k) (tb t (4 * (i 0).val + 3) k)

/-- The positions along the third axis, as the body has them. -/
abbrev times : IVec S1x1x4096 32 := iota .tc S1x1x4096 32 [2] iota_S1x1x4096_d2_w32
/-- and along the second. -/
abbrev rows : IVec S1x128x1 32 := iota .tc S1x128x1 32 [1] iota_S1x128x1_d1_w32

/-- The rows of step `i`'s samples that lie in one of two bands. -/
def Inp.fmask (i : grid0.Coords) : IVec S4x128x1 1 :=
  four (k0_pay70 (F := F) rows (four (k0_pay68 (F := F) rows k0_pay66 (four (k0_pay67 (F := F)) I.t1 i 0)) I.t2 i 0) (four (k0_pay69 (F := F) rows) I.t1 i 1)) I.t2 i 1

/-- The positions of step `i`'s samples that lie in one of the first 1 of ten intervals. -/
def Inp.tmask0 (i : grid0.Coords) : IVec S4x1x4096 1 :=
  four (k0_pay73 (F := F) times k0_pay71 (four (k0_pay72 (F := F) times) I.t3 i 0)) I.t4 i 0
/-- The positions of step `i`'s samples that lie in one of the first 2 of ten intervals. -/
def Inp.tmask1 (i : grid0.Coords) : IVec S4x1x4096 1 :=
  four (k0_pay75 (F := F) times (I.tmask0 i) (four (k0_pay74 (F := F) times) I.t3 i 1)) I.t4 i 1
/-- The positions of step `i`'s samples that lie in one of the first 3 of ten intervals. -/
def Inp.tmask2 (i : grid0.Coords) : IVec S4x1x4096 1 :=
  four (k0_pay77 (F := F) times (I.tmask1 i) (four (k0_pay76 (F := F) times) I.t3 i 2)) I.t4 i 2
/-- The positions of step `i`'s samples that lie in one of the first 4 of ten intervals. -/
def Inp.tmask3 (i : grid0.Coords) : IVec S4x1x4096 1 :=
  four (k0_pay79 (F := F) times (I.tmask2 i) (four (k0_pay78 (F := F) times) I.t3 i 3)) I.t4 i 3
/-- The positions of step `i`'s samples that lie in one of the first 5 of ten intervals. -/
def Inp.tmask4 (i : grid0.Coords) : IVec S4x1x4096 1 :=
  four (k0_pay81 (F := F) times (I.tmask3 i) (four (k0_pay80 (F := F) times) I.t3 i 4)) I.t4 i 4
/-- The positions of step `i`'s samples that lie in one of the first 6 of ten intervals. -/
def Inp.tmask5 (i : grid0.Coords) : IVec S4x1x4096 1 :=
  four (k0_pay83 (F := F) times (I.tmask4 i) (four (k0_pay82 (F := F) times) I.t3 i 5)) I.t4 i 5
/-- The positions of step `i`'s samples that lie in one of the first 7 of ten intervals. -/
def Inp.tmask6 (i : grid0.Coords) : IVec S4x1x4096 1 :=
  four (k0_pay85 (F := F) times (I.tmask5 i) (four (k0_pay84 (F := F) times) I.t3 i 6)) I.t4 i 6
/-- The positions of step `i`'s samples that lie in one of the first 8 of ten intervals. -/
def Inp.tmask7 (i : grid0.Coords) : IVec S4x1x4096 1 :=
  four (k0_pay87 (F := F) times (I.tmask6 i) (four (k0_pay86 (F := F) times) I.t3 i 7)) I.t4 i 7
/-- The positions of step `i`'s samples that lie in one of the first 9 of ten intervals. -/
def Inp.tmask8 (i : grid0.Coords) : IVec S4x1x4096 1 :=
  four (k0_pay89 (F := F) times (I.tmask7 i) (four (k0_pay88 (F := F) times) I.t3 i 8)) I.t4 i 8
/-- The positions at or after the tenth interval's start. -/
def Inp.tge (i : grid0.Coords) : IVec S4x1x4096 1 := four (k0_pay90 (F := F) times) I.t3 i 9

/-- The slot at step `s`. -/
def Inp.block (s : Fin 32) : FVec F S1x4x128x4096 .f32 := fun y =>
  I.slotVal s (ix4 0 (y 1) (y 2) (y 3) : S2x4x128x4096.Idx)

/-- The block of the result that step `i` stores. -/
def Inp.out (i : grid0.Coords) : FVec F S4x128x4096 .f32 :=
  k0_pay1 times (I.fmask i) (I.tmask8 i) (I.tge i) (tb I.t4 (4 * (i 0).val + 0) 9) (tb I.t4 (4 * (i 0).val + 1) 9) (tb I.t4 (4 * (i 0).val + 2) 9)
    (tb I.t4 (4 * (i 0).val + 3) 9) (I.block (i 0))

end Cert.KernelIdeal.Hand
-- ==== Proof.WalkC.lean ====
module
public import proofs.«01_k».proof.Proof.WalkN
public import proofs.«01_k».proof.Proof.Out

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## The body up to its last reads -/

variable (I : Inp F) (c : Dev nD)

local notation "WP" => wp frame (wpE (defs₀ (F := F)) Variants.none (c : Thread nD τ) none) Set.univ

set_option maxHeartbeats 800000
set_option maxRecDepth 10000
set_option backward.isDefEq.respectTransparency.types false

/-- Two inner parts of what is held change places, behind two others. -/
theorem swap_in2 {A B S T R X : sProp 𝕄} (h : iprop(T ∗ S ∗ B ∗ A ∗ R) ⊢ X) : iprop(T ∗ S ∗ A ∗ B ∗ R) ⊢ X :=
  .trans (sep_mono .rfl (swap_in .rfl)) h

/-- The body up to its last reads: it empties the slot of its own step and fills the other for the next. -/
theorem walk (i : grid0.Coords) {s : Fin 32} {σ σ' : Fin 2} (hs : s.val = (i 0).val) (hσ : slotNow i = σ.val) (hσ' : slotNext i = σ'.val)
    {Q : _ → sProp 𝕄} {R : sProp 𝕄} {h1 h2 h3 h4 h5 h7} {M6 : Memref sig .tc .vmem S4x128x4096 .f32} {h6}
    (h : ∀ u, iprop(Tabs I c ∗ mix (Started I c s σ) (Done I c s σ) 64 ∗ Owes c ∗ Ahead I c ((i 0).val + 1) σ' ∗ R) ⊢ Q ⟨u, Scalar.muli (BitVec.ofNat 32 (i 0).val) 4#32, times, I.fmask i, I.tmask8 i, I.tge i,
        tb I.t4 (4 * (i 0).val + 0) 9, tb I.t4 (4 * (i 0).val + 1) 9, 2#32⟩) :
    iprop(Tabs I c ∗ Ahead I c s.val σ ∗ bigSep Finset.univ (Idle I c σ') ∗ Owes c ∗ R) ⊢ WP (k0_part131 i (Memref.whole main_c_3) h1 (Memref.whole main_c_4) h2
      (Memref.whole main_v24) h3 (Memref.whole main_v39) h4 (Memref.whole main_arg0) h5 M6 h6 (Memref.whole cc0_scratch0) h7 cc0_scratch1) Q := by
  rw [k0_part131_eq_skeleton]
  delta k0_part131_skel
  refine wp_call c ?_
  intro Q' hQ'
  delta k0_part78
  refine step_first I c i hs hσ ?_
  refine swap_in ?_
  refine step_next I c i hσ' ?_
  refine swap_in ?_
  rw [← mix_zero (Started I c s σ) (Done I c s σ)]
  refine swap_in2 ?_
  iterate 63
    iterate 2
      try (with_reducible refine wp_return c ?_
           with_reducible refine hQ' _ _ ?_
           clear hQ' Q')
      try (with_reducible refine wp_call c ?_
           intro Q' hQ'
           delta k0_part79 k0_part80 k0_part81 k0_part82 k0_part83 k0_part84 k0_part85 k0_part86 k0_part87 k0_part88 k0_part89 k0_part90 k0_part91
             k0_part92 k0_part93 k0_part94 k0_part95 k0_part96 k0_part97 k0_part98 k0_part99 k0_part100 k0_part101 k0_part102 k0_part103 k0_part104
             k0_part105 k0_part106 k0_part107 k0_part108 k0_part109 k0_part110 k0_part111 k0_part112 k0_part113 k0_part114 k0_part115 k0_part116
             k0_part117 k0_part118)
      try (with_reducible refine wp_tail c ?_)
      refine wp_tab1 I c (by exact ClosedOff.eq) ?_
      try (with_reducible refine wp_return c ?_
           with_reducible refine hQ' _ _ ?_
           clear hQ' Q')
      try (with_reducible refine wp_call c ?_
           intro Q' hQ'
           delta k0_part79 k0_part80 k0_part81 k0_part82 k0_part83 k0_part84 k0_part85 k0_part86 k0_part87 k0_part88 k0_part89 k0_part90 k0_part91
             k0_part92 k0_part93 k0_part94 k0_part95 k0_part96 k0_part97 k0_part98 k0_part99 k0_part100 k0_part101 k0_part102 k0_part103 k0_part104
             k0_part105 k0_part106 k0_part107 k0_part108 k0_part109 k0_part110 k0_part111 k0_part112 k0_part113 k0_part114 k0_part115 k0_part116
             k0_part117 k0_part118)
      try (with_reducible refine wp_tail c ?_)
      refine wp_tab2 I c (by exact ClosedOff.eq) ?_
    try (with_reducible refine wp_return c ?_
         with_reducible refine hQ' _ _ ?_
         clear hQ' Q')
    try (with_reducible refine wp_call c ?_
         intro Q' hQ'
         delta k0_part79 k0_part80 k0_part81 k0_part82 k0_part83 k0_part84 k0_part85 k0_part86 k0_part87 k0_part88 k0_part89 k0_part90 k0_part91
           k0_part92 k0_part93 k0_part94 k0_part95 k0_part96 k0_part97 k0_part98 k0_part99 k0_part100 k0_part101 k0_part102 k0_part103 k0_part104
           k0_part105 k0_part106 k0_part107 k0_part108 k0_part109 k0_part110 k0_part111 k0_part112 k0_part113 k0_part114 k0_part115 k0_part116
           k0_part117 k0_part118)
    try (with_reducible refine wp_tail c ?_)
    refine step_wait I c (n := slotNow i) (by rfl) (by rfl) (by exact ClosedOff.eq) hσ (by decide) (by omega) (by omega) (by rfl) (by rfl)
      (by rfl) ?_
    try (with_reducible refine wp_return c ?_
         with_reducible refine hQ' _ _ ?_
         clear hQ' Q')
    try (with_reducible refine wp_call c ?_
         intro Q' hQ'
         delta k0_part79 k0_part80 k0_part81 k0_part82 k0_part83 k0_part84 k0_part85 k0_part86 k0_part87 k0_part88 k0_part89 k0_part90 k0_part91
           k0_part92 k0_part93 k0_part94 k0_part95 k0_part96 k0_part97 k0_part98 k0_part99 k0_part100 k0_part101 k0_part102 k0_part103 k0_part104
           k0_part105 k0_part106 k0_part107 k0_part108 k0_part109 k0_part110 k0_part111 k0_part112 k0_part113 k0_part114 k0_part115 k0_part116
           k0_part117 k0_part118)
    try (with_reducible refine wp_tail c ?_)
    refine step_zero I c (n := slotNow i) (by rfl) hσ (by rfl) (by omega) (by rfl) (by rfl) ?_
  iterate 2
    try (with_reducible refine wp_return c ?_
         with_reducible refine hQ' _ _ ?_
         clear hQ' Q')
    try (with_reducible refine wp_call c ?_
         intro Q' hQ'
         delta k0_part79 k0_part80 k0_part81 k0_part82 k0_part83 k0_part84 k0_part85 k0_part86 k0_part87 k0_part88 k0_part89 k0_part90 k0_part91
           k0_part92 k0_part93 k0_part94 k0_part95 k0_part96 k0_part97 k0_part98 k0_part99 k0_part100 k0_part101 k0_part102 k0_part103 k0_part104
           k0_part105 k0_part106 k0_part107 k0_part108 k0_part109 k0_part110 k0_part111 k0_part112 k0_part113 k0_part114 k0_part115 k0_part116
           k0_part117 k0_part118)
    try (with_reducible refine wp_tail c ?_)
    try (with_reducible refine wp_call c ?_
         intro Q' hQ'
         rw [k0_part119_eq_skeleton]
         delta k0_part119_skel)
    refine wp_tab1 I c (by exact ClosedOff.eq) ?_
    try (with_reducible refine wp_return c ?_
         with_reducible refine hQ' _ _ ?_
         clear hQ' Q')
    try (with_reducible refine wp_call c ?_
         intro Q' hQ'
         delta k0_part79 k0_part80 k0_part81 k0_part82 k0_part83 k0_part84 k0_part85 k0_part86 k0_part87 k0_part88 k0_part89 k0_part90 k0_part91
           k0_part92 k0_part93 k0_part94 k0_part95 k0_part96 k0_part97 k0_part98 k0_part99 k0_part100 k0_part101 k0_part102 k0_part103 k0_part104
           k0_part105 k0_part106 k0_part107 k0_part108 k0_part109 k0_part110 k0_part111 k0_part112 k0_part113 k0_part114 k0_part115 k0_part116
           k0_part117 k0_part118)
    try (with_reducible refine wp_tail c ?_)
    try (with_reducible refine wp_call c ?_
         intro Q' hQ'
         rw [k0_part119_eq_skeleton]
         delta k0_part119_skel)
    refine wp_tab2 I c (by exact ClosedOff.eq) ?_
  try (with_reducible refine wp_return c ?_
       with_reducible refine hQ' _ _ ?_
       clear hQ' Q')
  try (with_reducible refine wp_call c ?_
       intro Q' hQ'
       delta k0_part79 k0_part80 k0_part81 k0_part82 k0_part83 k0_part84 k0_part85 k0_part86 k0_part87 k0_part88 k0_part89 k0_part90 k0_part91
         k0_part92 k0_part93 k0_part94 k0_part95 k0_part96 k0_part97 k0_part98 k0_part99 k0_part100 k0_part101 k0_part102 k0_part103 k0_part104
         k0_part105 k0_part106 k0_part107 k0_part108 k0_part109 k0_part110 k0_part111 k0_part112 k0_part113 k0_part114 k0_part115 k0_part116
         k0_part117 k0_part118)
  try (with_reducible refine wp_tail c ?_)
  try (with_reducible refine wp_call c ?_
       intro Q' hQ'
       rw [k0_part119_eq_skeleton]
       delta k0_part119_skel)
  refine step_wait I c (n := slotNow i) (by rfl) (by rfl) (by exact ClosedOff.eq) hσ (by decide) (by omega) (by omega) (by rfl) (by rfl)
    (by rfl) ?_
  try (with_reducible refine wp_return c ?_
       with_reducible refine hQ' _ _ ?_
       clear hQ' Q')
  try (with_reducible refine wp_call c ?_
       intro Q' hQ'
       delta k0_part79 k0_part80 k0_part81 k0_part82 k0_part83 k0_part84 k0_part85 k0_part86 k0_part87 k0_part88 k0_part89 k0_part90 k0_part91
         k0_part92 k0_part93 k0_part94 k0_part95 k0_part96 k0_part97 k0_part98 k0_part99 k0_part100 k0_part101 k0_part102 k0_part103 k0_part104
         k0_part105 k0_part106 k0_part107 k0_part108 k0_part109 k0_part110 k0_part111 k0_part112 k0_part113 k0_part114 k0_part115 k0_part116
         k0_part117 k0_part118)
  try (with_reducible refine wp_tail c ?_)
  try (with_reducible refine wp_call c ?_
       intro Q' hQ'
       rw [k0_part119_eq_skeleton]
       delta k0_part119_skel)
  refine step_zero I c (n := slotNow i) (by rfl) hσ (by rfl) (by omega) (by rfl) (by rfl) ?_
  refine wp_tab1 I c (by exact ClosedOff.eq) ?_
  refine wp_tab1 I c (by exact ClosedOff.eq) ?_
  refine wp_tab1 I c (by exact ClosedOff.eq) ?_
  refine wp_tab1 I c (by exact ClosedOff.eq) ?_
  refine wp_tab2 I c (by exact ClosedOff.eq) ?_
  refine wp_return c ?_
  refine hQ' _ _ ?_
  clear hQ' Q'
  refine wp_call c ?_
  intro Q' hQ'
  rw [k0_part120_eq_skeleton]
  delta k0_part120_skel
  refine wp_tab2 I c (by exact ClosedOff.eq) ?_
  refine wp_tab2 I c (by exact ClosedOff.eq) ?_
  refine wp_tab2 I c (by exact ClosedOff.eq) ?_
  refine wp_tab1 I c (by exact ClosedOff.eq) ?_
  refine wp_tab1 I c (by exact ClosedOff.eq) ?_
  refine wp_tab1 I c (by exact ClosedOff.eq) ?_
  refine wp_tab1 I c (by exact ClosedOff.eq) ?_
  refine wp_tab2 I c (by exact ClosedOff.eq) ?_
  refine wp_return c ?_
  refine hQ' _ _ ?_
  clear hQ' Q'
  refine wp_call c ?_
  intro Q' hQ'
  rw [k0_part121_eq_skeleton]
  delta k0_part121_skel
  refine wp_tab2 I c (by exact ClosedOff.eq) ?_
  refine wp_tab2 I c (by exact ClosedOff.eq) ?_
  refine wp_tab2 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_call c ?_
  intro Q' hQ'
  rw [k0_part122_eq_skeleton]
  delta k0_part122_skel
  refine wp_tab4 I c (by exact ClosedOff.eq) ?_
  refine wp_tab4 I c (by exact ClosedOff.eq) ?_
  refine wp_tab4 I c (by exact ClosedOff.eq) ?_
  refine wp_tab4 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_call c ?_
  intro Q' hQ'
  rw [k0_part123_eq_skeleton]
  delta k0_part123_skel
  refine wp_tab4 I c (by exact ClosedOff.eq) ?_
  refine wp_tab4 I c (by exact ClosedOff.eq) ?_
  refine wp_tab4 I c (by exact ClosedOff.eq) ?_
  refine wp_tab4 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_call c ?_
  intro Q' hQ'
  rw [k0_part124_eq_skeleton]
  delta k0_part124_skel
  refine wp_tab4 I c (by exact ClosedOff.eq) ?_
  refine wp_tab4 I c (by exact ClosedOff.eq) ?_
  refine wp_tab4 I c (by exact ClosedOff.eq) ?_
  refine wp_tab4 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_call c ?_
  intro Q' hQ'
  rw [k0_part125_eq_skeleton]
  delta k0_part125_skel
  refine wp_tab4 I c (by exact ClosedOff.eq) ?_
  refine wp_tab4 I c (by exact ClosedOff.eq) ?_
  refine wp_tab4 I c (by exact ClosedOff.eq) ?_
  refine wp_tab4 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_call c ?_
  intro Q' hQ'
  rw [k0_part126_eq_skeleton]
  delta k0_part126_skel
  refine wp_tab4 I c (by exact ClosedOff.eq) ?_
  refine wp_tab4 I c (by exact ClosedOff.eq) ?_
  refine wp_tab4 I c (by exact ClosedOff.eq) ?_
  refine wp_tab4 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_call c ?_
  intro Q' hQ'
  rw [k0_part127_eq_skeleton]
  delta k0_part127_skel
  refine wp_tab4 I c (by exact ClosedOff.eq) ?_
  refine wp_tab4 I c (by exact ClosedOff.eq) ?_
  refine wp_tab4 I c (by exact ClosedOff.eq) ?_
  refine wp_tab4 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_call c ?_
  intro Q' hQ'
  rw [k0_part128_eq_skeleton]
  delta k0_part128_skel
  refine wp_tab4 I c (by exact ClosedOff.eq) ?_
  refine wp_tab4 I c (by exact ClosedOff.eq) ?_
  refine wp_tab4 I c (by exact ClosedOff.eq) ?_
  refine wp_tab4 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_call c ?_
  intro Q' hQ'
  rw [k0_part129_eq_skeleton]
  delta k0_part129_skel
  refine wp_tab4 I c (by exact ClosedOff.eq) ?_
  refine wp_tab4 I c (by exact ClosedOff.eq) ?_
  refine wp_tab4 I c (by exact ClosedOff.eq) ?_
  refine wp_tab4 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_call c ?_
  intro Q' hQ'
  rw [k0_part130_eq_skeleton]
  delta k0_part130_skel
  refine wp_tab4 I c (by exact ClosedOff.eq) ?_
  refine wp_tab4 I c (by exact ClosedOff.eq) ?_
  refine wp_tab4 I c (by exact ClosedOff.eq) ?_
  refine wp_tab4 I c (by exact ClosedOff.eq) ?_
  refine wp_tab3 I c (by exact ClosedOff.eq) ?_
  refine wp_tab3 I c (by exact ClosedOff.eq) ?_
  refine wp_tab3 I c (by exact ClosedOff.eq) ?_
  refine wp_tab3 I c (by exact ClosedOff.eq) ?_
  refine wp_return c ?_
  refine hQ' _ _ ?_
  clear hQ' Q'
  refine wp_tab4 I c (by exact ClosedOff.eq) ?_
  refine wp_tab4 I c (by exact ClosedOff.eq) ?_
  refine wp_return c ?_
  exact h _

end Cert.KernelIdeal.Hand
-- ==== Proof.Slot.lean ====
module
public import proofs.«01_k».proof.Proof.Out

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## The slot as a whole -/

variable (I : Inp F) (c : Dev nD)

local notation "WP" => wp frame (wpE (defs₀ (F := F)) Variants.none (c : Thread nD τ) none) Set.univ

set_option maxHeartbeats 800000
set_option maxRecDepth 10000
set_option backward.isDefEq.respectTransparency.types false

/-- The elements of slot `σ`. -/
def slotSet (σ : Fin 2) : Finset (Idx ((Memref.whole cc0_scratch0 : Memref sig .tc .vmem S2x4x128x4096 .f32).view.loc (c : Thread nD τ))) :=
  Finset.univ.biUnion fun j : Fin 64 => (dstM σ j).view.set

/-- Two tiles of a slot have no element in common. -/
theorem tiles_disjoint (σ : Fin 2) : ∀ j ∈ (Finset.univ : Finset (Fin 64)), ∀ j' ∈ (Finset.univ : Finset (Fin 64)), j ≠ j' →
    Disjoint (dstM σ j).view.set (dstM σ j').view.set := by
  intro j _ j' _ hne
  rw [Finset.disjoint_left]
  intro z hz hz'
  obtain ⟨x, y, rfl⟩ := mem_tile hz
  obtain ⟨x', y', e⟩ := mem_tile hz'
  rw [dst_emb, dst_emb] at e
  have e1 : j.val / 16 = j'.val / 16 := congrArg (fun z : S2x4x128x4096.Idx => (z 1).val) e
  have e2 : 8 * (j.val % 16) + x.val = 8 * (j'.val % 16) + x'.val := congrArg (fun z : S2x4x128x4096.Idx => (z 2).val) e
  exact hne (Fin.ext (by omega))

/-- The slot's tiles at one contents are the slot at it. -/
theorem slot_tiles (σ : Fin 2) (f : (⟨S2x4x128x4096, .f32⟩ : BufTy).Contents (Elt F)) :
    (bigSep Finset.univ fun j : Fin 64 => tile c σ j f)
      = (((Memref.whole cc0_scratch0 : Memref sig .tc .vmem S2x4x128x4096 .f32).view.loc (c : Thread nD τ)) ↦[slotSet c σ]{fullShare} f : sProp 𝕄) :=
  (pointsTo_biUnion (ℓ := (Memref.whole cc0_scratch0 : Memref sig .tc .vmem S2x4x128x4096 .f32).view.loc (c : Thread nD τ)) Finset.univ
    (fun j : Fin 64 => (dstM σ j).view.set) (tiles_disjoint σ)).symm

/-- A family of triples is three families. -/
theorem split3 (A B C : Fin 64 → sProp 𝕄) :
    (bigSep Finset.univ fun j => iprop(A j ∗ B j ∗ C j)) = iprop(bigSep Finset.univ A ∗ bigSep Finset.univ B ∗ bigSep Finset.univ C) :=
  (bigSep_sep Finset.univ A fun j => iprop(B j ∗ C j)).trans (congrArg (fun X => iprop(bigSep Finset.univ A ∗ X)) (bigSep_sep Finset.univ B C))

/-- A waited slot lends its elements, and is then idle. -/
theorem slot_lend (s : Fin 32) (σ : Fin 2) :
    bigSep Finset.univ (Done I c s σ) ⊢ iprop((((Memref.whole cc0_scratch0 : Memref sig .tc .vmem S2x4x128x4096 .f32).view.loc (c : Thread nD τ)) ↦[slotSet c σ]{fullShare} I.slotVal s)
      ∗ ((((Memref.whole cc0_scratch0 : Memref sig .tc .vmem S2x4x128x4096 .f32).view.loc (c : Thread nD τ)) ↦[slotSet c σ]{fullShare} I.slotVal s) -∗ bigSep Finset.univ (Idle I c σ))) := by
  have e1 := split3 (fun j => semVal ((c : Thread nD τ), SemLoc.dma (cellSem σ j)) 0) (fun j => tile c σ j (I.slotVal s)) (fun j => hX I c (qx σ j))
  have e2 : bigSep Finset.univ (Done I c s σ) ⊢ bigSep Finset.univ (Idle I c σ) := by
    have e (j : Fin 64) : Done I c s σ j ⊢ Idle I c σ j := by
     unfold Done Idle
     iintro ⟨H1, H2, H3⟩
     isplitl [H1]; · iexact H1
     isplitl [H2]; · iexists _; iexact H2
     iexact H3
    exact bigSep_mono fun j _ => e j
  have e3 : bigSep Finset.univ (Done I c s σ) = _ := e1
  rw [slot_tiles] at e3
  refine .trans (BIBase.Entails.of_eq e3) ?_
  iintro ⟨H1, H2, H3⟩
  isplitl [H2]; · iexact H2
  iintro H2
  iapply e2
  iapply (BIBase.Entails.of_eq e3.symm)
  isplitl [H1]; · iexact H1
  isplitl [H2]; · iexact H2
  iexact H3

/-- Slot `σ` lies in the double buffer. -/
theorem inbSlot (σ : Fin 2) : ∀ a, (![σ.val, 0, 0, 0] : Fin 4 → ℕ) a + S1x4x128x4096.size a ≤ S2x4x128x4096.size a := by
  intro a; fin_cases a <;> simp [S1x4x128x4096, S2x4x128x4096] <;> omega

/-- Where an index of a slot lies in the double buffer. -/
theorem slot_emb (σ : Fin 2) (y : S1x4x128x4096.Idx) :
    (Rect.unit (s := S2x4x128x4096) ![σ.val, 0, 0, 0] S1x4x128x4096.size (inbSlot σ)).emb y = (ix4 σ (y 1) (y 2) (y 3) : S2x4x128x4096.Idx) := by
  have h0 : (y 0).val = 0 := Nat.lt_one_iff.mp (y 0).isLt
  funext a
  fin_cases a <;> apply Fin.ext
  · show σ.val + 1 * (y 0).val = σ.val; omega
  · show 0 + 1 * (y 1).val = (y 1).val; omega
  · show 0 + 1 * (y 2).val = (y 2).val; omega
  · show 0 + 1 * (y 3).val = (y 3).val; omega

/-- The load of a slot reads the slot's elements only. -/
theorem slot_access (σ : Fin 2) :
    ((Memref.whole cc0_scratch0).access (Rect.unit (s := S2x4x128x4096) ![σ.val, 0, 0, 0] S1x4x128x4096.size (inbSlot σ))).set ⊆ slotSet c σ := by
  intro z hz
  obtain ⟨y, -, rfl⟩ := Finset.mem_map.mp hz
  have h1 : (y 1).val < 4 := (y 1).isLt
  have h2 : (y 2).val < 128 := (y 2).isLt
  refine Finset.mem_biUnion.mpr ⟨⟨16 * (y 1).val + (y 2).val / 8, by omega⟩, Finset.mem_univ _, ?_⟩
  refine Finset.mem_map.mpr ⟨(ix2 (⟨(y 2).val % 8, by omega⟩ : Fin 8) (y 3) : S8x4096.Idx), Finset.mem_univ _, ?_⟩
  refine (dst_emb σ _ _ _).trans (Eq.trans ?_ (slot_emb σ y).symm)
  funext a
  fin_cases a <;> apply Fin.ext
  · rfl
  · show (16 * (y 1).val + (y 2).val / 8) / 16 = (y 1).val; omega
  · show 8 * ((16 * (y 1).val + (y 2).val / 8) % 16) + (y 2).val % 8 = (y 2).val; omega
  · rfl

/-- The load of the slot. -/
theorem wp_slot {α : Type} {K : Vec F S1x4x128x4096 .f32 → Prog (TpuEff nD τ sig (Elt F) Λ₀ .tc) α} {Q : α → sProp 𝕄} {R : sProp 𝕄} {s : Fin 32} {σ : Fin 2} {n : ℕ}
    {o7 i7 l7} (h7 : o7 = ![n, 0, 0, 0]) (hn : n = σ.val)
    (h : iprop(Tabs I c ∗ bigSep Finset.univ (Idle I c σ) ∗ R) ⊢ WP (K (I.block s)) Q) :
    iprop(Tabs I c ∗ bigSep Finset.univ (Done I c s σ) ∗ R)
      ⊢ WP ((Prog.lift (.load (Memref.whole cc0_scratch0) (Rect.unit (s := S2x4x128x4096) o7 S1x4x128x4096.size i7).toLoadRect l7)
        : Prog (TpuEff nD τ sig (Elt F) Λ₀ .tc) (Vec F S1x4x128x4096 .f32)) >>= K) Q := by
  subst h7 hn
  have hr : ((Memref.whole cc0_scratch0).access (Rect.unit (s := S2x4x128x4096) ![σ.val, 0, 0, 0] S1x4x128x4096.size (inbSlot σ))).read (Elt F) (I.slotVal s) = I.block s := by
    funext y
    exact (congrArg (I.slotVal s) (slot_emb σ y)).trans rfl
  iintro ⟨HT, HD, HR⟩
  icases (slot_lend I c s σ) $$ HD with ⟨H1, HD⟩
  iapply (wp_load_rect Variants.none (c : Thread nD τ) none Set.univ (m := Memref.whole cc0_scratch0) (S := slotSet c σ)
    (r := Rect.unit (s := S2x4x128x4096) ![σ.val, 0, 0, 0] S1x4x128x4096.size (inbSlot σ)) (slot_access c σ)) $$ H1
  iintro H1
  rw [hr]
  iapply h
  isplitl [HT]; · iexact HT
  isplitl [HD H1]; · iapply HD $$ H1
  iexact HR

/-- An index of the block stored is its own place. -/
theorem whole_emb (y : S4x128x4096.Idx) : (Rect.unit (s := S4x128x4096) ![0, 0, 0] S4x128x4096.size inb_S4x128x4096_S4x128x4096_0_0_0).emb y = y := by
  funext a
  fin_cases a <;> apply Fin.ext
  · show 0 + 1 * (y 0).val = (y 0).val; omega
  · show 0 + 1 * (y 1).val = (y 1).val; omega
  · show 0 + 1 * (y 2).val = (y 2).val; omega

/-- The store of the result's block. -/
theorem wp_out {α : Type} {K : Prog (TpuEff nD τ sig (Elt F) Λ₀ .tc) α} {Q : α → sProp 𝕄} {R : sProp 𝕄} {M6 : Memref sig .tc .vmem S4x128x4096 .f32} {l6 p1 p2}
    {pay : FVec F S4x128x4096 .f32} (h : iprop(owns (c : Thread nD τ) M6 fullShare pay ∗ R) ⊢ WP K Q) :
    iprop((∃ d, owns (c : Thread nD τ) M6 fullShare d) ∗ R)
      ⊢ WP (Prog.lift (.load M6 (Rect.unit (s := S4x128x4096) ![0, 0, 0] S4x128x4096.size inb_S4x128x4096_S4x128x4096_0_0_0).toLoadRect l6) >>= fun _ =>
        (Prog.lift (.store M6 (Rect.unit (s := S4x128x4096) ![0, 0, 0] S4x128x4096.size inb_S4x128x4096_S4x128x4096_0_0_0) pay Finset.univ p1 p2) >>= fun _ => K)) Q := by
  have hsub : (M6.access (Rect.unit (s := S4x128x4096) ![0, 0, 0] S4x128x4096.size inb_S4x128x4096_S4x128x4096_0_0_0)).set ⊆ M6.view.set := by
    intro z hz
    obtain ⟨y, -, rfl⟩ := Finset.mem_map.mp hz
    exact Finset.mem_map.mpr ⟨_, Finset.mem_univ _, rfl⟩
  unfold owns
  iintro ⟨⟨%d, %f, -, H⟩, HR⟩
  iapply (wp_load_rect Variants.none (c : Thread nD τ) none Set.univ (m := M6) (S := M6.view.set)
    (r := Rect.unit (s := S4x128x4096) ![0, 0, 0] S4x128x4096.size inb_S4x128x4096_S4x128x4096_0_0_0) hsub) $$ H
  iintro H
  iapply (wp_store Variants.none (c : Thread nD τ) none Set.univ (m := M6) (S := M6.view.set)
    (r := Rect.unit (s := S4x128x4096) ![0, 0, 0] S4x128x4096.size inb_S4x128x4096_S4x128x4096_0_0_0) (Mk := Finset.univ) hsub) $$ H
  iintro H
  iapply h
  isplitr [HR]; swap; · iexact HR
  unfold owns
  iexists _
  isplitr; swap; · iexact H
  ipureintro
  funext y
  exact (congrArg _ (whole_emb y).symm).trans (View.read_slice_write_emb (v := M6.view)
    (Rect.unit (s := S4x128x4096) ![0, 0, 0] S4x128x4096.size inb_S4x128x4096_S4x128x4096_0_0_0) f pay (Finset.mem_univ y))

end Cert.KernelIdeal.Hand
-- ==== Proof.Body.lean ====
module
public import proofs.«01_k».proof.Proof.WalkC
public import proofs.«01_k».proof.Proof.Slot

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## The body -/

variable (I : Inp F) (c : Dev nD)

local notation "WP" => wp frame (wpE (defs₀ (F := F)) Variants.none (c : Thread nD τ) none) Set.univ

set_option maxHeartbeats 800000
set_option maxRecDepth 10000
set_option backward.isDefEq.respectTransparency.types false

/-- The body: a step empties its slot, starts the other's copies and stores its block of the result. -/
theorem body_triple (i : grid0.Coords) {σ σ' : Fin 2} (hσ : slotNow i = σ.val) (hσ' : slotNext i = σ'.val)
    {Q : PUnit → sProp 𝕄} {R : sProp 𝕄} {h1 h2 h3 h4 h5 h7} {M6 : Memref sig .tc .vmem S4x128x4096 .f32} {h6}
    (h : iprop(Tabs I c ∗ bigSep Finset.univ (Idle I c σ) ∗ Owes c ∗ Ahead I c ((i 0).val + 1) σ' ∗ owns (c : Thread nD τ) M6 fullShare (I.out i) ∗ R) ⊢ Q ⟨⟩) :
    iprop(Tabs I c ∗ Ahead I c (i 0).val σ ∗ bigSep Finset.univ (Idle I c σ') ∗ Owes c ∗ (∃ d, owns (c : Thread nD τ) M6 fullShare d) ∗ R)
      ⊢ WP (cc0__mask_body i (Memref.whole main_c_3) h1 (Memref.whole main_c_4) h2
      (Memref.whole main_v24) h3 (Memref.whole main_v39) h4 (Memref.whole main_arg0) h5 M6 h6 (Memref.whole cc0_scratch0) h7 cc0_scratch1) Q := by
  rw [cc0__mask_body_eq_skeleton]
  delta cc0__mask_body_skel
  with_reducible refine wp_call c ?_
  intro Q' hQ'
  refine walk I c i (s := i 0) rfl hσ hσ' ?_
  intro u
  refine hQ' _ _ ?_
  clear hQ' Q'
  rw [mix_all]
  refine wp_tab4 I c (by exact ClosedOff.eq) ?_
  refine wp_tab4 I c (by exact ClosedOff.eq) ?_
  refine wp_slot I c (n := slotNow i) (by rfl) hσ ?_
  have e1 : iprop(Tabs I c ∗ bigSep Finset.univ (Idle I c σ) ∗ Owes c ∗ Ahead I c ((i 0).val + 1) σ' ∗ (∃ d, owns (c : Thread nD τ) M6 fullShare d) ∗ R)
      ⊢ iprop((∃ d, owns (c : Thread nD τ) M6 fullShare d) ∗ Tabs I c ∗ bigSep Finset.univ (Idle I c σ) ∗ Owes c ∗ Ahead I c ((i 0).val + 1) σ' ∗ R) := by
    iintro ⟨H1, H2, H3, H4, H5, H6⟩
    isplitl [H5]; · iexact H5
    isplitl [H1]; · iexact H1
    isplitl [H2]; · iexact H2
    isplitl [H3]; · iexact H3
    isplitl [H4]; · iexact H4
    iexact H6
  refine e1.trans ?_
  refine wp_out c ?_
  refine wp_return c ?_
  refine .trans ?_ h
  iintro ⟨H5, H1, H2, H3, H4, H6⟩
  isplitl [H1]; · iexact H1
  isplitl [H2]; · iexact H2
  isplitl [H3]; · iexact H3
  isplitl [H4]; · iexact H4
  isplitl [H5]; · iexact H5
  iexact H6

end Cert.KernelIdeal.Hand
-- ==== Proof.Ends.lean ====
module
public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## Entering and leaving the pipeline

The double buffer is its 2 × 64 tiles, the argument's share their 128 shares and what is left. -/

variable (I : Inp F) (c : Dev nD)

local notation "WP" => wp frame (wpE (defs₀ (F := F)) Variants.none (c : Thread nD τ) none) Set.univ

set_option maxHeartbeats 800000
set_option maxRecDepth 10000
set_option backward.isDefEq.respectTransparency.types false

/-- The tiles of both slots, apart. -/
theorem all_disjoint : ∀ p ∈ (Finset.univ : Finset (Fin 2 × Fin 64)), ∀ p' ∈ (Finset.univ : Finset (Fin 2 × Fin 64)), p ≠ p' →
    Disjoint (dstM p.1 p.2).view.set (dstM p'.1 p'.2).view.set := by
  intro p _ p' _ hne
  rw [Finset.disjoint_left]
  intro z hz hz'
  obtain ⟨x, y, rfl⟩ := mem_tile hz
  obtain ⟨x', y', e⟩ := mem_tile hz'
  rw [dst_emb, dst_emb] at e
  have e0 : p.1.val = p'.1.val := congrArg (fun z : S2x4x128x4096.Idx => (z 0).val) e
  have e1 : p.2.val / 16 = p'.2.val / 16 := congrArg (fun z : S2x4x128x4096.Idx => (z 1).val) e
  have e2 : 8 * (p.2.val % 16) + x.val = 8 * (p'.2.val % 16) + x'.val := congrArg (fun z : S2x4x128x4096.Idx => (z 2).val) e
  exact hne (Prod.ext (Fin.ext e0) (Fin.ext (by omega)))

/-- The tiles are the whole buffer. -/
theorem all_tiles : (Finset.univ : Finset (Fin 2 × Fin 64)).biUnion (fun p => (dstM p.1 p.2).view.set)
    = (Finset.univ : Finset (Idx ((c : Thread nD τ).loc cc0_scratch0))) := by
  refine Finset.eq_univ_iff_forall.mpr fun (z : S2x4x128x4096.Idx) => ?_
  have h1 : (z 1).val < 4 := (z 1).isLt
  have h2 : (z 2).val < 128 := (z 2).isLt
  refine Finset.mem_biUnion.mpr ⟨(z 0, ⟨16 * (z 1).val + (z 2).val / 8, by omega⟩), Finset.mem_univ _, ?_⟩
  refine Finset.mem_map.mpr ⟨(ix2 (⟨(z 2).val % 8, by omega⟩ : Fin 8) (z 3) : S8x4096.Idx), Finset.mem_univ _, ?_⟩
  refine (dst_emb (z 0) _ _ _).trans ?_
  funext a
  fin_cases a <;> apply Fin.ext
  · rfl
  · show (16 * (z 1).val + (z 2).val / 8) / 16 = (z 1).val; omega
  · show 8 * ((16 * (z 1).val + (z 2).val / 8) % 16) + (z 2).val % 8 = (z 2).val; omega
  · rfl

/-- The double buffer is its 128 tiles, -/
theorem buf_split (f : (⟨S2x4x128x4096, .f32⟩ : BufTy).Contents (Elt F)) :
    (((c : Thread nD τ).loc cc0_scratch0) ↦{fullShare} f : sProp 𝕄) ⊢ bigSep Finset.univ fun p : Fin 2 × Fin 64 => iprop(∃ f, tile c p.1 p.2 f) := by
  have e := pointsTo_biUnion (ℓ := (c : Thread nD τ).loc cc0_scratch0) (q := fullShare) (f := f) (Ix := Unit) (Name := ℕ) (U := Pipeline.UD sig nD τ) (Lvl := ℕ)
    Finset.univ (fun p : Fin 2 × Fin 64 => (dstM p.1 p.2).view.set) all_disjoint
  rw [all_tiles] at e
  refine (BIBase.Entails.of_eq e).trans (bigSep_mono fun p _ => ?_)
  exact exists_intro (Φ := fun f => tile c p.1 p.2 f) f

/-- and the tiles together are the buffer. -/
theorem buf_join : (bigSep Finset.univ fun p : Fin 2 × Fin 64 => iprop(∃ f, tile c p.1 p.2 f))
    ⊢ (iprop(∃ f, ((c : Thread nD τ).loc cc0_scratch0) ↦{fullShare} f) : sProp 𝕄) := by
  have : Nonempty ((⟨S2x4x128x4096, .f32⟩ : BufTy).Contents (Elt F)) := ⟨fun _ => (FloatOps.ofBits .f32 0#32 : F .f32)⟩
  refine (bigSep_exists_pi Finset.univ (fun (p : Fin 2 × Fin 64) f => tile c p.1 p.2 f)).trans (exists_elim fun fs => ?_)
  refine (pointsTo_biUnion_join (ℓ := (c : Thread nD τ).loc cc0_scratch0) (q := fullShare) Finset.univ (fun p : Fin 2 × Fin 64 => (dstM p.1 p.2).view.set)
    fs (fs (0, 0)) all_disjoint).trans ?_
  rw [all_tiles]
  iintro ⟨%g, -, H⟩
  iexists g; iexact H

/-- The 128 shares by slot and tile. -/
theorem shares_eq : (bigSep Finset.univ fun k : Fin 128 => hX I c (shareTok fullShare 128 k))
    = bigSep Finset.univ fun p : Fin 2 × Fin 64 => hX I c (qx p.1 p.2) := by
  refine (bigSep_univ_equiv (finProdFinEquiv (m := 2) (n := 64)) (fun k => hX I c (shareTok fullShare 128 k))).trans ?_
  refine bigSep_congr fun p _ => ?_
  have e : (finProdFinEquiv p : Fin 128) = ⟨64 * p.1.val + p.2.val, by omega⟩ := Fin.ext (Nat.add_comm _ _)
  exact congrArg (fun k => hX I c (shareTok fullShare 128 k)) e

/-- Both slots idle, written as one family. -/
theorem idle_eq : iprop(bigSep Finset.univ (Idle I c 0) ∗ bigSep Finset.univ (Idle I c 1))
    = iprop((bigSep Finset.univ fun p : Fin 2 × Fin 64 => semVal ((c : Thread nD τ), SemLoc.dma (cellSem p.1 p.2)) 0)
      ∗ (bigSep Finset.univ fun p : Fin 2 × Fin 64 => iprop(∃ f, tile c p.1 p.2 f))
      ∗ (bigSep Finset.univ fun p : Fin 2 × Fin 64 => hX I c (qx p.1 p.2))) := by
  refine Eq.trans ?_ ((bigSep_sep Finset.univ (fun p : Fin 2 × Fin 64 => (semVal ((c : Thread nD τ), SemLoc.dma (cellSem p.1 p.2)) 0 : sProp 𝕄))
    (fun p => iprop((∃ f, tile c p.1 p.2 f) ∗ hX I c (qx p.1 p.2)))).trans
    (congrArg (fun X => iprop((bigSep Finset.univ fun p : Fin 2 × Fin 64 => semVal ((c : Thread nD τ), SemLoc.dma (cellSem p.1 p.2)) 0) ∗ X))
      (bigSep_sep Finset.univ (fun p : Fin 2 × Fin 64 => iprop(∃ f, tile c p.1 p.2 f)) fun p => hX I c (qx p.1 p.2))))
  refine Eq.trans ?_ (bigSep_univ_prod (fun p : Fin 2 × Fin 64 => Idle I c p.1 p.2)).symm
  exact (bigSep_fin_two (fun σ => bigSep Finset.univ (Idle I c σ))).symm

/-- From the launch's buffers, both slots idle. -/
theorem enter : iprop((∃ f, ((c : Thread nD τ).loc cc0_scratch0) ↦{fullShare} f)
      ∗ (bigSep Finset.univ fun p : Fin 2 × Fin 64 => semVal ((c : Thread nD τ), SemLoc.dma (cellSem p.1 p.2)) 0) ∗ hX I c fullShare)
    ⊢ iprop((bigSep Finset.univ (Idle I c 0) ∗ bigSep Finset.univ (Idle I c 1)) ∗ hX I c (shareDrop fullShare 128)) := by
  rw [idle_eq, ← shares_eq]
  iintro ⟨⟨%f, H1⟩, H2, H3⟩
  icases (pointsTo_toks_split (ℓ := (c : Thread nD τ).loc main_arg0) (f := I.x) fullShare 128) $$ H3 with ⟨H3, H4⟩
  isplitl [H1 H2 H4]
  · isplitl [H2]; · iexact H2
    isplitl [H1]; · iapply (buf_split c f); iexact H1
    iexact H4
  iexact H3

/-- and back. -/
theorem leave : iprop((bigSep Finset.univ (Idle I c 0) ∗ bigSep Finset.univ (Idle I c 1)) ∗ hX I c (shareDrop fullShare 128))
    ⊢ iprop((∃ f, ((c : Thread nD τ).loc cc0_scratch0) ↦{fullShare} f)
      ∗ (bigSep Finset.univ fun p : Fin 2 × Fin 64 => semVal ((c : Thread nD τ), SemLoc.dma (cellSem p.1 p.2)) 0) ∗ hX I c fullShare) := by
  rw [idle_eq, ← shares_eq]
  iintro ⟨⟨H2, H1, H4⟩, H3⟩
  isplitl [H1]; · iapply (buf_join c); iexact H1
  isplitl [H2]; · iexact H2
  iapply (pointsTo_toks_join (ℓ := (c : Thread nD τ).loc main_arg0) (f := I.x) fullShare 128)
  isplitl [H3]; · iexact H3
  iexact H4

/-- The slot that step `t` empties. -/
def slot (t : ℕ) : Fin 2 := ⟨t % 2, Nat.mod_lt _ (by decide)⟩

/-- What holds before step `t`: the tables, the slot of step `t` with its copies under way, the other one idle, the generator and the rest of the argument's share. -/
def Inv (t : ℕ) : sProp 𝕄 :=
  iprop(Tabs I c ∗ Ahead I c t (slot t) ∗ bigSep Finset.univ (Idle I c (slot (t + 1))) ∗ (∃ r, prngReg c r) ∗ hX I c (shareDrop fullShare 128))

/-- Before the first step and after the last no copy is in flight. -/
theorem Ahead_ends {t : ℕ} (h : t = 0 ∨ t = 32) (σ : Fin 2) : Ahead I c t σ = bigSep Finset.univ (Idle I c σ) := by
  unfold Ahead
  exact dif_neg (by omega)

/-- Before the first step and after the last both slots are idle. -/
theorem Inv_ends {t : ℕ} (h : t = 0 ∨ t = 32) :
    Inv I c t = iprop(Tabs I c ∗ bigSep Finset.univ (Idle I c 0) ∗ bigSep Finset.univ (Idle I c 1) ∗ (∃ r, prngReg c r) ∗ hX I c (shareDrop fullShare 128)) := by
  unfold Inv
  rw [Ahead_ends I c h, show slot t = 0 from by rcases h with rfl | rfl <;> rfl, show slot (t + 1) = 1 from by rcases h with rfl | rfl <;> rfl]

end Cert.KernelIdeal.Hand
-- ==== Proof.Start.lean ====
module
public import proofs.«01_k».proof.Proof.Cells

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## The memory the kernel starts from

The host's operations, in their nineteen stretches, run from the memory `m`; none writes an argument. -/

variable (m : (ℓ : Loc nD τ sig) → Buf (Elt F) ℓ) (c : Dev nD)

/-- The host's stretches of operations, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Every operation of the host uses buffers of the TensorCore only, -/
theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩

/-- and none takes a fresh buffer. -/
theorem stretches_fresh : (stretches (F := F)).Forall fun ops => ops.Forall fun op => op.fresh = ∅ := by
  repeat' first | exact rfl | apply And.intro

/-- What each buffer holds when the kernel starts. -/
@[irreducible] def V (b : Ref sig .tc) : Buf (Elt F) ((c : Thread nD τ).loc b) :=
  StableHlo.after (stretches (F := F)).flatten (fun b => m (c, b)) b

set_option maxRecDepth 20000 in
/-- The program is its host's operations and then the kernel. -/
theorem hmain (𝒱₀ : Variants) : Pipeline.HMainP (Ix := Unit) (Name := ℕ) (U := Pipeline.UD sig nD τ) (Lvl := ℕ) (pcfgs (F := F)) 0 defs₀ 𝒱₀ m main (V m) := by
  have h := Pipeline.hmainP_prefixes (Ix := Unit) (Name := ℕ) (U := Pipeline.UD sig nD τ) (Lvl := ℕ) (pcfgs (F := F)) 0 defs₀ 𝒱₀ m main
    stretches stretches_sub stretches_fresh (fun c => main_chain c)
  unfold V
  exact h

end Cert.KernelIdeal.Hand
-- ==== Proof.Frame.lean ====
module
public import proofs.«01_k».proof.Proof.Ends
public import proofs.«01_k».proof.Proof.Start
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-! ## Launching the kernel -/

variable (m : (ℓ : Loc nD τ sig) → Buf (Elt F) ℓ) (ρ : Dev nD → PrngReg) (c : Dev nD)

set_option maxHeartbeats 800000
set_option maxRecDepth 10000
set_option backward.isDefEq.respectTransparency.types false

/-- The buffers the host's operations write, in order, stretch by stretch. -/
abbrev written : List (List (Ref sig .tc)) :=
  [[main_c, main_c_0, main_c_1, main_c_2, main_c_3, main_c_4, main_v0, main_cst, main_v1, main_v2, main_v3, main_c_5, main_v4, main_v5,
    main_v6, main_c_6, main_v7, main_v8, main_c_7, main_v9, main_v10, main_v11, main_v12, main_c_8],
   [main_call0_c, main_call0_v0, main_call0_v1, main_call0_c_0, main_call0_v2, main_call0_v3, main_call0_v4, main_call0_v5, main_call0_c_1,
    main_call0_v6, main_call0_v7, main_call0_c_2, main_call0_v8, main_call0_v9, main_call0_c_3, main_call0_v10, main_call0_v11,
    main_call0_v12, main_call0_v13, main_call0_v14, main_v13],
   [main_v14],
   [main_call1_c, main_call1_v0, main_call1_v1, main_call1_c_0, main_call1_v2, main_call1_v3, main_call1_v4, main_call1_c_1, main_call1_v5,
    main_call1_v6, main_call1_c_2, main_call1_v7, main_call1_v8, main_call1_c_3, main_call1_v9, main_call1_v10, main_call1_v11,
    main_call1_v12, main_call1_v13, main_v15],
   [main_call2_c, main_call2_v0, main_call2_v1, main_call2_c_0, main_call2_v2, main_call2_v3, main_call2_v4, main_call2_v5, main_call2_c_1,
    main_call2_v6, main_call2_v7, main_call2_c_2, main_call2_v8, main_call2_v9, main_call2_c_3, main_call2_v10, main_call2_v11,
    main_call2_v12, main_call2_v13, main_call2_v14, main_call2_v15, main_call2_v16, main_v16],
   [main_v17, main_v18],
   [main_call3_c, main_call3_v0, main_call3_v1, main_call3_c_0, main_call3_v2, main_call3_v3, main_call3_v4, main_call3_v5, main_call3_c_1,
    main_call3_v6, main_call3_v7, main_call3_c_2, main_call3_v8, main_call3_v9, main_call3_c_3, main_call3_v10, main_call3_v11,
    main_call3_v12, main_call3_v13, main_call3_v14, main_call3_v15, main_call3_v16, main_v19],
   [main_v20],
   [main_call4_c, main_call4_v0, main_call4_v1, main_call4_c_0, main_call4_v2, main_call4_v3, main_call4_v4, main_call4_v5, main_call4_c_1,
    main_call4_v6, main_call4_v7, main_call4_c_2, main_call4_v8, main_call4_v9, main_call4_c_3, main_call4_v10, main_call4_v11,
    main_call4_v12, main_call4_v13, main_call4_v14, main_call4_v15, main_call4_v16, main_v21],
   [main_v22, main_c_9, main_v23, main_v24, main_v25, main_v26, main_c_10],
   [main_call5_c, main_call5_v0, main_call5_v1, main_call5_c_0, main_call5_v2, main_call5_v3, main_call5_v4, main_call5_v5, main_call5_c_1,
    main_call5_v6, main_call5_v7, main_call5_c_2, main_call5_v8, main_call5_v9, main_call5_c_3, main_call5_v10, main_call5_v11,
    main_call5_v12, main_call5_v13, main_call5_v14, main_v27],
   [main_v28],
   [main_call6_c, main_call6_v0, main_call6_v1, main_call6_c_0, main_call6_v2, main_call6_v3, main_call6_v4, main_call6_c_1, main_call6_v5,
    main_call6_v6, main_call6_c_2, main_call6_v7, main_call6_v8, main_call6_c_3, main_call6_v9, main_call6_v10, main_call6_v11,
    main_call6_v12, main_call6_v13, main_v29],
   [main_call7_c, main_call7_v0, main_call7_v1, main_call7_c_0, main_call7_v2, main_call7_v3, main_call7_v4, main_call7_v5, main_call7_c_1,
    main_call7_v6, main_call7_v7, main_call7_c_2, main_call7_v8, main_call7_v9, main_call7_c_3, main_call7_v10, main_call7_v11,
    main_call7_v12, main_call7_v13, main_call7_v14, main_call7_v15, main_call7_v16, main_v30],
   [main_v31, main_v32],
   [main_call8_c, main_call8_v0, main_call8_v1, main_call8_c_0, main_call8_v2, main_call8_v3, main_call8_v4, main_call8_v5, main_call8_c_1,
    main_call8_v6, main_call8_v7, main_call8_c_2, main_call8_v8, main_call8_v9, main_call8_c_3, main_call8_v10, main_call8_v11,
    main_call8_v12, main_call8_v13, main_call8_v14, main_call8_v15, main_call8_v16, main_v33],
   [main_v34],
   [main_call9_c, main_call9_v0, main_call9_v1, main_call9_c_0, main_call9_v2, main_call9_v3, main_call9_v4, main_call9_v5, main_call9_c_1,
    main_call9_v6, main_call9_v7, main_call9_c_2, main_call9_v8, main_call9_v9, main_call9_c_3, main_call9_v10, main_call9_v11,
    main_call9_v12, main_call9_v13, main_call9_v14, main_call9_v15, main_call9_v16, main_v35],
   [main_v36, main_c_11, main_v37, main_v38, main_v39]]

set_option maxRecDepth 20000 in
/-- The host's operations write the buffers listed. -/
theorem written_eq : (stretches (F := F)).flatten.map HloOp.writes = written.flatten.map fun w => {Proc.devRef (τ := τ) .tc w} := rfl

/-- A buffer the host does not write is as it was. -/
theorem V_unwritten {r : Ref sig .tc} (hr : r ∉ written.flatten) : V m c r = m ((c : Thread nD τ).loc r) := by
  unfold V
  exact StableHlo.after_unwritten written.flatten written_eq hr _

set_option maxRecDepth 20000 in
/-- The host leaves the spectrograms as they were, -/
theorem V_arg0 : V m c main_arg0 = m ((c : Thread nD τ).loc main_arg0) := V_unwritten m c (by decide)
set_option maxRecDepth 20000 in
/-- and the lengths. -/
theorem V_arg1 : V m c main_arg1 = m ((c : Thread nD τ).loc main_arg1) := V_unwritten m c (by decide)

/-- The kernel's tables and argument. -/
def inp : Inp F := ⟨V m c main_c_3, V m c main_c_4, V m c main_v24, V m c main_v39, V m c main_arg0⟩

/-- The tables' contents, one after the other. -/
def adm (_ : Fin 1) : (pcfg0 (F := F)).Adm := ⟨fun k => V m 0 (pre0.ref k), trivial⟩

/-- The pipeline at them. -/
abbrev cfg (p : Fin 1) : Pipeline.Cfg sig Λ₀ := Pipeline.pin (pcfgs (F := F)) (adm m) p

/-- The kernel's own semaphores, one per tile of the double buffer. -/
abbrev osem (p : Fin 2 × Fin 64) : SemLoc sig := SemLoc.dma (cellSem p.1 p.2)

/-- The kernel's own semaphores are distinct, and none is the pipeline's. -/
theorem osem_facts : Pipeline.OwnSemFacts spec0 osem := by decide +kernel

/-- What the kernel reads itself. -/
def H : Finset (Ref sig .tc) := {main_arg0}

/-- What the kernel reads itself is neither a table nor a window. -/
theorem H_sub : H ⊆ Pipeline.restRefsP sig pre0 spec0 := by
  intro b hb
  rw [Finset.mem_singleton.mp hb]
  decide

/-- What is known of the pipeline at each step: the invariant, and the block of the result it stores. -/
def dats (p : Fin 1) (c : Dev nD) : Dat τ (Elt F) Unit ℕ (Pipeline.UD sig nD τ) ℕ (cfg m p) c where
  A w := V m c (Pipeline.arrRef spec0 w)
  after w t := match w with
    | ⟨0, _⟩ => (inp m c).out (grid0.coords t)
  Φ t := Inv (inp m c) c t.val
  q _ := fullShare
  owed _ := 0

/-- A step of the pipeline runs the body at the step's coordinates. -/
theorem row (t : Fin (cfg m 0).N) : defs₀ (F := F) .tc (cfg m 0).body ((cfg m 0).bodyArgs t ((cfg m 0).slots t))
    = cc0__mask_body (grid0.coords t) (Memref.whole main_c_3) (Memref.isWhole_whole _) (Memref.whole main_c_4) (Memref.isWhole_whole _)
      (Memref.whole main_v24) (Memref.isWhole_whole _) (Memref.whole main_v39) (Memref.isWhole_whole _) (Memref.whole main_arg0) (Memref.isWhole_whole _)
      (spec0_0.stage ((cfg m 0).slots t 0)) (hstage0_0 (((cfg m 0).slots t 0).cast nbuf0_0)) (Memref.whole cc0_scratch0) (Memref.isWhole_whole _) cc0_scratch1 := by
  unfold defs₀; rw [Defs.onTc_tc]

/-- The coordinate of step `t` is `t`. -/
theorem coords_val (t : Fin grid0.N) : (grid0.coords t 0).val = t.val := by
  revert t; decide +kernel

/-- One step keeps the invariant and stores its block. -/
theorem step (t : Fin (cfg m 0).N) :
    iprop((dats m 0 c).Φ t.castSucc ∗ (dats m 0 c).owesAt () t.castSucc
        ∗ (∃ d, owns (c : Thread nD τ) (spec0_0.stage ((cfg m 0).slots t 0)) fullShare ((dats m 0 c).before 0 t d)))
      ⊢ wp frame (wpE (defs₀ (F := F)) Variants.none (c : Thread nD τ) none) Set.univ
          (defs₀ (F := F) .tc (cfg m 0).body ((cfg m 0).bodyArgs t ((cfg m 0).slots t)))
        (fun _ => iprop((dats m 0 c).Φ t.succ ∗ (dats m 0 c).owesAt () t.succ
          ∗ owns (c : Thread nD τ) (spec0_0.stage ((cfg m 0).slots t 0)) fullShare ((inp m c).out (grid0.coords t)))) := by
  have e := coords_val t
  have h1 : slotNow (grid0.coords t) = (slot t.val).val := by rw [slotNow_eq, e]; rfl
  have h2 : slotNext (grid0.coords t) = (slot (t.val + 1)).val := by rw [slotNext_eq, e]; rfl
  rw [row]
  have key := fun Q h => body_triple (inp m c) c (grid0.coords t) h1 h2 (Q := Q) (R := iprop((∃ r, prngReg c r) ∗ hX (inp m c) c (shareDrop fullShare 128)))
    (h1 := Memref.isWhole_whole _) (h2 := Memref.isWhole_whole _) (h3 := Memref.isWhole_whole _) (h4 := Memref.isWhole_whole _) (h5 := Memref.isWhole_whole _)
    (h7 := Memref.isWhole_whole _) (M6 := spec0_0.stage ((cfg m 0).slots t 0)) (h6 := hstage0_0 (((cfg m 0).slots t 0).cast nbuf0_0)) h
  rw [e] at key
  refine BIBase.Entails.trans ?_ (key _ ?_)
  · rw [show (dats m 0 c).Φ t.castSucc = Inv (inp m c) c t.val from rfl]
    unfold Dat.owesAt Pipeline.owesWithin Inv Owes
    rw [show (dats m 0 c).owed t.castSucc = 0 from rfl]
    iintro ⟨⟨H1, H2, H3, H4, H5⟩, ⟨%W, -, H6⟩, ⟨%d, H7⟩⟩
    isplitl [H1]; · iexact H1
    isplitl [H2]; · iexact H2
    isplitl [H3]; · iexact H3
    isplitl [H6]; · iexists W; iexact H6
    isplitl [H7]; · iexists _; iexact H7
    isplitl [H4]; · iexact H4
    iexact H5
  · rw [show (dats m 0 c).Φ t.succ = Inv (inp m c) c (t.val + 1) from rfl]
    unfold Dat.owesAt Pipeline.owesWithin Inv Owes
    rw [show (dats m 0 c).owed t.succ = 0 from rfl, show slot (t.val + 1 + 1) = slot t.val from Fin.ext (show (t.val + 1 + 1) % 2 = t.val % 2 by omega)]
    iintro ⟨H1, H3, ⟨%W, H6⟩, H2, H7, H4, H5⟩
    isplitl [H1 H2 H3 H4 H5]
    · isplitl [H1]; · iexact H1
      isplitl [H2]; · iexact H2
      isplitl [H3]; · iexact H3
      isplitl [H4]; · iexact H4
      iexact H5
    isplitl [H6]
    · iexists W; isplitr; · ipureintro; exact fun _ _ => Or.inl trivial
      iexact H6
    iexact H7

/-- Every step keeps what is stated of the pipeline. -/
theorem body_obligation : BodyObligation (dats (F := F) m 0 c) (defs₀ (F := F)) Variants.none () Set.univ := fun t => by
  rw [bigSep_W0, bigSep_W0]
  exact triple_restated (step m c t) rfl .rfl fun _ => .rfl

/-- The four tables as the launch holds them. -/
theorem tabs_eq (v : pre0.Contents (Elt F)) : (Pipeline.ΦT pre0 v c : sProp 𝕄)
    = iprop((((c : Thread nD τ).loc main_c_3) ↦{fullShare.right} v 0) ∗ (((c : Thread nD τ).loc main_c_4) ↦{fullShare.right} v 1)
      ∗ (((c : Thread nD τ).loc main_v24) ↦{fullShare.right} v 2) ∗ (((c : Thread nD τ).loc main_v39) ↦{fullShare.right} v 3)) :=
  bigSep_univ_eq_bigSepL (I := Fin 4) [0, 1, 2, 3] (by decide) (by decide) _

/-- What the kernel reads itself is the argument, whole. -/
theorem hbm_eq : (bigSep H (fun b => ((c : Thread nD τ).loc b) ↦{fullShare} V m c b) : sProp 𝕄) = (hX (inp m c) c fullShare : sProp 𝕄) :=
  bigSep_singleton

/-- The launch's buffers are the invariant before the first step, -/
theorem hin : iprop(Pipeline.ΦD osem spec0 H (V m) c ∗ Pipeline.ΦT pre0 (adm m 0).1 c) ⊢ (dats m 0 c).Φ 0 := by
  obtain rfl : c = 0 := Subsingleton.elim c 0
  rw [show (dats m 0 0).Φ 0 = Inv (inp m 0) 0 0 from rfl, Inv_ends _ _ (Or.inl rfl), Pipeline.ΦD_eq,
    show (Pipeline.ΦT pre0 (adm m 0).1 0 : sProp 𝕄) = Tabs (inp m 0) 0 from (tabs_eq _ _).trans rfl, hbm_eq, scopedRest0_eq]
  unfold Pipeline.ownSems0
  iintro ⟨⟨H1, H2, H3, H4⟩, HT⟩
  icases (enter (inp m 0) 0) $$ [H1 H3 H4] with ⟨⟨H5, H6⟩, H7⟩
  · isplitl [H1]; · iexact H1
    isplitl [H3]; · iexact H3
    iexact H4
  isplitl [HT]; · iexact HT
  isplitl [H5]; · iexact H5
  isplitl [H6]; · iexact H6
  isplitl [H2]; · iexact H2
  iexact H7

/-- and the invariant after the last gives them back. -/
theorem hout : (dats m 0 c).Φ (Fin.last (cfg m 0).N) ⊢ Pipeline.ΦD osem spec0 H (V m) c := by
  rw [show (dats m 0 c).Φ (Fin.last (cfg m 0).N) = Inv (inp m c) c grid0.N from rfl, N_0, Inv_ends _ _ (Or.inr rfl), Pipeline.ΦD_eq, hbm_eq, scopedRest0_eq]
  unfold Pipeline.ownSems0
  iintro ⟨-, H5, H6, H2, H7⟩
  icases (leave (inp m c) c) $$ [H5 H6 H7] with ⟨H1, H3, H4⟩
  · isplitl [H5 H6]
    · isplitl [H5]; · iexact H5
      iexact H6
    iexact H7
  isplitl [H1]; · iexact H1
  isplitl [H2]; · iexact H2
  isplitl [H3]; · iexact H3
  iexact H4

/-- The run: the result is the blocks stored, every other buffer what it was when the kernel started, every counter zero. -/
theorem run_main : θ_run defs (onTc (τ := τ) (main (F := F))) ⟨m, fun _ => 0, ρ⟩
    (fun r => Pipeline.FramePost (Pipeline.pin pcfgs (adm m)) (dats m) 0 (V m) r ∧ r.2.sem = fun _ => 0) :=
  Pipeline.θ_run_frameP_dma (Q' := _) pcfgs (adm m) (dats m) (0 : Fin 1) launch0 osem defs₀ Variants.none osem_facts H H_sub m ρ main
    (hbody := fun c => (body_obligation m c).loose) (hshare := fun c => (dats m 0 c).share_full fun _ => rfl)
    (howed := fun _ _ => rfl) (V := V m) (hmain := hmain m Variants.none) (hA := fun _ _ => rfl)
    (hpf := fun c k => by rw [Subsingleton.elim c 0]; rfl) (hin := hin m) (hout := hout m)

/-- The program ends, its two arguments as they were and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_arg0 (Pipeline.mem_restRefs_of main_arg0 (by decide) (show ∀ w : Fin 1, (spec0 w).arr.view.ref ≠ main_arg0 by decide))).trans (V_arg0 m c),
      ((h.1 c).2 main_arg1 (Pipeline.mem_restRefs_of main_arg1 (by decide) (show ∀ w : Fin 1, (spec0 w).arr.view.ref ≠ main_arg1 by decide))).trans (V_arg1 m c)⟩, h.2⟩) (run_main m ρ)

end Cert.KernelIdeal.Hand
-- ==== Proof.Word.lean ====
module
public import proofs.«01_k».proof.Proof.Frame
public import proofs.«01_k».proof.Proof.Gen.Kernel
public import Idealize.ShloMosaic.PureOps.BitExact

@[expose] public section

noncomputable section

open Idealize.ShloMosaic Idealize.ShloMosaic.TcCoe Idealize.SL.Sem

/-- The frame of the program on words: the two programs are one text, so the statement is the other's at words. -/
theorem Cert.Kernel.Hand.same :
    (∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread _ Cert.Kernel.τ).loc Cert.Kernel.main_arg0) = m ((c.tc : Thread _ Cert.Kernel.τ).loc Cert.Kernel.main_arg0)
      ∧ r.2.mem ((c.tc : Thread _ Cert.Kernel.τ).loc Cert.Kernel.main_arg1) = m ((c.tc : Thread _ Cert.Kernel.τ).loc Cert.Kernel.main_arg1))
      ∧ r.2.sem = fun _ => 0)) =
    (∀ (m : (ℓ : Loc Cert.KernelIdeal.nD Cert.KernelIdeal.τ Cert.KernelIdeal.sig) → Buf (Elt Bits) ℓ) (ρ : Dev Cert.KernelIdeal.nD → PrngReg),
      θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread _ Cert.KernelIdeal.τ).loc Cert.KernelIdeal.main_arg0) = m ((c.tc : Thread _ Cert.KernelIdeal.τ).loc Cert.KernelIdeal.main_arg0)
      ∧ r.2.mem ((c.tc : Thread _ Cert.KernelIdeal.τ).loc Cert.KernelIdeal.main_arg1) = m ((c.tc : Thread _ Cert.KernelIdeal.τ).loc Cert.KernelIdeal.main_arg1))
      ∧ r.2.sem = fun _ => 0)) := by sl_kernel_rfl

/-- The program on words ends, its two arguments as they were and every counter at zero. -/
theorem Cert.Kernel.Hand.quiescent (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread _ Cert.Kernel.τ).loc Cert.Kernel.main_arg0) = m ((c.tc : Thread _ Cert.Kernel.τ).loc Cert.Kernel.main_arg0)
      ∧ r.2.mem ((c.tc : Thread _ Cert.Kernel.τ).loc Cert.Kernel.main_arg1) = m ((c.tc : Thread _ Cert.Kernel.τ).loc Cert.Kernel.main_arg1))
      ∧ r.2.sem = fun _ => 0) :=
  Cert.Kernel.Hand.same.mpr (fun m ρ => Cert.KernelIdeal.Hand.quiescent m ρ) m ρ
-- ==== Proof.Ref.lean ====
module
public import proofs.«01_k».proof.Proof.Gen.ReferenceIdeal
public import proofs.«01_k».proof.Proof.Gen.ReferenceIdeal.Run
public import Idealize.ShloMosaic.PureOps.Ideal
public import Idealize.ShloMosaic.Lib.Quiescent

@[expose] public section

noncomputable section

namespace Cert.ReferenceIdeal.Hand

open Cert.ReferenceIdeal
open Idealize.ShloMosaic Idealize.ShloMosaic.TcCoe Idealize.SL.Sem

/-- The reference ends, its two arguments as they were; it has no counter, so every counter is zero. -/
theorem quiescent (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Value.run m ρ)

end Cert.ReferenceIdeal.Hand
-- ==== Proof.Host.lean ====
module
public import proofs.«01_k».proof.Proof.Frame

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The tables as terms of the argument

The host works out the two tables of times in nineteen stretches; here each stretch's result is read off as a term of
the buffers it was worked out from, all as they are when the kernel starts. -/

/-- The divisor that the host divides by: one where the word is zero. -/
def divisor (y : IVec S128x1 32) : IVec S128x1 32 :=
  select (cmpi .eq y (broadcastInDim S128x1 ![] bcast_S_S128x1 (constantI S_ 32 0#32))) (broadcastInDim S128x1 ![] bcast_S_S128x1 (constantI S_ 32 1#32)) y

/-- The host's remainder of a column by a column, -/
def rem1 (x y : IVec S128x1 32) : IVec S128x1 32 :=
  select (andi (cmpi .ne (cmpi .ult (Host.remui x (divisor y)) (broadcastInDim S128x1 ![] bcast_S_S128x1 (constantI S_ 32 0#32)))
        (cmpi .ult (divisor y) (broadcastInDim S128x1 ![] bcast_S_S128x1 (constantI S_ 32 0#32))))
      (cmpi .ne (Host.remui x (divisor y)) (broadcastInDim S128x1 ![] bcast_S_S128x1 (constantI S_ 32 0#32))))
    (addi (Host.remui x (divisor y)) (divisor y)) (Host.remui x (divisor y))

/-- A column repeated ten times. -/
abbrev ten {w : ℕ} (y : IVec S128x1 w) : IVec S128x10 w := broadcastInDim S128x10 ![0, 1] bcast_S128x1_S128x10_0_1 y

/-- and of a table by a column. -/
def rem10 (x : IVec S128x10 32) (y : IVec S128x1 32) : IVec S128x10 32 :=
  select (andi (cmpi .ne (cmpi .ult (Host.remui x (ten (divisor y))) (broadcastInDim S128x10 ![] bcast_S_S128x10 (constantI S_ 32 0#32)))
        (ten (cmpi .ult (divisor y) (broadcastInDim S128x1 ![] bcast_S_S128x1 (constantI S_ 32 0#32)))))
      (cmpi .ne (Host.remui x (ten (divisor y))) (broadcastInDim S128x10 ![] bcast_S_S128x10 (constantI S_ 32 0#32))))
    (addi (Host.remui x (ten (divisor y))) (ten (divisor y))) (Host.remui x (ten (divisor y)))

/-- The widths' bound from the lengths: a tenth of each, at least one. -/
def widths (l : IVec S128 32) : IVec S128 32 :=
  maxsi (fptosi 32 (mulf (sitofp .f32 l) (broadcastInDim S128 ![] bcast_S_S128 (constant S_ .f32 0x3DCCCCCD#32)) : FVec F S128 .f32))
    (broadcastInDim S128 ![] bcast_S_S128 (constantI S_ 32 1#32))

/-- The starts' bound: the length less the width bound, plus one, at least one. -/
def bounds (l : IVec S128 32) : IVec S128 32 :=
  maxsi (broadcastInDim S128 ![] bcast_S_S128 (constantI S_ 32 1#32))
    (addi (subi l (widths (F := F) l)) (broadcastInDim S128 ![] bcast_S_S128 (constantI S_ 32 1#32)))

variable (m : (ℓ : Loc nD τ sig) → Buf (Elt F) ℓ) (c : Dev nD)

/-- The buffers before stretch `k`. -/
def pre (k : ℕ) : Valuation τ sig (Elt F) := StableHlo.after ((stretches (F := F)).take k).flatten (fun b => m (c, b))

/-- Each stretch writes the buffers listed for it. -/
theorem written_each : (stretches (F := F)).map (fun l => l.map HloOp.writes) = written.map fun l => l.map fun w => {Proc.devRef (τ := τ) .tc w} := rfl

/-- A buffer that no stretch from the `k`th on writes is, when the kernel starts, what it was before stretch `k`. -/
theorem V_pre (k : ℕ) {r : Ref sig .tc} (hr : r ∉ (written.drop k).flatten) : V m c r = pre m c k (Proc.devRef .tc r) := by
  unfold V pre
  conv_lhs => rw [← List.take_append_drop k (stretches (F := F)), List.flatten_append, StableHlo.after_append]
  refine StableHlo.after_unwritten (written.drop k).flatten ?_ hr _
  rw [List.map_flatten, List.map_flatten, List.map_drop, List.map_drop]
  exact congrArg (fun l => (l.drop k).flatten) (written_each (F := F))

/-- Stretch `k`'s result is stretch `k` run from the buffers before it. -/
theorem pre_succ (k : ℕ) (ops : List (HloOp τ sig (Elt F))) (h : (stretches (F := F))[k]? = some ops) :
    pre m c (k + 1) = StableHlo.after ops (pre m c k) := by
  unfold pre
  rw [List.take_add_one, h, List.flatten_append, StableHlo.after_append]
  simp

/-- A result of stretch `k`, written no more afterwards, by running stretch `k` alone. -/
theorem V_step (k : ℕ) (ops : List (HloOp τ sig (Elt F))) (h : (stretches (F := F))[k]? = some ops) {r : Ref sig .tc} (hr : r ∉ (written.drop (k + 1)).flatten) :
    V m c r = StableHlo.after ops (pre m c k) (Proc.devRef .tc r) := by
  rw [V_pre m c (k + 1) hr, pre_succ m c k ops h]

set_option maxRecDepth 20000
set_option maxHeartbeats 800000

/-- The starts' spans. -/
theorem V_v12 : V m c main_v12 = broadcastInDim S128x1 ![0] bcast_S128_S128x1_0 (bounds (F := F) (V m c main_arg1)) := by
  rw [V_step m c 0 hostOps0 rfl (by decide +kernel), V_pre m c (r := main_arg1) 0 (by decide +kernel)]
  generalize pre m c 0 = W
  after_results_simp
  rfl

/-- The widths' spans. -/
theorem V_v5 : V m c main_v5 = widths (F := F) (V m c main_arg1) := by
  rw [V_step m c 0 hostOps0 rfl (by decide +kernel), V_pre m c (r := main_arg1) 0 (by decide +kernel)]
  generalize pre m c 0 = W
  after_results_simp
  rfl

/-- The word 65536. -/
theorem V_c8 : V m c main_c_8 = constantI S_ 32 65536#32 := by
  rw [V_step m c 0 hostOps0 rfl (by decide +kernel)]
  generalize pre m c 0 = W
  after_results_simp

/-- The words of the starts, high -/
theorem V_c : V m c main_c = fun i => lit0 (S128x10.rowMajor i) := by
  rw [V_step m c 0 hostOps0 rfl (by decide +kernel)]
  generalize pre m c 0 = W
  after_results_simp
  rfl

/-- and low; -/
theorem V_c0 : V m c main_c_0 = fun i => lit1 (S128x10.rowMajor i) := by
  rw [V_step m c 0 hostOps0 rfl (by decide +kernel)]
  generalize pre m c 0 = W
  after_results_simp
  rfl

/-- the words of the widths, high -/
theorem V_c1 : V m c main_c_1 = fun i => lit2 (S128x10.rowMajor i) := by
  rw [V_step m c 0 hostOps0 rfl (by decide +kernel)]
  generalize pre m c 0 = W
  after_results_simp
  rfl

/-- and low. -/
theorem V_c2 : V m c main_c_2 = fun i => lit3 (S128x10.rowMajor i) := by
  rw [V_step m c 0 hostOps0 rfl (by decide +kernel)]
  generalize pre m c 0 = W
  after_results_simp
  rfl

/-- The starts of the bands -/
theorem V_c3 : V m c main_c_3 = fun i => lit4 (S128x2.rowMajor i) := by
  rw [V_step m c 0 hostOps0 rfl (by decide +kernel)]
  generalize pre m c 0 = W
  after_results_simp
  rfl

/-- and their ends. -/
theorem V_c4 : V m c main_c_4 = fun i => lit5 (S128x2.rowMajor i) := by
  rw [V_step m c 0 hostOps0 rfl (by decide +kernel)]
  generalize pre m c 0 = W
  after_results_simp
  rfl

/-- The starts' multiplier: 65536 modulo the span, -/
theorem V_v13 : V m c main_v13 = rem1 (broadcastInDim S128x1 ![] bcast_S_S128x1 (V m c main_c_8)) (V m c main_v12) := by
  rw [V_step m c 1 hostOps0_1 rfl (by decide +kernel), V_pre m c (r := main_c_8) 1 (by decide +kernel), V_pre m c (r := main_v12) 1 (by decide +kernel)]
  generalize pre m c 1 = W
  simp only [hostOps0_1, StableHlo.TRef.ternary, StableHlo.TRef.nullary, StableHlo.TRef.binary, StableHlo.TRef.unary, StableHlo.TRef.toBuf, StableHlo.TRef.ofBuf, cast_eq]
  after_results_simp
  rfl

/-- squared, -/
theorem V_v14 : V m c main_v14 = muli (V m c main_v13) (V m c main_v13) := by
  rw [V_step m c 2 hostOps0_2 rfl (by decide +kernel), V_pre m c (r := main_v13) 2 (by decide +kernel)]
  generalize pre m c 2 = W
  after_results_simp

/-- modulo the span. -/
theorem V_v15 : V m c main_v15 = rem1 (V m c main_v14) (V m c main_v12) := by
  rw [V_step m c 3 hostOps0_3 rfl (by decide +kernel), V_pre m c (r := main_v14) 3 (by decide +kernel), V_pre m c (r := main_v12) 3 (by decide +kernel)]
  generalize pre m c 3 = W
  simp only [hostOps0_3, StableHlo.TRef.ternary, StableHlo.TRef.nullary, StableHlo.TRef.binary, StableHlo.TRef.unary, StableHlo.TRef.toBuf, StableHlo.TRef.ofBuf, cast_eq]
  after_results_simp
  rfl

/-- The high words modulo the span, -/
theorem V_v16 : V m c main_v16 = rem10 (V m c main_c) (V m c main_v12) := by
  rw [V_step m c 4 hostOps0_4 rfl (by decide +kernel), V_pre m c (r := main_c) 4 (by decide +kernel), V_pre m c (r := main_v12) 4 (by decide +kernel)]
  generalize pre m c 4 = W
  simp only [hostOps0_4, StableHlo.TRef.ternary, StableHlo.TRef.nullary, StableHlo.TRef.binary, StableHlo.TRef.unary, StableHlo.TRef.toBuf, StableHlo.TRef.ofBuf, cast_eq]
  after_results_simp
  rfl

/-- times the multiplier; -/
theorem V_v18 : V m c main_v18 = muli (V m c main_v16) (ten (V m c main_v15)) := by
  rw [V_step m c 5 hostOps0_5 rfl (by decide +kernel), V_pre m c (r := main_v16) 5 (by decide +kernel), V_pre m c (r := main_v15) 5 (by decide +kernel)]
  generalize pre m c 5 = W
  after_results_simp

/-- the low words modulo the span; -/
theorem V_v19 : V m c main_v19 = rem10 (V m c main_c_0) (V m c main_v12) := by
  rw [V_step m c 6 hostOps0_6 rfl (by decide +kernel), V_pre m c (r := main_c_0) 6 (by decide +kernel), V_pre m c (r := main_v12) 6 (by decide +kernel)]
  generalize pre m c 6 = W
  simp only [hostOps0_6, StableHlo.TRef.ternary, StableHlo.TRef.nullary, StableHlo.TRef.binary, StableHlo.TRef.unary, StableHlo.TRef.toBuf, StableHlo.TRef.ofBuf, cast_eq]
  after_results_simp
  rfl

/-- the sum of the two, -/
theorem V_v20 : V m c main_v20 = addi (V m c main_v18) (V m c main_v19) := by
  rw [V_step m c 7 hostOps0_7 rfl (by decide +kernel), V_pre m c (r := main_v18) 7 (by decide +kernel), V_pre m c (r := main_v19) 7 (by decide +kernel)]
  generalize pre m c 7 = W
  after_results_simp

/-- modulo the span: the draws of the starts. -/
theorem V_v21 : V m c main_v21 = rem10 (V m c main_v20) (V m c main_v12) := by
  rw [V_step m c 8 hostOps0_8 rfl (by decide +kernel), V_pre m c (r := main_v20) 8 (by decide +kernel), V_pre m c (r := main_v12) 8 (by decide +kernel)]
  generalize pre m c 8 = W
  simp only [hostOps0_8, StableHlo.TRef.ternary, StableHlo.TRef.nullary, StableHlo.TRef.binary, StableHlo.TRef.unary, StableHlo.TRef.toBuf, StableHlo.TRef.ofBuf, cast_eq]
  after_results_simp
  rfl

/-- The table of starts. -/
theorem V_v24 : V m c main_v24 = addi (broadcastInDim S128x10 ![] bcast_S_S128x10 (constantI S_ 32 0#32)) (V m c main_v21) := by
  rw [V_step m c 9 hostOps0_9 rfl (by decide +kernel), V_pre m c (r := main_v21) 9 (by decide +kernel)]
  generalize pre m c 9 = W
  after_results_simp
  rfl

/-- The widths' spans as a column. -/
theorem V_v26 : V m c main_v26 = broadcastInDim S128x1 ![0] bcast_S128_S128x1_0 (V m c main_v5) := by
  rw [V_step m c 9 hostOps0_9 rfl (by decide +kernel), V_pre m c (r := main_v5) 9 (by decide +kernel)]
  generalize pre m c 9 = W
  after_results_simp
  rfl

/-- The word 65536 again. -/
theorem V_c10 : V m c main_c_10 = constantI S_ 32 65536#32 := by
  rw [V_step m c 9 hostOps0_9 rfl (by decide +kernel)]
  generalize pre m c 9 = W
  after_results_simp

/-- The widths' multiplier: 65536 modulo the span, -/
theorem V_v27 : V m c main_v27 = rem1 (broadcastInDim S128x1 ![] bcast_S_S128x1 (V m c main_c_10)) (V m c main_v26) := by
  rw [V_step m c 10 hostOps0_10 rfl (by decide +kernel), V_pre m c (r := main_c_10) 10 (by decide +kernel), V_pre m c (r := main_v26) 10 (by decide +kernel)]
  generalize pre m c 10 = W
  simp only [hostOps0_10, StableHlo.TRef.ternary, StableHlo.TRef.nullary, StableHlo.TRef.binary, StableHlo.TRef.unary, StableHlo.TRef.toBuf, StableHlo.TRef.ofBuf, cast_eq]
  after_results_simp
  rfl

/-- squared, -/
theorem V_v28 : V m c main_v28 = muli (V m c main_v27) (V m c main_v27) := by
  rw [V_step m c 11 hostOps0_11 rfl (by decide +kernel), V_pre m c (r := main_v27) 11 (by decide +kernel)]
  generalize pre m c 11 = W
  after_results_simp

/-- modulo the span. -/
theorem V_v29 : V m c main_v29 = rem1 (V m c main_v28) (V m c main_v26) := by
  rw [V_step m c 12 hostOps0_12 rfl (by decide +kernel), V_pre m c (r := main_v28) 12 (by decide +kernel), V_pre m c (r := main_v26) 12 (by decide +kernel)]
  generalize pre m c 12 = W
  simp only [hostOps0_12, StableHlo.TRef.ternary, StableHlo.TRef.nullary, StableHlo.TRef.binary, StableHlo.TRef.unary, StableHlo.TRef.toBuf, StableHlo.TRef.ofBuf, cast_eq]
  after_results_simp
  rfl

/-- The high words modulo the span, -/
theorem V_v30 : V m c main_v30 = rem10 (V m c main_c_1) (V m c main_v26) := by
  rw [V_step m c 13 hostOps0_13 rfl (by decide +kernel), V_pre m c (r := main_c_1) 13 (by decide +kernel), V_pre m c (r := main_v26) 13 (by decide +kernel)]
  generalize pre m c 13 = W
  simp only [hostOps0_13, StableHlo.TRef.ternary, StableHlo.TRef.nullary, StableHlo.TRef.binary, StableHlo.TRef.unary, StableHlo.TRef.toBuf, StableHlo.TRef.ofBuf, cast_eq]
  after_results_simp
  rfl

/-- times the multiplier; -/
theorem V_v32 : V m c main_v32 = muli (V m c main_v30) (ten (V m c main_v29)) := by
  rw [V_step m c 14 hostOps0_14 rfl (by decide +kernel), V_pre m c (r := main_v30) 14 (by decide +kernel), V_pre m c (r := main_v29) 14 (by decide +kernel)]
  generalize pre m c 14 = W
  after_results_simp

/-- the low words modulo the span; -/
theorem V_v33 : V m c main_v33 = rem10 (V m c main_c_2) (V m c main_v26) := by
  rw [V_step m c 15 hostOps0_15 rfl (by decide +kernel), V_pre m c (r := main_c_2) 15 (by decide +kernel), V_pre m c (r := main_v26) 15 (by decide +kernel)]
  generalize pre m c 15 = W
  simp only [hostOps0_15, StableHlo.TRef.ternary, StableHlo.TRef.nullary, StableHlo.TRef.binary, StableHlo.TRef.unary, StableHlo.TRef.toBuf, StableHlo.TRef.ofBuf, cast_eq]
  after_results_simp
  rfl

/-- the sum of the two, -/
theorem V_v34 : V m c main_v34 = addi (V m c main_v32) (V m c main_v33) := by
  rw [V_step m c 16 hostOps0_16 rfl (by decide +kernel), V_pre m c (r := main_v32) 16 (by decide +kernel), V_pre m c (r := main_v33) 16 (by decide +kernel)]
  generalize pre m c 16 = W
  after_results_simp

/-- modulo the span: the draws of the widths. -/
theorem V_v35 : V m c main_v35 = rem10 (V m c main_v34) (V m c main_v26) := by
  rw [V_step m c 17 hostOps0_17 rfl (by decide +kernel), V_pre m c (r := main_v34) 17 (by decide +kernel), V_pre m c (r := main_v26) 17 (by decide +kernel)]
  generalize pre m c 17 = W
  simp only [hostOps0_17, StableHlo.TRef.ternary, StableHlo.TRef.nullary, StableHlo.TRef.binary, StableHlo.TRef.unary, StableHlo.TRef.toBuf, StableHlo.TRef.ofBuf, cast_eq]
  after_results_simp
  rfl

/-- The table of ends. -/
theorem V_v39 : V m c main_v39 = addi (V m c main_v24) (addi (broadcastInDim S128x10 ![] bcast_S_S128x10 (constantI S_ 32 1#32)) (V m c main_v35)) := by
  rw [V_step m c 18 hostOps0_18 rfl (by decide +kernel), V_pre m c (r := main_v24) 18 (by decide +kernel), V_pre m c (r := main_v35) 18 (by decide +kernel)]
  generalize pre m c 18 = W
  after_results_simp
  rfl

end Cert.KernelIdeal.Hand
-- ==== Proof.RefValue.lean ====
module
public import proofs.«01_k».proof.Proof.Ref
public import Idealize.ShloMosaic.Lib.ValueLayout

@[expose] public section

noncomputable section

namespace Cert.ReferenceIdeal.Hand

open Cert.ReferenceIdeal Cert.ReferenceIdeal.Gen Cert.ReferenceIdeal.Value
open Idealize.ShloMosaic Idealize.ShloMosaic.TcCoe Idealize.SL.Sem

variable {F : FTy → Type} [FloatOps F]

/-! ## The reference's result in named parts -/

/-- The widths' bound: a tenth of the length, at least one. -/
def wid (l : IVec S128 32) : IVec S128 32 :=
  maxsi (fptosi 32 (mulf (sitofp .f32 l) (broadcastInDim S128 ![] bcast_S_S128 (constant S_ .f32 0x3DCCCCCD#32)) : FVec F S128 .f32))
    (broadcastInDim S128 ![] bcast_S_S128 (constantI S_ 32 1#32))

/-- The starts' bound. -/
def top (l : IVec S128 32) : IVec S128 32 :=
  maxsi (broadcastInDim S128 ![] bcast_S_S128 (constantI S_ 32 1#32)) (addi (subi l (wid (F := F) l)) (broadcastInDim S128 ![] bcast_S_S128 (constantI S_ 32 1#32)))

/-- A bound as a column. -/
abbrev col (y : IVec S128 32) : IVec S128x1 32 := broadcastInDim S128x1 ![0] bcast_S128_S128x1_0 y
/-- The column of a word. -/
abbrev colK (w : BitVec 32) : IVec S128x1 32 := broadcastInDim S128x1 ![] bcast_S_S128x1 (constantI S_ 32 w)
/-- The column of a word given as a one by one table. -/
abbrev colL (w : BitVec 32) : IVec S128x1 32 := broadcastInDim S128x1 ![0, 1] bcast_S1x1_S128x1_0_1 (constantI S1x1 32 w)
/-- A column repeated ten times. -/
abbrev ten {w : ℕ} (y : IVec S128x1 w) : IVec S128x10 w := broadcastInDim S128x10 ![0, 1] bcast_S128x1_S128x10_0_1 y

/-- The largest bound there is, as the draw limits its bound by it, -/
abbrev lim (x : IVec S128x1 32) : IVec S128x1 32 := minsi (colK 2147483647#32) (maxsi (colK 2147483648#32) x)
/-- the number of values between `lo` and it, at least one, -/
abbrev gap (lo : BitVec 32) (x : IVec S128x1 32) : IVec S128x1 32 :=
  select (cmpi .sle (lim x) (colL lo)) (constantI S128x1 32 1#32) (id (subi (lim x) (colL lo)))
/-- and one more where the bound is past the largest. -/
def span (lo : BitVec 32) (x : IVec S128x1 32) : IVec S128x1 32 :=
  select (andi (cmpi .sgt x (colK 2147483647#32)) (cmpi .sgt (lim x) (colL lo))) (addi (gap lo x) (colK 1#32)) (gap lo x)

/-- A remainder from two words: the high one's times a power of two's, and the low one's. -/
def draw (hi lo : IVec S128x10 32) (s : IVec S128x1 32) : IVec S128x10 32 :=
  Host.remui (addi (muli (Host.remui hi (ten s)) (ten (Host.remui (muli (Host.remui (colK 65536#32) s) (Host.remui (colK 65536#32) s)) s))) (Host.remui lo (ten s))) (ten s)

/-- The table of a word. -/
abbrev tabL (w : BitVec 32) : IVec S128x10 32 := broadcastInDim S128x10 ![0, 1] bcast_S1x1_S128x10_0_1 (constantI S1x1 32 w)

/-- The starts -/
def starts (l : IVec S128 32) : IVec S128x10 32 :=
  addi (tabL 0#32) (id (draw (fun i => lit2 (S128x10.rowMajor i)) (fun i => lit3 (S128x10.rowMajor i)) (span 0#32 (col (top (F := F) l)))))
/-- and the ends of the intervals. -/
def ends (l : IVec S128 32) : IVec S128x10 32 :=
  addi (starts (F := F) l) (addi (tabL 1#32) (id (draw (fun i => lit4 (S128x10.rowMajor i)) (fun i => lit5 (S128x10.rowMajor i))
    (span 1#32 (col (addi (wid (F := F) l) (broadcastInDim S128 ![] bcast_S_S128 (constantI S_ 32 1#32))))))))

/-- The starts of the bands -/
abbrev fs : IVec S128x2 32 := fun i => lit0 (S128x2.rowMajor i)
/-- and their ends. -/
abbrev fe : IVec S128x2 32 := addi fs (fun i => lit1 (S128x2.rowMajor i))

/-- The rows along the third axis. -/
abbrev posF : IVec S128x2x128 32 := broadcastInDim S128x2x128 ![0, 1, 2] bcast_S1x1x128_S128x2x128_0_1_2 (broadcastInDim S1x1x128 ![2] bcast_S128_S1x1x128_2 (iotaInDim S128 32 0))
/-- A band's word along the third axis. -/
abbrev wideF (t : IVec S128x2 32) : IVec S128x2x128 32 := broadcastInDim S128x2x128 ![0, 1, 2] bcast_S128x2x1_S128x2x128_0_1_2 (broadcastInDim S128x2x1 ![0, 1] bcast_S128x2_S128x2x1_0_1 t)
/-- The times along the third axis. -/
abbrev posT : IVec S128x10x4096 32 := broadcastInDim S128x10x4096 ![0, 1, 2] bcast_S1x1x4096_S128x10x4096_0_1_2 (broadcastInDim S1x1x4096 ![2] bcast_S4096_S1x1x4096_2 (iotaInDim S4096 32 0))
/-- An interval's word along the third axis. -/
abbrev wideT (t : IVec S128x10 32) : IVec S128x10x4096 32 := broadcastInDim S128x10x4096 ![0, 1, 2] bcast_S128x10x1_S128x10x4096_0_1_2 (broadcastInDim S128x10x1 ![0, 1] bcast_S128x10_S128x10x1_0_1 t)

/-- Whether a row is in a band, -/
def inF (s e : IVec S128x2 32) : IVec S128x2x128 1 := andi (cmpi .sge posF (wideF s)) (cmpi .slt posF (wideF e))
/-- in any band; -/
def anyF (s e : IVec S128x2 32) : IVec S128x128 1 := Host.reduce IntOp.ori (inF s e) (constantI S_ 1 0#1) reducesTo_S128x2x128_S128x128_d1 h_S_
/-- whether a time is in an interval, -/
def inT (s e : IVec S128x10 32) : IVec S128x10x4096 1 := andi (cmpi .sge posT (wideT s)) (cmpi .slt posT (wideT e))
/-- in any interval. -/
def anyT (s e : IVec S128x10 32) : IVec S128x4096 1 := Host.reduce IntOp.ori (inT s e) (constantI S_ 1 0#1) reducesTo_S128x10x4096_S128x4096_d1 h_S_

/-- The argument with zeros where a row is in a band or a time in an interval. -/
def masked (f : IVec S128x128 1) (t : IVec S128x4096 1) (x : FVec F S128x128x4096 .f32) : FVec F S128x128x4096 .f32 :=
  select (ori (broadcastInDim S128x128x4096 ![0, 1, 2] bcast_S128x128x1_S128x128x4096_0_1_2 (broadcastInDim S128x128x1 ![0, 1] bcast_S128x128_S128x128x1_0_1 f))
      (broadcastInDim S128x128x4096 ![0, 1, 2] bcast_S128x1x4096_S128x128x4096_0_1_2 (broadcastInDim S128x1x4096 ![0, 2] bcast_S128x4096_S128x1x4096_0_2 t)))
    (broadcastInDim S128x128x4096 ![] bcast_S_S128x128x4096 (constant S_ .f32 0x00000000#32)) x

set_option maxRecDepth 20000 in
/-- The reference's result is the argument masked by bands and intervals. -/
theorem res_eq (m : (ℓ : Loc nD τ sig) → Buf (Elt F) ℓ) (c : Dev nD) : res_main_v114 m c
    = masked (anyF fs fe) (anyT (starts (F := F) (m ((c.tc : Thread nD τ).loc main_arg1))) (ends (F := F) (m ((c.tc : Thread nD τ).loc main_arg1))))
        (m ((c.tc : Thread nD τ).loc main_arg0)) := by
  unfold res_main_v114 masked anyF anyT inF inT starts ends draw span top wid
  rfl

end Cert.ReferenceIdeal.Hand
-- ==== Proof.Draw.lean ====
module
public import proofs.«01_k».proof.Proof.Host
public import proofs.«01_k».proof.Proof.RefValue

@[expose] public section

noncomputable section

namespace Cert.KernelIdeal.Hand

open Cert.KernelIdeal Cert.KernelIdeal.Gen
open Idealize.ShloMosaic Idealize.ShloMosaic.TcCoe

/-! ## The two programs draw the same tables

The host's remainder mends a sign that an unsigned remainder does not have, and a divisor that is not zero; the
reference's span clamps a bound that is in range. So both draw by the same words. -/

section Words

/-- The bit of a false test is not set. -/
theorem ofBool_ne {b : Bool} (h : b = false) : BitVec.ofBool b ≠ 1#1 := by subst h; decide
/-- A conjunction is not set where its first bit is not. -/
theorem andi_ne_left {a b : BitVec 1} (h : a ≠ 1#1) : IntOp.andi a b ≠ 1#1 := by revert h; revert a b; decide

/-- The mended remainder is the remainder. -/
theorem mend (r d : BitVec 32) : Scalar.select (IntOp.andi (IntOp.cmpi .ne (IntOp.cmpi .ult r 0#32) (IntOp.cmpi .ult d 0#32)) (IntOp.cmpi .ne r 0#32)) (IntOp.addi r d) r = r := by
  have h : ∀ x : BitVec 32, IntOp.cmpi .ult x 0#32 = 0#1 := fun x => by
    show BitVec.ofBool (x.ult 0#32) = 0#1
    rw [show x.ult 0#32 = false from decide_eq_false (Nat.not_lt_zero _)]; rfl
  rw [h, h]
  exact if_neg (andi_ne_left (by decide))

/-- The divisor is itself where it is not zero. -/
theorem nonzero {y : BitVec 32} (h : y ≠ 0#32) : Scalar.select (IntOp.cmpi .eq y 0#32) 1#32 y = y :=
  if_neg (ofBool_ne (show (y == 0#32) = false by simpa using h))

/-- A word not below another does not test as below it, -/
theorem slt_false {x y : BitVec 32} (h : y.toInt ≤ x.toInt) : x.slt y = false := by
  rw [Bool.eq_false_iff, Ne, BitVec.slt_iff_toInt_lt]; omega
/-- nor one above another as at most it. -/
theorem sle_false {x y : BitVec 32} (h : y.toInt < x.toInt) : x.sle y = false := by
  rw [Bool.eq_false_iff, Ne, BitVec.sle_iff_toInt_le]; omega
/-- No word is above the greatest, -/
theorem toInt_le (x : BitVec 32) : x.toInt ≤ 2147483647 := by have := BitVec.toInt_lt (x := x); norm_num at this; omega
/-- and none below the least. -/
theorem le_toInt (x : BitVec 32) : -2147483648 ≤ x.toInt := by have := BitVec.le_toInt (x := x); norm_num at this; omega

/-- A bound held between the least word and the greatest is itself. -/
theorem lim_word (x : BitVec 32) : IntOp.minsi 2147483647#32 (IntOp.maxsi 2147483648#32 x) = x := by
  have h1 : IntOp.maxsi 2147483648#32 x = x := if_neg (by rw [slt_false (by rw [show (2147483648#32).toInt = -2147483648 by decide]; exact le_toInt x)]; simp)
  rw [h1]
  exact if_neg (by rw [slt_false (by rw [show (2147483647#32).toInt = 2147483647 by decide]; exact toInt_le x)]; simp)

/-- The number of values from `lo` below `x`, where `x` is above `lo`. -/
theorem span_word {lo x : BitVec 32} (h : lo.toInt < x.toInt) :
    Scalar.select (IntOp.andi (IntOp.cmpi .sgt x 2147483647#32) (IntOp.cmpi .sgt (IntOp.minsi 2147483647#32 (IntOp.maxsi 2147483648#32 x)) lo))
      (IntOp.addi (Scalar.select (IntOp.cmpi .sle (IntOp.minsi 2147483647#32 (IntOp.maxsi 2147483648#32 x)) lo) 1#32 (IntOp.subi (IntOp.minsi 2147483647#32 (IntOp.maxsi 2147483648#32 x)) lo)) 1#32)
      (Scalar.select (IntOp.cmpi .sle (IntOp.minsi 2147483647#32 (IntOp.maxsi 2147483648#32 x)) lo) 1#32 (IntOp.subi (IntOp.minsi 2147483647#32 (IntOp.maxsi 2147483648#32 x)) lo))
      = x - lo := by
  rw [lim_word]
  refine (if_neg (andi_ne_left (ofBool_ne (slt_false ?_)))).trans (if_neg (ofBool_ne (sle_false h)))
  rw [show (2147483647#32).toInt = 2147483647 by decide]; exact toInt_le x

/-- The larger of one and a word is at least one, -/
theorem one_le_maxsi_left (x : BitVec 32) : 1 ≤ (IntOp.maxsi 1#32 x).toInt := by
  unfold IntOp.maxsi
  split
  · decide
  · rename_i h
    rw [Bool.not_eq_true, Bool.eq_false_iff, Ne, BitVec.slt_iff_toInt_lt, show (1#32).toInt = 1 by decide] at h; omega
/-- in either order, -/
theorem one_le_maxsi_right (x : BitVec 32) : 1 ≤ (IntOp.maxsi x 1#32).toInt := by
  unfold IntOp.maxsi
  split
  · rename_i h
    rw [BitVec.slt_iff_toInt_lt, show (1#32).toInt = 1 by decide] at h; omega
  · decide
/-- and at most what bounds them both. -/
theorem maxsi_right_le {x : BitVec 32} {n : ℤ} (h : x.toInt ≤ n) (hn : 1 ≤ n) : (IntOp.maxsi x 1#32).toInt ≤ n := by
  unfold IntOp.maxsi
  split
  · exact h
  · rw [show (1#32).toInt = 1 by decide]; exact hn

/-- A positive word is not zero. -/
theorem ne_zero_of_pos {x : BitVec 32} (h : 1 ≤ x.toInt) : x ≠ 0#32 := by
  rintro rfl; revert h; decide

/-- The word after a positive one is one more, short of the greatest. -/
theorem toInt_succ {x : BitVec 32} (h : 1 ≤ x.toInt) (h' : x.toInt ≤ 2147483646) : (x + 1#32).toInt = x.toInt + 1 := by
  rw [BitVec.toInt_add, show (1#32).toInt = 1 by decide, Int.bmod_eq_of_le] <;> omega

/-- A tenth of a word is far below the greatest. -/
theorem tenth_le (l : BitVec 32) :
    ((FloatOps.fptosi 32 (FloatOps.mulf (FloatOps.sitofp .f32 l) (FloatOps.ofBits .f32 0x3DCCCCCD#32 : Ideal .f32))) : BitVec 32).toInt ≤ 1073741824 := by
  have e : (Ideal.ofBits .f32 0x3DCCCCCD#32 : EReal) = ((13421773 / 134217728 : ℝ) : EReal) := by
    simp [Ideal.ofBits, Ideal.ieee, -EReal.coe_mul]; norm_num
  show (Ideal.fptosi 32 (((l.toInt : ℝ) : EReal) * Ideal.ofBits .f32 0x3DCCCCCD#32)).toInt ≤ _
  rw [e, ← EReal.coe_mul, Ideal.fptosi, Ideal.toIntClamped_coe]
  have hl := toInt_le l
  have hl' : ((l.toInt : ℤ) : ℝ) ≤ 2147483647 := by exact_mod_cast hl
  set r : ℝ := (l.toInt : ℝ) * (13421773 / 134217728) with hr
  have hr' : r ≤ 1073741824 := by rw [hr]; nlinarith
  have h1 : (if 0 ≤ r then ⌊r⌋ else ⌈r⌉) ≤ 1073741824 := by
    split
    · exact_mod_cast (Int.floor_le r).trans hr'
    · exact Int.ceil_le.mpr (by exact_mod_cast hr')
  generalize (if 0 ≤ r then ⌊r⌋ else ⌈r⌉) = z at h1
  rw [BitVec.toInt_ofInt, Int.bmod_eq_of_le] <;> norm_num <;> omega

end Words

/-- The divisor is the word divided by, where that is nowhere zero, -/
theorem divisor_eq {y : IVec S128x1 32} (h : ∀ j, y j ≠ 0#32) : divisor y = y := funext fun j => nonzero (h j)

/-- so the host's remainder is the unsigned one, of a column -/
theorem rem1_eq (x : IVec S128x1 32) {y : IVec S128x1 32} (h : ∀ j, y j ≠ 0#32) : rem1 x y = Host.remui x y := by
  unfold rem1; rw [divisor_eq h]; exact funext fun j => mend _ _

/-- and of a table. -/
theorem rem10_eq (x : IVec S128x10 32) {y : IVec S128x1 32} (h : ∀ j, y j ≠ 0#32) : rem10 x y = Host.remui x (ten y) := by
  unfold rem10; rw [divisor_eq h]; exact funext fun j => mend _ _

/-- A bound as a column. -/
abbrev column (y : IVec S128 32) : IVec S128x1 32 := broadcastInDim S128x1 ![0] bcast_S128_S128x1_0 y

/-- The reference's span above `lo` of a column. -/
theorem span_eq {lo : BitVec 32} {y z : IVec S128 32} (h : ∀ j, lo.toInt < (y j).toInt) (hz : ∀ j, y j - lo = z j) :
    ReferenceIdeal.Hand.span lo (ReferenceIdeal.Hand.col y) = column z :=
  funext fun j => (span_word (h _)).trans (hz _)

variable (m : (ℓ : Loc nD τ sig) → Buf (Elt Ideal) ℓ) (c : Dev nD)

/-- The width bounds are positive, -/
theorem widths_pos (l : IVec S128 32) (j : S128.Idx) : 1 ≤ (widths (F := Ideal) l j).toInt := one_le_maxsi_right _
/-- and far below the greatest word. -/
theorem widths_le (l : IVec S128 32) (j : S128.Idx) : (widths (F := Ideal) l j).toInt ≤ 1073741824 := maxsi_right_le (tenth_le (l j)) (by omega)
/-- The starts' bounds are positive. -/
theorem bounds_pos (l : IVec S128 32) (j : S128.Idx) : 1 ≤ (bounds (F := Ideal) l j).toInt := one_le_maxsi_left _

/-- The reference's bound of the starts is the kernel's, -/
theorem top_eq (l : IVec S128 32) : ReferenceIdeal.Hand.top (F := Ideal) l = bounds (F := Ideal) l := rfl
/-- and so is its bound of the widths. -/
theorem wid_eq (l : IVec S128 32) : ReferenceIdeal.Hand.wid (F := Ideal) l = widths (F := Ideal) l := rfl

/-- The starts' span is their bound, -/
theorem span_starts (l : IVec S128 32) : ReferenceIdeal.Hand.span 0#32 (ReferenceIdeal.Hand.col (ReferenceIdeal.Hand.top (F := Ideal) l)) = column (bounds (F := Ideal) l) := by
  rw [top_eq]
  have h := bounds_pos l
  generalize bounds (F := Ideal) l = y at h
  exact span_eq (fun j => lt_of_lt_of_le (by decide) (h j)) fun j => BitVec.sub_zero _

/-- and the widths' theirs. -/
theorem span_widths (l : IVec S128 32) : ReferenceIdeal.Hand.span 1#32 (ReferenceIdeal.Hand.col (addi (ReferenceIdeal.Hand.wid (F := Ideal) l)
    (broadcastInDim S128 ![] bcast_S_S128 (constantI S_ 32 1#32)))) = column (widths (F := Ideal) l) := by
  rw [wid_eq]
  have h := widths_pos l
  have h' := widths_le l
  generalize widths (F := Ideal) l = y at h h'
  refine span_eq (fun j => ?_) fun j => BitVec.add_sub_cancel _ _
  show _ < (y j + 1#32).toInt
  rw [toInt_succ (h j) ((h' j).trans (by decide))]
  exact lt_of_le_of_lt (h j) (lt_add_one _)

/-- The two programs hold the same random words: the first table of them, -/
theorem words0 : lit0 = ReferenceIdeal.lit2 := by funext i; revert i; decide +kernel
/-- the second table of them, -/
theorem words1 : lit1 = ReferenceIdeal.lit3 := by funext i; revert i; decide +kernel
/-- the third, -/
theorem words2 : lit2 = ReferenceIdeal.lit4 := by funext i; revert i; decide +kernel
/-- the fourth, -/
theorem words3 : lit3 = ReferenceIdeal.lit5 := by funext i; revert i; decide +kernel
/-- The bands' starts are the same -/
theorem words4 : lit4 = ReferenceIdeal.lit0 := by funext i; revert i; decide +kernel
/-- and their ends the starts and lengths added. -/
theorem words5 : lit5 = fun i => ReferenceIdeal.lit0 i + ReferenceIdeal.lit1 i := by funext i; revert i; decide +kernel

/-- The kernel's table of starts is the reference's. -/
theorem starts_eq : V m c main_v24 = ReferenceIdeal.Hand.starts (F := Ideal) (V m c main_arg1) := by
  have hy : ∀ j, column (bounds (F := Ideal) (V m c main_arg1)) j ≠ 0#32 := fun j => ne_zero_of_pos (bounds_pos _ _)
  unfold ReferenceIdeal.Hand.starts
  rw [span_starts, ← words0, ← words1, V_v24, V_v21, V_v20, V_v19, V_v18, V_v16, V_v15, V_v14, V_v13, V_v12, rem1_eq _ hy, rem1_eq _ hy, rem10_eq _ hy, rem10_eq _ hy, rem10_eq _ hy, V_c8, V_c, V_c0]
  rfl

/-- The kernel's table of ends is the reference's. -/
theorem ends_eq : V m c main_v39 = ReferenceIdeal.Hand.ends (F := Ideal) (V m c main_arg1) := by
  have hy : ∀ j, column (widths (F := Ideal) (V m c main_arg1)) j ≠ 0#32 := fun j => ne_zero_of_pos (widths_pos _ _)
  unfold ReferenceIdeal.Hand.ends
  rw [span_widths, ← words2, ← words3, V_v39, starts_eq, V_v35, V_v34, V_v33, V_v32, V_v30, V_v29, V_v28, V_v27, V_v26, V_v5, rem1_eq _ hy, rem1_eq _ hy, rem10_eq _ hy, rem10_eq _ hy, rem10_eq _ hy, V_c10, V_c1, V_c2]
  rfl

/-- The bands' starts and ends are the reference's. -/
theorem bands_lo : V m c main_c_3 = ReferenceIdeal.Hand.fs := by rw [V_c3, words4]
/-- and their ends. -/
theorem bands_hi : V m c main_c_4 = ReferenceIdeal.Hand.fe := by rw [V_c4, words5]; rfl

end Cert.KernelIdeal.Hand
-- ==== Proof.Mask.lean ====
module
public import proofs.«01_k».proof.Proof.Out

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-! ## The stored block, entry by entry -/

/-- Four words, one for each sample, -/
abbrev key (a b c d : BitVec 32) : IVec S4x1x1 32 :=
  shapeCast S4x1x1 (concatenate S4 0 [⟨S1, broadcast S1 a⟩, ⟨S1, broadcast S1 b⟩, ⟨S1, broadcast S1 c⟩, ⟨S1, broadcast S1 d⟩] concatenates_S1_S1_S1_S1_S4_d0) shapeCasts_S4_S4x1x1
/-- repeated along the rows -/
def keyF (a b c d : BitVec 32) : IVec S4x128x1 32 := broadcastTo S4x128x1 (key a b c d) broadcasts_S4x1x1_S4x128x1
/-- or along the times. -/
def keyT (a b c d : BitVec 32) : IVec S4x1x4096 32 := broadcastTo S4x1x4096 (key a b c d) broadcasts_S4x1x1_S4x1x4096

/-- The word of sample `r`, -/
theorem key_apply (a b c d : BitVec 32) (r : Fin 4) : key a b c d (ix3 r 0 0 : S4x1x1.Idx) = (![a, b, c, d] : Fin 4 → BitVec 32) r := by
  fin_cases r <;> rfl

/-- at every row, -/
theorem keyF_apply (a b c d : BitVec 32) (r : Fin 4) (f : Fin 128) :
    keyF a b c d (ix3 r f 0 : S4x128x1.Idx) = (![a, b, c, d] : Fin 4 → BitVec 32) r := by
  rw [← key_apply]
  refine broadcastTo_apply _ _ _ _ fun a => ?_
  fin_cases a <;> rfl

/-- and at every time. -/
theorem keyT_apply (a b c d : BitVec 32) (r : Fin 4) (t : Fin 4096) :
    keyT a b c d (ix3 r 0 t : S4x1x4096.Idx) = (![a, b, c, d] : Fin 4 → BitVec 32) r := by
  rw [← key_apply]
  refine broadcastTo_apply _ _ _ _ fun a => ?_
  fin_cases a <;> rfl

/-- Whether the position `p` is in `[s, e)`. -/
def hitW (p s e : BitVec 32) : BitVec 1 := IntOp.andi (IntOp.cmpi .sge p s) (IntOp.cmpi .slt p e)

variable (I : Inp F) (i : grid0.Coords)

/-- The rows in band `k`. -/
def Inp.hitF (k : ℕ) : IVec S4x128x1 1 :=
  andi (cmpi .sge (broadcastTo S4x128x1 rows broadcasts_S1x128x1_S4x128x1) (four keyF I.t1 i k))
    (cmpi .slt (broadcastTo S4x128x1 rows broadcasts_S1x128x1_S4x128x1) (four keyF I.t2 i k))
/-- The times in interval `k`. -/
def Inp.hitT (k : ℕ) : IVec S4x1x4096 1 :=
  andi (cmpi .sge (broadcastTo S4x1x4096 times broadcasts_S1x1x4096_S4x1x4096) (four keyT I.t3 i k))
    (cmpi .slt (broadcastTo S4x1x4096 times broadcasts_S1x1x4096_S4x1x4096) (four keyT I.t4 i k))

/-- A table's entries of the step's four samples, at a row, -/
theorem four_keyF {n : ℕ} (t : (⟨⟨2, ![128, n]⟩, .i32⟩ : BufTy).Contents (Elt F)) (k : ℕ) (r : Fin 4) (f : Fin 128) :
    four keyF t i k (ix3 r f 0 : S4x128x1.Idx) = tb t (4 * (i 0).val + r.val) k := by
  unfold four; rw [keyF_apply]; fin_cases r <;> rfl
/-- and at a time. -/
theorem four_keyT {n : ℕ} (t : (⟨⟨2, ![128, n]⟩, .i32⟩ : BufTy).Contents (Elt F)) (k : ℕ) (r : Fin 4) (s : Fin 4096) :
    four keyT t i k (ix3 r 0 s : S4x1x4096.Idx) = tb t (4 * (i 0).val + r.val) k := by
  unfold four; rw [keyT_apply]; fin_cases r <;> rfl

/-- The row number at a row, -/
theorem rows_apply (r : Fin 4) (f : Fin 128) : broadcastTo S4x128x1 rows broadcasts_S1x128x1_S4x128x1 (ix3 r f 0 : S4x128x1.Idx) = BitVec.ofNat 32 f.val := by
  rw [broadcastTo_apply rows _ _ (ix3 0 f 0 : S1x128x1.Idx) (fun a => by fin_cases a <;> rfl)]
  exact iota_single_apply ..
/-- and the time at a time. -/
theorem times_apply (r : Fin 4) (s : Fin 4096) : broadcastTo S4x1x4096 times broadcasts_S1x1x4096_S4x1x4096 (ix3 r 0 s : S4x1x4096.Idx) = BitVec.ofNat 32 s.val := by
  rw [broadcastTo_apply times _ _ (ix3 0 0 s : S1x1x4096.Idx) (fun a => by fin_cases a <;> rfl)]
  exact iota_single_apply ..

/-- The test of a row against a band's ends, -/
theorem hitF_apply (k : ℕ) (r : Fin 4) (f : Fin 128) : I.hitF i k (ix3 r f 0 : S4x128x1.Idx)
    = hitW (BitVec.ofNat 32 f.val) (tb I.t1 (4 * (i 0).val + r.val) k) (tb I.t2 (4 * (i 0).val + r.val) k) := by
  rw [← four_keyF (F := F) i I.t1 k r f, ← four_keyF (F := F) i I.t2 k r f, ← rows_apply r f]; rfl
/-- and of a time against an interval's. -/
theorem hitT_apply (k : ℕ) (r : Fin 4) (s : Fin 4096) : I.hitT i k (ix3 r 0 s : S4x1x4096.Idx)
    = hitW (BitVec.ofNat 32 s.val) (tb I.t3 (4 * (i 0).val + r.val) k) (tb I.t4 (4 * (i 0).val + r.val) k) := by
  rw [← four_keyT (F := F) i I.t3 k r s, ← four_keyT (F := F) i I.t4 k r s, ← times_apply r s]; rfl

/-- The bands' rows are two tests joined, -/
theorem fmask_eq : I.fmask i = ori (ori (broadcast S4x128x1 0#1) (I.hitF i 0)) (I.hitF i 1) := rfl

/-- The times in the first `n` intervals. -/
def Inp.hits : ℕ → IVec S4x1x4096 1
  | 0 => broadcast S4x1x4096 0#1
  | n + 1 => ori (Inp.hits n) (I.hitT i n)

/-- and the intervals' times nine, -/
theorem tmask_eq : I.tmask8 i = I.hits i 9 := rfl

/-- A tested vector of zeros and ones. -/
abbrev zo {s : Shape} (c : IVec s 1) : FVec F s .f32 := select c (broadcast s (Scalar.ofBits .f32 0x00000000#32)) (broadcast s (Scalar.ofBits .f32 0x3F800000#32))

/-- so that the block stored is the slot times two masks. -/
theorem out_eq : I.out i = mulf (mulf (shapeCast S4x128x4096 (I.block (i 0)) shapeCasts_S1x4x128x4096_S4x128x4096)
      (broadcastTo S4x128x4096 (zo (F := F) (I.fmask i)) broadcasts_S4x128x1_S4x128x4096))
    (broadcastTo S4x128x4096 (zo (F := F) (I.hits i 10)) broadcasts_S4x1x4096_S4x128x4096) := rfl

/-- A scalar zero or one. -/
abbrev zoW (c : BitVec 1) : F .f32 := if c = 1#1 then FloatOps.ofBits .f32 0x00000000#32 else FloatOps.ofBits .f32 0x3F800000#32

/-- The stored block at an entry. -/
theorem out_apply (r : Fin 4) (f : Fin 128) (s : Fin 4096) : I.out i (ix3 r f s : S4x128x4096.Idx)
    = FloatOps.mulf (FloatOps.mulf (I.slotVal (i 0) (ix4 0 r f s : S2x4x128x4096.Idx)) (zoW (I.fmask i (ix3 r f 0 : S4x128x1.Idx)))) (zoW (I.hits i 10 (ix3 r 0 s : S4x1x4096.Idx))) := by
  have h1 : shapeCast S4x128x4096 (I.block (i 0)) shapeCasts_S1x4x128x4096_S4x128x4096 (ix3 r f s : S4x128x4096.Idx) = I.slotVal (i 0) (ix4 0 r f s : S2x4x128x4096.Idx) :=
    shapeCast_dropUnit_apply ![4, 128, 4096] _ _ _
  have h2 : broadcastTo S4x128x4096 (zo (F := F) (I.fmask i)) broadcasts_S4x128x1_S4x128x4096 (ix3 r f s : S4x128x4096.Idx) = zoW (I.fmask i (ix3 r f 0 : S4x128x1.Idx)) :=
    (broadcastTo_apply _ _ _ (ix3 r f 0 : S4x128x1.Idx) (fun a => by fin_cases a <;> rfl)).trans rfl
  have h3 : broadcastTo S4x128x4096 (zo (F := F) (I.hits i 10)) broadcasts_S4x1x4096_S4x128x4096 (ix3 r f s : S4x128x4096.Idx) = zoW (I.hits i 10 (ix3 r 0 s : S4x1x4096.Idx)) :=
    (broadcastTo_apply _ _ _ (ix3 r 0 s : S4x1x4096.Idx) (fun a => by fin_cases a <;> rfl)).trans rfl
  rw [← h1, ← h2, ← h3, out_eq]; rfl

/-- A disjunction is set iff one of its bits is. -/
theorem ori_one (a b : BitVec 1) : IntOp.ori a b = 1#1 ↔ a = 1#1 ∨ b = 1#1 := by
  revert a b; decide

/-- A time is tested iff one of the intervals has it. -/
theorem hits_iff (n : ℕ) (j : S4x1x4096.Idx) : I.hits i n j = 1#1 ↔ ∃ k < n, I.hitT i k j = 1#1 := by
  induction n with
  | zero => exact ⟨fun h => absurd (show (0#1 : BitVec 1) = 1#1 from h) (by decide), fun ⟨k, h, _⟩ => absurd h (by omega)⟩
  | succ n ih =>
    rw [show I.hits i (n + 1) j = IntOp.ori (I.hits i n j) (I.hitT i n j) from rfl, ori_one, ih]
    constructor
    · rintro (⟨k, h, e⟩ | e)
      · exact ⟨k, by omega, e⟩
      · exact ⟨n, by omega, e⟩
    · rintro ⟨k, h, e⟩
      by_cases hk : k = n
      · exact Or.inr (hk ▸ e)
      · exact Or.inl ⟨k, by omega, e⟩

/-- A row is tested iff one of the bands has it. -/
theorem fmask_iff (j : S4x128x1.Idx) : I.fmask i j = 1#1 ↔ ∃ k < 2, I.hitF i k j = 1#1 := by
  rw [show I.fmask i j = IntOp.ori (IntOp.ori 0#1 (I.hitF i 0 j)) (I.hitF i 1 j) from rfl, ori_one, ori_one]
  constructor
  · rintro ((e | e) | e)
    · exact absurd e (by decide)
    · exact ⟨0, by omega, e⟩
    · exact ⟨1, by omega, e⟩
  · rintro ⟨k, h, e⟩
    interval_cases k
    · exact Or.inl (Or.inr e)
    · exact Or.inr e

/-- A group's test over a word: both bounds, as integers. -/
theorem hitW_iff (p s e : BitVec 32) : hitW p s e = 1#1 ↔ s.toInt ≤ p.toInt ∧ p.toInt < e.toInt := by
  have h : ∀ a b : Bool, IntOp.andi (BitVec.ofBool a) (BitVec.ofBool b) = 1#1 ↔ a = true ∧ b = true := by decide
  exact (h _ _).trans (by rw [BitVec.sle_iff_toInt_le, BitVec.slt_iff_toInt_lt])

/-- A group is covered iff one of the two bands has both its ends. -/
theorem covW_iff (a b c d lo hi : BitVec 32) : covW a b c d lo hi = 1#1 ↔
    (a.toInt ≤ lo.toInt ∧ hi.toInt ≤ b.toInt) ∨ (c.toInt ≤ lo.toInt ∧ hi.toInt ≤ d.toInt) := by
  have h : ∀ a b c d : Bool, Scalar.ori (Scalar.ori 0#1 (Scalar.andi (BitVec.ofBool a) (BitVec.ofBool b))) (Scalar.andi (BitVec.ofBool c) (BitVec.ofBool d)) = 1#1
      ↔ (a = true ∧ b = true) ∨ (c = true ∧ d = true) := by decide
  exact (h _ _ _ _).trans (by simp only [BitVec.sle_iff_toInt_le])

/-- A small number's word has its value. -/
theorem toInt_small {n : ℕ} (h : n < 2 ^ 31) : (BitVec.ofNat 32 n).toInt = n := by
  rw [BitVec.toInt_eq_toNat_cond, BitVec.toNat_ofNat, Nat.mod_eq_of_lt (by omega)]; simp; omega

/-- A covered group's rows all lie in a band. -/
theorem cov_fmask (r : Fin 4) (f : Fin 128) (h : I.cov (4 * (i 0).val + r.val) (f.val / 8) = 1#1) : I.fmask i (ix3 r f 0 : S4x128x1.Idx) = 1#1 := by
  have hf := f.isLt
  rw [fmask_iff]
  unfold Inp.cov at h
  rw [covW_iff, toInt_small (by omega), toInt_small (by omega)] at h
  rcases h with h | h
  · refine ⟨0, by omega, ?_⟩
    rw [hitF_apply, hitW_iff, toInt_small (by omega)]; omega
  · refine ⟨1, by omega, ?_⟩
    rw [hitF_apply, hitW_iff, toInt_small (by omega)]; omega

end Cert.KernelIdeal.Hand
-- ==== Proof.Final.lean ====
module
public import proofs.«01_k».proof.Proof.Mask
public import proofs.«01_k».proof.Proof.RefValue
public import Idealize.ShloMosaic.PureOps.Reduce

@[expose] public section

noncomputable section

namespace Cert.ReferenceIdeal.Hand

open Cert.ReferenceIdeal Cert.ReferenceIdeal.Gen
open Idealize.ShloMosaic Idealize.ShloMosaic.TcCoe Idealize.ShloMosaic.ValueIdx
open Cert.KernelIdeal.Hand (hitW ori_one)

/-! ## The reference, entry by entry -/

/-- Whether a row lies in a band, as the reference tests it, -/
theorem inF_apply (s e : IVec S128x2 32) (b : Fin 128) (k : Fin 2) (f : Fin 128) :
    inF s e (ix3 b k f : S128x2x128.Idx) = hitW (BitVec.ofNat 32 f.val) (s (ix2 b k)) (e (ix2 b k)) := by
  have h (t : IVec S128x2 32) : wideF t (ix3 b k f : S128x2x128.Idx) = t (ix2 b k) :=
    (broadcastInDim_apply _ _ _ _ (ix3 b k 0 : S128x2x1.Idx) (fun a => by fin_cases a <;> rfl)).trans
      (broadcastInDim_apply _ _ _ _ (ix2 b k : S128x2.Idx) (fun a => by fin_cases a <;> rfl))
  have h' : posF (ix3 b k f : S128x2x128.Idx) = BitVec.ofNat 32 f.val :=
    (broadcastInDim_apply _ _ _ _ (ix3 0 0 f : S1x1x128.Idx) (fun a => by fin_cases a <;> rfl)).trans
      (broadcastInDim_apply _ _ _ _ (ix1 f : S128.Idx) (fun a => by fin_cases a <;> rfl))
  rw [← h s, ← h e, ← h']; rfl

/-- and whether a time lies in an interval. -/
theorem inT_apply (s e : IVec S128x10 32) (b : Fin 128) (k : Fin 10) (t : Fin 4096) :
    inT s e (ix3 b k t : S128x10x4096.Idx) = hitW (BitVec.ofNat 32 t.val) (s (ix2 b k)) (e (ix2 b k)) := by
  have h (x : IVec S128x10 32) : wideT x (ix3 b k t : S128x10x4096.Idx) = x (ix2 b k) :=
    (broadcastInDim_apply _ _ _ _ (ix3 b k 0 : S128x10x1.Idx) (fun a => by fin_cases a <;> rfl)).trans
      (broadcastInDim_apply _ _ _ _ (ix2 b k : S128x10.Idx) (fun a => by fin_cases a <;> rfl))
  have h' : posT (ix3 b k t : S128x10x4096.Idx) = BitVec.ofNat 32 t.val :=
    (broadcastInDim_apply _ _ _ _ (ix3 0 0 t : S1x1x4096.Idx) (fun a => by fin_cases a <;> rfl)).trans
      (broadcastInDim_apply _ _ _ _ (ix1 t : S4096.Idx) (fun a => by fin_cases a <;> rfl))
  rw [← h s, ← h e, ← h']; rfl

/-- A row is masked iff one of the two bands has it. -/
theorem anyF_iff (s e : IVec S128x2 32) (b f : Fin 128) :
    anyF s e (ix2 b f : S128x128.Idx) = 1#1 ↔ ∃ k : Fin 2, hitW (BitVec.ofNat 32 f.val) (s (ix2 b k)) (e (ix2 b k)) = 1#1 := by
  have h : S128x2x128.Reduces [1] S128x128 := by decide
  unfold anyF
  rw [Host.reduce_eq_fold_single IntOp.ori (inF s e) _ _ h,
    Finset.fold_op_rel_iff_or (r := fun (_ y : BitVec 1) => y = 1#1) (c := 0#1) (fun {x y z} => ori_one y z)]
  have hl (k : Fin 2) : h.lift (ix2 b f) k = (ix3 b k f : S128x2x128.Idx) := by
    funext a; fin_cases a <;> rfl
  have hv (k : Fin 2) : (inF s e ∘ h.lift (ix2 b f)) k = hitW (BitVec.ofNat 32 f.val) (s (ix2 b k)) (e (ix2 b k)) :=
    (congrArg (inF s e) (hl k)).trans (inF_apply s e b k f)
  constructor
  · rintro (h0 | ⟨k, -, hk⟩)
    · exact absurd (show (0#1 : BitVec 1) = 1#1 from h0) (by decide)
    · exact ⟨k, (hv k).symm.trans hk⟩
  · rintro ⟨k, hk⟩
    exact Or.inr ⟨k, Finset.mem_univ _, (hv k).trans hk⟩

/-- A time is masked iff one of the ten intervals has it. -/
theorem anyT_iff (s e : IVec S128x10 32) (b : Fin 128) (t : Fin 4096) :
    anyT s e (ix2 b t : S128x4096.Idx) = 1#1 ↔ ∃ k : Fin 10, hitW (BitVec.ofNat 32 t.val) (s (ix2 b k)) (e (ix2 b k)) = 1#1 := by
  have h : S128x10x4096.Reduces [1] S128x4096 := by decide
  unfold anyT
  rw [Host.reduce_eq_fold_single IntOp.ori (inT s e) _ _ h,
    Finset.fold_op_rel_iff_or (r := fun (_ y : BitVec 1) => y = 1#1) (c := 0#1) (fun {x y z} => ori_one y z)]
  have hl (k : Fin 10) : h.lift (ix2 b t) k = (ix3 b k t : S128x10x4096.Idx) := by
    funext a; fin_cases a <;> rfl
  have hv (k : Fin 10) : (inT s e ∘ h.lift (ix2 b t)) k = hitW (BitVec.ofNat 32 t.val) (s (ix2 b k)) (e (ix2 b k)) :=
    (congrArg (inT s e) (hl k)).trans (inT_apply s e b k t)
  constructor
  · rintro (h0 | ⟨k, -, hk⟩)
    · exact absurd (show (0#1 : BitVec 1) = 1#1 from h0) (by decide)
    · exact ⟨k, (hv k).symm.trans hk⟩
  · rintro ⟨k, hk⟩
    exact Or.inr ⟨k, Finset.mem_univ _, (hv k).trans hk⟩

/-- The masked argument at an entry. -/
theorem masked_apply {F : FTy → Type} [FloatOps F] (f : IVec S128x128 1) (t : IVec S128x4096 1) (x : FVec F S128x128x4096 .f32) (b r : Fin 128) (s : Fin 4096) :
    masked f t x (ix3 b r s : S128x128x4096.Idx)
      = if f (ix2 b r) = 1#1 ∨ t (ix2 b s) = 1#1 then FloatOps.ofBits .f32 0x00000000#32 else x (ix3 b r s) := by
  have h1 : broadcastInDim S128x128x4096 ![0, 1, 2] bcast_S128x128x1_S128x128x4096_0_1_2 (broadcastInDim S128x128x1 ![0, 1] bcast_S128x128_S128x128x1_0_1 f) (ix3 b r s) = f (ix2 b r) :=
    (broadcastInDim_apply _ _ _ _ (ix3 b r 0 : S128x128x1.Idx) (fun a => by fin_cases a <;> rfl)).trans
      (broadcastInDim_apply _ _ _ _ (ix2 b r : S128x128.Idx) (fun a => by fin_cases a <;> rfl))
  have h2 : broadcastInDim S128x128x4096 ![0, 1, 2] bcast_S128x1x4096_S128x128x4096_0_1_2 (broadcastInDim S128x1x4096 ![0, 2] bcast_S128x4096_S128x1x4096_0_2 t) (ix3 b r s) = t (ix2 b s) :=
    (broadcastInDim_apply _ _ _ _ (ix3 b 0 s : S128x1x4096.Idx) (fun a => by fin_cases a <;> rfl)).trans
      (broadcastInDim_apply _ _ _ _ (ix2 b s : S128x4096.Idx) (fun a => by fin_cases a <;> rfl))
  refine Eq.trans (b := if IntOp.ori (f (ix2 b r)) (t (ix2 b s)) = 1#1 then FloatOps.ofBits .f32 0x00000000#32 else x (ix3 b r s)) ?_ (if_congr (ori_one _ _) rfl rfl)
  rw [← h1, ← h2]; rfl

end Cert.ReferenceIdeal.Hand

namespace Cert.KernelIdeal.Hand

open Cert.KernelIdeal Cert.KernelIdeal.Gen
open Idealize.ShloMosaic Idealize.ShloMosaic.TcCoe Idealize.ShloMosaic.ValueIdx

/-! ## The stored block is the reference's -/

/-- A table's entry inside its bounds. -/
theorem tb_eq {F : FTy → Type} [FloatOps F] {n : ℕ} (t : (⟨⟨2, ![128, n]⟩, .i32⟩ : BufTy).Contents (Elt F)) (b : Fin 128) (k : Fin n) :
    tb t b.val k.val = t (ix2 b k) := by
  unfold tb
  rw [dif_pos ⟨b.isLt, k.isLt⟩]
  exact congrArg t (by funext a; fin_cases a <;> rfl)

/-- The word of a masked element is zero, -/
theorem zero_word : (Ideal.ofBits .f32 0x00000000#32 : EReal) = 0 := by simp [Ideal.ofBits, Ideal.ieee]
/-- and that of a kept one is one. -/
theorem one_word : (Ideal.ofBits .f32 0x3F800000#32 : EReal) = 1 := by
  simp [Ideal.ofBits, Ideal.ieee, -EReal.coe_mul]; norm_num

/-- Two masks of zeros and ones leave the value or nothing. -/
theorem two_masks (x : EReal) (p q : BitVec 1) : (FloatOps.mulf (FloatOps.mulf (x : Ideal .f32) (zoW p)) (zoW q) : Ideal .f32)
    = if p = 1#1 ∨ q = 1#1 then (0 : EReal) else x := by
  show x * (if p = 1#1 then Ideal.ofBits .f32 0x00000000#32 else Ideal.ofBits .f32 0x3F800000#32)
    * (if q = 1#1 then Ideal.ofBits .f32 0x00000000#32 else Ideal.ofBits .f32 0x3F800000#32) = _
  rw [zero_word, one_word]
  by_cases hp : p = 1#1 <;> by_cases hq : q = 1#1 <;> simp [hp, hq]

variable (I : Inp Ideal) (i : grid0.Coords)

/-- Row `r` of step `i`'s four samples. -/
def sample (r : Fin 4) : Fin 128 := ⟨4 * (i 0).val + r.val, by have : (i 0).val < 32 := (i 0).isLt; omega⟩

/-- The block that step `i` stores is the argument masked by the tables. -/
theorem out_masked (r : Fin 4) (f : Fin 128) (s : Fin 4096) : I.out i (ix3 r f s : S4x128x4096.Idx)
    = ReferenceIdeal.Hand.masked (F := Ideal) (ReferenceIdeal.Hand.anyF I.t1 I.t2) (ReferenceIdeal.Hand.anyT I.t3 I.t4) I.x (ix3 (sample i r) f s) := by
  have hF : I.fmask i (ix3 r f 0 : S4x128x1.Idx) = 1#1 ↔ ReferenceIdeal.Hand.anyF I.t1 I.t2 (ix2 (sample i r) f) = 1#1 := by
    rw [fmask_iff, ReferenceIdeal.Hand.anyF_iff]
    constructor
    · rintro ⟨k, hk, h⟩
      rw [hitF_apply] at h
      exact ⟨⟨k, hk⟩, by rw [← tb_eq (F := Ideal) I.t1, ← tb_eq (F := Ideal) I.t2]; exact h⟩
    · rintro ⟨k, h⟩
      rw [← tb_eq (F := Ideal) I.t1, ← tb_eq (F := Ideal) I.t2] at h
      exact ⟨k.val, k.isLt, by rw [hitF_apply]; exact h⟩
  have hT : I.hits i 10 (ix3 r 0 s : S4x1x4096.Idx) = 1#1 ↔ ReferenceIdeal.Hand.anyT I.t3 I.t4 (ix2 (sample i r) s) = 1#1 := by
    rw [hits_iff, ReferenceIdeal.Hand.anyT_iff]
    constructor
    · rintro ⟨k, hk, h⟩
      rw [hitT_apply] at h
      exact ⟨⟨k, hk⟩, by rw [← tb_eq (F := Ideal) I.t3, ← tb_eq (F := Ideal) I.t4]; exact h⟩
    · rintro ⟨k, h⟩
      rw [← tb_eq (F := Ideal) I.t3, ← tb_eq (F := Ideal) I.t4] at h
      exact ⟨k.val, k.isLt, by rw [hitT_apply]; exact h⟩
  rw [out_apply, ReferenceIdeal.Hand.masked_apply, two_masks]
  refine (if_congr (or_congr hF hT) rfl rfl).trans ?_
  by_cases h : ReferenceIdeal.Hand.anyF I.t1 I.t2 (ix2 (sample i r) f) = 1#1 ∨ ReferenceIdeal.Hand.anyT I.t3 I.t4 (ix2 (sample i r) s) = 1#1
  · rw [if_pos h, if_pos h]; exact zero_word.symm
  · rw [if_neg h, if_neg h]
    have hc : ¬ I.cov (4 * (i 0).val + r.val) (f.val / 8) = 1#1 := fun hc => h (Or.inl (hF.mp (cov_fmask I i r f hc)))
    refine (if_neg hc).trans (congrArg I.x ?_)
    funext a; fin_cases a <;> rfl

end Cert.KernelIdeal.Hand
-- ==== Proof.Value.lean ====
module
public import proofs.«01_k».proof.Proof.Draw
public import proofs.«01_k».proof.Proof.Final
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.ValueIdx Idealize.SL.Sem

/-! ## The whole result -/

variable (m : (ℓ : Loc nD τ sig) → Buf (Elt Ideal) ℓ) (c : Dev nD)

/-- The reference's result of lengths and a value. -/
def wanted (l : IVec S128 32) (x : FVec Ideal S128x128x4096 .f32) : FVec Ideal S128x128x4096 .f32 :=
  ReferenceIdeal.Hand.masked (F := Ideal) (ReferenceIdeal.Hand.anyF ReferenceIdeal.Hand.fs ReferenceIdeal.Hand.fe)
    (ReferenceIdeal.Hand.anyT (ReferenceIdeal.Hand.starts (F := Ideal) l) (ReferenceIdeal.Hand.ends (F := Ideal) l)) x

/-- The reference's result of the kernel's arguments. -/
def want : FVec Ideal S128x128x4096 .f32 := wanted (m ((c.tc : Thread nD τ).loc main_arg1)) (m ((c.tc : Thread nD τ).loc main_arg0))

/-- It is the argument masked by the tables the kernel's steps read. -/
theorem want_eq : ReferenceIdeal.Hand.masked (F := Ideal) (ReferenceIdeal.Hand.anyF (inp m c).t1 (inp m c).t2) (ReferenceIdeal.Hand.anyT (inp m c).t3 (inp m c).t4) (inp m c).x = want m c := by
  show ReferenceIdeal.Hand.masked (F := Ideal) (ReferenceIdeal.Hand.anyF (V m c main_c_3) (V m c main_c_4)) (ReferenceIdeal.Hand.anyT (V m c main_v24) (V m c main_v39)) (V m c main_arg0) = _
  rw [bands_lo, bands_hi, starts_eq, ends_eq, V_arg0, V_arg1]
  rfl

/-- Where the block of step `t` lies: four samples on the first axis, whole on the others. -/
theorem index_eq (t : Fin (cfg m 0).N) : ((cfg m 0).win 0).index t = ![t.val, 0, 0] := by
  exact (by decide +kernel : ∀ t : Fin grid0.N, cc0_transform_1 (grid0.coords t) = ![t.val, 0, 0]) t

/-- Tables of zeros: where the blocks lie does not depend on the tables. -/
def zeros : (pcfg0 (F := Ideal)).Adm := ⟨fun | 0 => fun _ => (0#32 : BitVec 32) | 1 => fun _ => (0#32 : BitVec 32) | 2 => fun _ => (0#32 : BitVec 32) | 3 => fun _ => (0#32 : BitVec 32), trivial⟩

/-- The blocks of all steps fill the result. -/
theorem covers : ((cfg m 0).win 0).Covers :=
  show (((pcfg0 (F := Ideal)).at zeros).win 0).Covers by decide +kernel

/-- The result after the run is the reference's. -/
theorem arr_eq : (dats m 0 c).arrAt 0 (cfg m 0).N = want m c := by
  refine (dats m 0 c).arrAt_eq_of_covers 0 _ (covers m) fun t hf y => ?_
  obtain ⟨z, hz⟩ : ∃ z : S4x128x4096.Idx, z = y := ⟨y, rfl⟩
  have hz' : z = (ix3 (z 0 : Fin 4) (z 1 : Fin 128) (z 2 : Fin 4096) : S4x128x4096.Idx) := eq_ix3 (n0 := 4) (n1 := 128) (n2 := 4096) z
  refine (congrArg ((inp m c).out (grid0.coords t)) (hz.symm.trans hz')).trans ((out_masked (inp m c) (grid0.coords t) (z 0 : Fin 4) (z 1 : Fin 128) (z 2 : Fin 4096)).trans ?_)
  rw [want_eq]
  refine congrArg (want m c) ?_
  funext a
  apply Fin.ext
  have e : ((((cfg m 0).win 0).rect t).emb y a : ℕ) = ((cfg m 0).win 0).index t a * ((cfg m 0).win 0).size a + y a := Pipeline.Window.rect_emb_val _ _ _ _
  refine Eq.trans ?_ e.symm
  rw [index_eq, ← hz]
  have h0 := coords_val t
  fin_cases a
  · show 4 * (grid0.coords t 0).val + (z 0).val = t.val * 4 + (z 0).val
    rw [h0, Nat.mul_comm]
  · show (z 1).val = 0 * 128 + (z 1).val
    omega
  · show (z 2).val = 0 * 4096 + (z 2).val
    omega

/-- The two programs compute the same result of the same arguments. -/
theorem same_result (g : Dev nD → PrngReg) (m' : (ℓ : Loc ReferenceIdeal.nD ReferenceIdeal.τ ReferenceIdeal.sig) → Buf (Elt Ideal) ℓ) (g' : Dev ReferenceIdeal.nD → PrngReg)
    (h : ∀ c : Dev nD, m' ((c.tc : Thread ReferenceIdeal.nD ReferenceIdeal.τ).loc ReferenceIdeal.main_arg0) = m ((c.tc : Thread nD τ).loc main_arg0)
      ∧ m' ((c.tc : Thread ReferenceIdeal.nD ReferenceIdeal.τ).loc ReferenceIdeal.main_arg1) = m ((c.tc : Thread nD τ).loc main_arg1)) :
    ∃ v : (c : Dev nD) → Buf (Elt Ideal) ((c.tc : Thread nD τ).loc main_v40),
      θ_run (defs (F := Ideal)) (onTc (τ := τ) (main (F := Ideal))) ⟨m, fun _ => 0, g⟩ (fun r => ∀ c : Dev nD,
        r.2.mem ((c.tc : Thread nD τ).loc main_v40) = v c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ θ_run (ReferenceIdeal.defs (F := Ideal)) (onTc (τ := ReferenceIdeal.τ) (ReferenceIdeal.main (F := Ideal))) ⟨m', fun _ => 0, g'⟩ (fun r => ∀ c : Dev ReferenceIdeal.nD,
        r.2.mem ((c.tc : Thread ReferenceIdeal.nD ReferenceIdeal.τ).loc ReferenceIdeal.main_v114) = v c
        ∧ r.2.mem ((c.tc : Thread ReferenceIdeal.nD ReferenceIdeal.τ).loc ReferenceIdeal.main_arg0) = m' ((c.tc : Thread ReferenceIdeal.nD ReferenceIdeal.τ).loc ReferenceIdeal.main_arg0)
        ∧ r.2.mem ((c.tc : Thread ReferenceIdeal.nD ReferenceIdeal.τ).loc ReferenceIdeal.main_arg1) = m' ((c.tc : Thread ReferenceIdeal.nD ReferenceIdeal.τ).loc ReferenceIdeal.main_arg1)) := by
  refine ⟨fun c => want m c, ?_, ?_⟩
  · refine (θ_run defs _ _).mono (fun r hr c => ⟨?_, ?_, ?_⟩) (run_main m g)
    · exact ((hr.1 c).1 0).trans (arr_eq m c)
    · exact ((hr.1 c).2 main_arg0 (Pipeline.mem_restRefs_of main_arg0 (by decide) (show ∀ w : Fin 1, (spec0 w).arr.view.ref ≠ main_arg0 by decide))).trans (V_arg0 m c)
    · exact ((hr.1 c).2 main_arg1 (Pipeline.mem_restRefs_of main_arg1 (by decide) (show ∀ w : Fin 1, (spec0 w).arr.view.ref ≠ main_arg1 by decide))).trans (V_arg1 m c)
  · refine (θ_run ReferenceIdeal.defs _ _).mono (fun r hr c => ⟨?_, (hr c).2⟩) (ReferenceIdeal.Value.run m' g')
    refine (hr c).1.trans ((ReferenceIdeal.Hand.res_eq m' c).trans ?_)
    exact congrArg₂ wanted (h c).2 (h c).1

end Cert.KernelIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Word
public import proofs.«01_k».proof.Proof.Ref
public import proofs.«01_k».proof.Proof.Value

@[expose] public section

noncomputable section

namespace Cert.Proof

open Idealize.ShloMosaic Idealize.SL.Sem Cert.Kernel

/-- The claims, each by the theorem that proves it. -/
theorem claim : Cert.Claim := ⟨Cert.Kernel.Gen.facts, Cert.KernelIdeal.Gen.facts, Cert.ReferenceIdeal.Gen.facts,
  fun m g _ => Cert.Kernel.Hand.quiescent m g,
  fun m g _ => Cert.KernelIdeal.Hand.quiescent m g,
  fun m g _ => Cert.ReferenceIdeal.Hand.quiescent m g,
  trivial,
  fun m g m' g' _ h => Cert.KernelIdeal.Hand.same_result m g m' g' h⟩

end Cert.Proof

end
